-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def Pre_QuantO (m : (ℓ : Loc Cert.QuantO.nD Cert.QuantO.τ Cert.QuantO.sig) → Buf (Elt Bits) ℓ) : Prop :=
  True

def Pre_QuantOIdeal (m : (ℓ : Loc Cert.QuantOIdeal.nD Cert.QuantOIdeal.τ Cert.QuantOIdeal.sig) → Buf (Elt Ideal) ℓ) : Prop :=
  True

def Pre_QuantOReferenceIdeal (m : (ℓ : Loc Cert.QuantOReferenceIdeal.nD Cert.QuantOReferenceIdeal.τ Cert.QuantOReferenceIdeal.sig) → Buf (Elt Ideal) ℓ) : Prop :=
  True

def Pre_QuantDo (m : (ℓ : Loc Cert.QuantDo.nD Cert.QuantDo.τ Cert.QuantDo.sig) → Buf (Elt Bits) ℓ) : Prop :=
  True

def Pre_QuantDoIdeal (m : (ℓ : Loc Cert.QuantDoIdeal.nD Cert.QuantDoIdeal.τ Cert.QuantDoIdeal.sig) → Buf (Elt Ideal) ℓ) : Prop :=
  True

def Pre_QuantDoReferenceIdeal (m : (ℓ : Loc Cert.QuantDoReferenceIdeal.nD Cert.QuantDoReferenceIdeal.τ Cert.QuantDoReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3))
      ∧ r.2.sem = fun _ => 0)

def quiescent_QuantO [hQuantO : Cert.QuantO.Facts] : Prop :=
  ∀ (m : (ℓ : Loc Cert.QuantO.nD Cert.QuantO.τ Cert.QuantO.sig) → Buf (Elt Bits) ℓ) (g : Dev Cert.QuantO.nD → PrngReg), Pre_QuantO m →
    θ_run (Cert.QuantO.defs (F := Bits)) (onTc (τ := Cert.QuantO.τ) (Cert.QuantO.main (F := Bits))) ⟨m, fun _ => 0, g⟩ (fun r => (∀ c : Dev Cert.QuantO.nD,
      r.2.mem ((c.tc : Thread Cert.QuantO.nD Cert.QuantO.τ).loc Cert.QuantO.main_arg0) = m ((c.tc : Thread Cert.QuantO.nD Cert.QuantO.τ).loc Cert.QuantO.main_arg0)
      ∧ r.2.mem ((c.tc : Thread Cert.QuantO.nD Cert.QuantO.τ).loc Cert.QuantO.main_arg1) = m ((c.tc : Thread Cert.QuantO.nD Cert.QuantO.τ).loc Cert.QuantO.main_arg1))
      ∧ r.2.sem = fun _ => 0)

def quiescent_QuantOIdeal [hQuantOIdeal : Cert.QuantOIdeal.Facts] : Prop :=
  ∀ (m : (ℓ : Loc Cert.QuantOIdeal.nD Cert.QuantOIdeal.τ Cert.QuantOIdeal.sig) → Buf (Elt Ideal) ℓ) (g : Dev Cert.QuantOIdeal.nD → PrngReg), Pre_QuantOIdeal m →
    θ_run (Cert.QuantOIdeal.defs (F := Ideal)) (onTc (τ := Cert.QuantOIdeal.τ) (Cert.QuantOIdeal.main (F := Ideal))) ⟨m, fun _ => 0, g⟩ (fun r => (∀ c : Dev Cert.QuantOIdeal.nD,
      r.2.mem ((c.tc : Thread Cert.QuantOIdeal.nD Cert.QuantOIdeal.τ).loc Cert.QuantOIdeal.main_arg0) = m ((c.tc : Thread Cert.QuantOIdeal.nD Cert.QuantOIdeal.τ).loc Cert.QuantOIdeal.main_arg0)
      ∧ r.2.mem ((c.tc : Thread Cert.QuantOIdeal.nD Cert.QuantOIdeal.τ).loc Cert.QuantOIdeal.main_arg1) = m ((c.tc : Thread Cert.QuantOIdeal.nD Cert.QuantOIdeal.τ).loc Cert.QuantOIdeal.main_arg1))
      ∧ r.2.sem = fun _ => 0)

def quiescent_QuantOReferenceIdeal [hQuantOReferenceIdeal : Cert.QuantOReferenceIdeal.Facts] : Prop :=
  ∀ (m : (ℓ : Loc Cert.QuantOReferenceIdeal.nD Cert.QuantOReferenceIdeal.τ Cert.QuantOReferenceIdeal.sig) → Buf (Elt Ideal) ℓ) (g : Dev Cert.QuantOReferenceIdeal.nD → PrngReg), Pre_QuantOReferenceIdeal m →
    θ_run (Cert.QuantOReferenceIdeal.defs (F := Ideal)) (onTc (τ := Cert.QuantOReferenceIdeal.τ) (Cert.QuantOReferenceIdeal.main (F := Ideal))) ⟨m, fun _ => 0, g⟩ (fun r => (∀ c : Dev Cert.QuantOReferenceIdeal.nD,
      r.2.mem ((c.tc : Thread Cert.QuantOReferenceIdeal.nD Cert.QuantOReferenceIdeal.τ).loc Cert.QuantOReferenceIdeal.main_arg0) = m ((c.tc : Thread Cert.QuantOReferenceIdeal.nD Cert.QuantOReferenceIdeal.τ).loc Cert.QuantOReferenceIdeal.main_arg0)
      ∧ r.2.mem ((c.tc : Thread Cert.QuantOReferenceIdeal.nD Cert.QuantOReferenceIdeal.τ).loc Cert.QuantOReferenceIdeal.main_arg1) = m ((c.tc : Thread Cert.QuantOReferenceIdeal.nD Cert.QuantOReferenceIdeal.τ).loc Cert.QuantOReferenceIdeal.main_arg1))
      ∧ r.2.sem = fun _ => 0)

def quiescent_QuantDo [hQuantDo : Cert.QuantDo.Facts] : Prop :=
  ∀ (m : (ℓ : Loc Cert.QuantDo.nD Cert.QuantDo.τ Cert.QuantDo.sig) → Buf (Elt Bits) ℓ) (g : Dev Cert.QuantDo.nD → PrngReg), Pre_QuantDo m →
    θ_run (Cert.QuantDo.defs (F := Bits)) (onTc (τ := Cert.QuantDo.τ) (Cert.QuantDo.main (F := Bits))) ⟨m, fun _ => 0, g⟩ (fun r => (∀ c : Dev Cert.QuantDo.nD,
      r.2.mem ((c.tc : Thread Cert.QuantDo.nD Cert.QuantDo.τ).loc Cert.QuantDo.main_arg0) = m ((c.tc : Thread Cert.QuantDo.nD Cert.QuantDo.τ).loc Cert.QuantDo.main_arg0)
      ∧ r.2.mem ((c.tc : Thread Cert.QuantDo.nD Cert.QuantDo.τ).loc Cert.QuantDo.main_arg1) = m ((c.tc : Thread Cert.QuantDo.nD Cert.QuantDo.τ).loc Cert.QuantDo.main_arg1))
      ∧ r.2.sem = fun _ => 0)

def quiescent_QuantDoIdeal [hQuantDoIdeal : Cert.QuantDoIdeal.Facts] : Prop :=
  ∀ (m : (ℓ : Loc Cert.QuantDoIdeal.nD Cert.QuantDoIdeal.τ Cert.QuantDoIdeal.sig) → Buf (Elt Ideal) ℓ) (g : Dev Cert.QuantDoIdeal.nD → PrngReg), Pre_QuantDoIdeal m →
    θ_run (Cert.QuantDoIdeal.defs (F := Ideal)) (onTc (τ := Cert.QuantDoIdeal.τ) (Cert.QuantDoIdeal.main (F := Ideal))) ⟨m, fun _ => 0, g⟩ (fun r => (∀ c : Dev Cert.QuantDoIdeal.nD,
      r.2.mem ((c.tc : Thread Cert.QuantDoIdeal.nD Cert.QuantDoIdeal.τ).loc Cert.QuantDoIdeal.main_arg0) = m ((c.tc : Thread Cert.QuantDoIdeal.nD Cert.QuantDoIdeal.τ).loc Cert.QuantDoIdeal.main_arg0)
      ∧ r.2.mem ((c.tc : Thread Cert.QuantDoIdeal.nD Cert.QuantDoIdeal.τ).loc Cert.QuantDoIdeal.main_arg1) = m ((c.tc : Thread Cert.QuantDoIdeal.nD Cert.QuantDoIdeal.τ).loc Cert.QuantDoIdeal.main_arg1))
      ∧ r.2.sem = fun _ => 0)

def quiescent_QuantDoReferenceIdeal [hQuantDoReferenceIdeal : Cert.QuantDoReferenceIdeal.Facts] : Prop :=
  ∀ (m : (ℓ : Loc Cert.QuantDoReferenceIdeal.nD Cert.QuantDoReferenceIdeal.τ Cert.QuantDoReferenceIdeal.sig) → Buf (Elt Ideal) ℓ) (g : Dev Cert.QuantDoReferenceIdeal.nD → PrngReg), Pre_QuantDoReferenceIdeal m →
    θ_run (Cert.QuantDoReferenceIdeal.defs (F := Ideal)) (onTc (τ := Cert.QuantDoReferenceIdeal.τ) (Cert.QuantDoReferenceIdeal.main (F := Ideal))) ⟨m, fun _ => 0, g⟩ (fun r => (∀ c : Dev Cert.QuantDoReferenceIdeal.nD,
      r.2.mem ((c.tc : Thread Cert.QuantDoReferenceIdeal.nD Cert.QuantDoReferenceIdeal.τ).loc Cert.QuantDoReferenceIdeal.main_arg0) = m ((c.tc : Thread Cert.QuantDoReferenceIdeal.nD Cert.QuantDoReferenceIdeal.τ).loc Cert.QuantDoReferenceIdeal.main_arg0)
      ∧ r.2.mem ((c.tc : Thread Cert.QuantDoReferenceIdeal.nD Cert.QuantDoReferenceIdeal.τ).loc Cert.QuantDoReferenceIdeal.main_arg1) = m ((c.tc : Thread Cert.QuantDoReferenceIdeal.nD Cert.QuantDoReferenceIdeal.τ).loc Cert.QuantDoReferenceIdeal.main_arg1))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)) (v4 : (c : Dev Cert.KernelIdeal.nD) → Buf (Elt Ideal) ((c.tc : Thread Cert.KernelIdeal.nD Cert.KernelIdeal.τ).loc Cert.KernelIdeal.main_v8_4)) (v5 : (c : Dev Cert.KernelIdeal.nD) → Buf (Elt Ideal) ((c.tc : Thread Cert.KernelIdeal.nD Cert.KernelIdeal.τ).loc Cert.KernelIdeal.main_v8_5)) (v6 : (c : Dev Cert.KernelIdeal.nD) → Buf (Elt Ideal) ((c.tc : Thread Cert.KernelIdeal.nD Cert.KernelIdeal.τ).loc Cert.KernelIdeal.main_v8_6)) (v7 : (c : Dev Cert.KernelIdeal.nD) → Buf (Elt Ideal) ((c.tc : Thread Cert.KernelIdeal.nD Cert.KernelIdeal.τ).loc Cert.KernelIdeal.main_v8_7)) (v8 : (c : Dev Cert.KernelIdeal.nD) → Buf (Elt Ideal) ((c.tc : Thread Cert.KernelIdeal.nD Cert.KernelIdeal.τ).loc Cert.KernelIdeal.main_v8_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_v8_4) = v4 c
          ∧ r.2.mem ((c.tc : Thread Cert.KernelIdeal.nD Cert.KernelIdeal.τ).loc Cert.KernelIdeal.main_v8_5) = v5 c
          ∧ r.2.mem ((c.tc : Thread Cert.KernelIdeal.nD Cert.KernelIdeal.τ).loc Cert.KernelIdeal.main_v8_6) = v6 c
          ∧ r.2.mem ((c.tc : Thread Cert.KernelIdeal.nD Cert.KernelIdeal.τ).loc Cert.KernelIdeal.main_v8_7) = v7 c
          ∧ r.2.mem ((c.tc : Thread Cert.KernelIdeal.nD Cert.KernelIdeal.τ).loc Cert.KernelIdeal.main_v8_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_v76) = v3 c
          ∧ r.2.mem ((c.tc : Thread Cert.ReferenceIdeal.nD Cert.ReferenceIdeal.τ).loc Cert.ReferenceIdeal.main_v78) = v4 c
          ∧ r.2.mem ((c.tc : Thread Cert.ReferenceIdeal.nD Cert.ReferenceIdeal.τ).loc Cert.ReferenceIdeal.main_v80) = v5 c
          ∧ r.2.mem ((c.tc : Thread Cert.ReferenceIdeal.nD Cert.ReferenceIdeal.τ).loc Cert.ReferenceIdeal.main_v81) = v6 c
          ∧ r.2.mem ((c.tc : Thread Cert.ReferenceIdeal.nD Cert.ReferenceIdeal.τ).loc Cert.ReferenceIdeal.main_v84) = v7 c
          ∧ r.2.mem ((c.tc : Thread Cert.ReferenceIdeal.nD Cert.ReferenceIdeal.τ).loc Cert.ReferenceIdeal.main_v87) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Prep_PrepIdeal : Prop :=
  True

def algebraic_PrepIdeal_PrepReferenceIdeal [hPrepIdeal : Cert.PrepIdeal.Facts] [hPrepReferenceIdeal : Cert.PrepReferenceIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)
      ∧ m' ((c.tc : Thread Cert.PrepReferenceIdeal.nD Cert.PrepReferenceIdeal.τ).loc Cert.PrepReferenceIdeal.main_arg2) = m ((c.tc : Thread Cert.PrepIdeal.nD Cert.PrepIdeal.τ).loc Cert.PrepIdeal.main_arg2)
      ∧ m' ((c.tc : Thread Cert.PrepReferenceIdeal.nD Cert.PrepReferenceIdeal.τ).loc Cert.PrepReferenceIdeal.main_arg3) = m ((c.tc : Thread Cert.PrepIdeal.nD Cert.PrepIdeal.τ).loc Cert.PrepIdeal.main_arg3)) →
    ∃ (v0 : (c : Dev Cert.PrepIdeal.nD) → Buf (Elt Ideal) ((c.tc : Thread Cert.PrepIdeal.nD Cert.PrepIdeal.τ).loc Cert.PrepIdeal.main_v2_0)) (v1 : (c : Dev Cert.PrepIdeal.nD) → Buf (Elt Ideal) ((c.tc : Thread Cert.PrepIdeal.nD Cert.PrepIdeal.τ).loc Cert.PrepIdeal.main_v2_1)) (v2 : (c : Dev Cert.PrepIdeal.nD) → Buf (Elt Ideal) ((c.tc : Thread Cert.PrepIdeal.nD Cert.PrepIdeal.τ).loc Cert.PrepIdeal.main_v2_2)) (v3 : (c : Dev Cert.PrepIdeal.nD) → Buf (Elt Ideal) ((c.tc : Thread Cert.PrepIdeal.nD Cert.PrepIdeal.τ).loc Cert.PrepIdeal.main_v2_3)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v2_0) = v0 c
          ∧ r.2.mem ((c.tc : Thread Cert.PrepIdeal.nD Cert.PrepIdeal.τ).loc Cert.PrepIdeal.main_v2_1) = v1 c
          ∧ r.2.mem ((c.tc : Thread Cert.PrepIdeal.nD Cert.PrepIdeal.τ).loc Cert.PrepIdeal.main_v2_2) = v2 c
          ∧ r.2.mem ((c.tc : Thread Cert.PrepIdeal.nD Cert.PrepIdeal.τ).loc Cert.PrepIdeal.main_v2_3) = v3 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v26) = v0 c
          ∧ r.2.mem ((c.tc : Thread Cert.PrepReferenceIdeal.nD Cert.PrepReferenceIdeal.τ).loc Cert.PrepReferenceIdeal.main_v27) = v1 c
          ∧ r.2.mem ((c.tc : Thread Cert.PrepReferenceIdeal.nD Cert.PrepReferenceIdeal.τ).loc Cert.PrepReferenceIdeal.main_v29) = v2 c
          ∧ r.2.mem ((c.tc : Thread Cert.PrepReferenceIdeal.nD Cert.PrepReferenceIdeal.τ).loc Cert.PrepReferenceIdeal.main_v31) = v3 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3))

def preserves_QuantO_QuantOIdeal : Prop :=
  True

def algebraic_QuantOIdeal_QuantOReferenceIdeal [hQuantOIdeal : Cert.QuantOIdeal.Facts] [hQuantOReferenceIdeal : Cert.QuantOReferenceIdeal.Facts] : Prop :=
  ∀ (m : (ℓ : Loc Cert.QuantOIdeal.nD Cert.QuantOIdeal.τ Cert.QuantOIdeal.sig) → Buf (Elt Ideal) ℓ) (g : Dev Cert.QuantOIdeal.nD → PrngReg)
    (m' : (ℓ : Loc Cert.QuantOReferenceIdeal.nD Cert.QuantOReferenceIdeal.τ Cert.QuantOReferenceIdeal.sig) → Buf (Elt Ideal) ℓ) (g' : Dev Cert.QuantOReferenceIdeal.nD → PrngReg), Pre_QuantOIdeal m →
    (∀ c : Dev Cert.QuantOIdeal.nD,
      m' ((c.tc : Thread Cert.QuantOReferenceIdeal.nD Cert.QuantOReferenceIdeal.τ).loc Cert.QuantOReferenceIdeal.main_arg0) = m ((c.tc : Thread Cert.QuantOIdeal.nD Cert.QuantOIdeal.τ).loc Cert.QuantOIdeal.main_arg0)
      ∧ m' ((c.tc : Thread Cert.QuantOReferenceIdeal.nD Cert.QuantOReferenceIdeal.τ).loc Cert.QuantOReferenceIdeal.main_arg1) = m ((c.tc : Thread Cert.QuantOIdeal.nD Cert.QuantOIdeal.τ).loc Cert.QuantOIdeal.main_arg1)) →
    ∃ (v0 : (c : Dev Cert.QuantOIdeal.nD) → Buf (Elt Ideal) ((c.tc : Thread Cert.QuantOIdeal.nD Cert.QuantOIdeal.τ).loc Cert.QuantOIdeal.main_v6)) (v1 : (c : Dev Cert.QuantOIdeal.nD) → Buf (Elt Ideal) ((c.tc : Thread Cert.QuantOIdeal.nD Cert.QuantOIdeal.τ).loc Cert.QuantOIdeal.main_v4)),
      θ_run (Cert.QuantOIdeal.defs (F := Ideal)) (onTc (τ := Cert.QuantOIdeal.τ) (Cert.QuantOIdeal.main (F := Ideal))) ⟨m, fun _ => 0, g⟩ (fun r => ∀ c : Dev Cert.QuantOIdeal.nD,
          r.2.mem ((c.tc : Thread Cert.QuantOIdeal.nD Cert.QuantOIdeal.τ).loc Cert.QuantOIdeal.main_v6) = v0 c
          ∧ r.2.mem ((c.tc : Thread Cert.QuantOIdeal.nD Cert.QuantOIdeal.τ).loc Cert.QuantOIdeal.main_v4) = v1 c
          ∧ r.2.mem ((c.tc : Thread Cert.QuantOIdeal.nD Cert.QuantOIdeal.τ).loc Cert.QuantOIdeal.main_arg0) = m ((c.tc : Thread Cert.QuantOIdeal.nD Cert.QuantOIdeal.τ).loc Cert.QuantOIdeal.main_arg0)
          ∧ r.2.mem ((c.tc : Thread Cert.QuantOIdeal.nD Cert.QuantOIdeal.τ).loc Cert.QuantOIdeal.main_arg1) = m ((c.tc : Thread Cert.QuantOIdeal.nD Cert.QuantOIdeal.τ).loc Cert.QuantOIdeal.main_arg1))
      ∧ θ_run (Cert.QuantOReferenceIdeal.defs (F := Ideal)) (onTc (τ := Cert.QuantOReferenceIdeal.τ) (Cert.QuantOReferenceIdeal.main (F := Ideal))) ⟨m', fun _ => 0, g'⟩ (fun r => ∀ c : Dev Cert.QuantOReferenceIdeal.nD,
          r.2.mem ((c.tc : Thread Cert.QuantOReferenceIdeal.nD Cert.QuantOReferenceIdeal.τ).loc Cert.QuantOReferenceIdeal.main_v10) = v0 c
          ∧ r.2.mem ((c.tc : Thread Cert.QuantOReferenceIdeal.nD Cert.QuantOReferenceIdeal.τ).loc Cert.QuantOReferenceIdeal.main_v4) = v1 c
          ∧ r.2.mem ((c.tc : Thread Cert.QuantOReferenceIdeal.nD Cert.QuantOReferenceIdeal.τ).loc Cert.QuantOReferenceIdeal.main_arg0) = m' ((c.tc : Thread Cert.QuantOReferenceIdeal.nD Cert.QuantOReferenceIdeal.τ).loc Cert.QuantOReferenceIdeal.main_arg0)
          ∧ r.2.mem ((c.tc : Thread Cert.QuantOReferenceIdeal.nD Cert.QuantOReferenceIdeal.τ).loc Cert.QuantOReferenceIdeal.main_arg1) = m' ((c.tc : Thread Cert.QuantOReferenceIdeal.nD Cert.QuantOReferenceIdeal.τ).loc Cert.QuantOReferenceIdeal.main_arg1))

def preserves_QuantDo_QuantDoIdeal : Prop :=
  True

def algebraic_QuantDoIdeal_QuantDoReferenceIdeal [hQuantDoIdeal : Cert.QuantDoIdeal.Facts] [hQuantDoReferenceIdeal : Cert.QuantDoReferenceIdeal.Facts] : Prop :=
  ∀ (m : (ℓ : Loc Cert.QuantDoIdeal.nD Cert.QuantDoIdeal.τ Cert.QuantDoIdeal.sig) → Buf (Elt Ideal) ℓ) (g : Dev Cert.QuantDoIdeal.nD → PrngReg)
    (m' : (ℓ : Loc Cert.QuantDoReferenceIdeal.nD Cert.QuantDoReferenceIdeal.τ Cert.QuantDoReferenceIdeal.sig) → Buf (Elt Ideal) ℓ) (g' : Dev Cert.QuantDoReferenceIdeal.nD → PrngReg), Pre_QuantDoIdeal m →
    (∀ c : Dev Cert.QuantDoIdeal.nD,
      m' ((c.tc : Thread Cert.QuantDoReferenceIdeal.nD Cert.QuantDoReferenceIdeal.τ).loc Cert.QuantDoReferenceIdeal.main_arg0) = m ((c.tc : Thread Cert.QuantDoIdeal.nD Cert.QuantDoIdeal.τ).loc Cert.QuantDoIdeal.main_arg0)
      ∧ m' ((c.tc : Thread Cert.QuantDoReferenceIdeal.nD Cert.QuantDoReferenceIdeal.τ).loc Cert.QuantDoReferenceIdeal.main_arg1) = m ((c.tc : Thread Cert.QuantDoIdeal.nD Cert.QuantDoIdeal.τ).loc Cert.QuantDoIdeal.main_arg1)) →
    ∃ (v0 : (c : Dev Cert.QuantDoIdeal.nD) → Buf (Elt Ideal) ((c.tc : Thread Cert.QuantDoIdeal.nD Cert.QuantDoIdeal.τ).loc Cert.QuantDoIdeal.main_v6)) (v1 : (c : Dev Cert.QuantDoIdeal.nD) → Buf (Elt Ideal) ((c.tc : Thread Cert.QuantDoIdeal.nD Cert.QuantDoIdeal.τ).loc Cert.QuantDoIdeal.main_v4)),
      θ_run (Cert.QuantDoIdeal.defs (F := Ideal)) (onTc (τ := Cert.QuantDoIdeal.τ) (Cert.QuantDoIdeal.main (F := Ideal))) ⟨m, fun _ => 0, g⟩ (fun r => ∀ c : Dev Cert.QuantDoIdeal.nD,
          r.2.mem ((c.tc : Thread Cert.QuantDoIdeal.nD Cert.QuantDoIdeal.τ).loc Cert.QuantDoIdeal.main_v6) = v0 c
          ∧ r.2.mem ((c.tc : Thread Cert.QuantDoIdeal.nD Cert.QuantDoIdeal.τ).loc Cert.QuantDoIdeal.main_v4) = v1 c
          ∧ r.2.mem ((c.tc : Thread Cert.QuantDoIdeal.nD Cert.QuantDoIdeal.τ).loc Cert.QuantDoIdeal.main_arg0) = m ((c.tc : Thread Cert.QuantDoIdeal.nD Cert.QuantDoIdeal.τ).loc Cert.QuantDoIdeal.main_arg0)
          ∧ r.2.mem ((c.tc : Thread Cert.QuantDoIdeal.nD Cert.QuantDoIdeal.τ).loc Cert.QuantDoIdeal.main_arg1) = m ((c.tc : Thread Cert.QuantDoIdeal.nD Cert.QuantDoIdeal.τ).loc Cert.QuantDoIdeal.main_arg1))
      ∧ θ_run (Cert.QuantDoReferenceIdeal.defs (F := Ideal)) (onTc (τ := Cert.QuantDoReferenceIdeal.τ) (Cert.QuantDoReferenceIdeal.main (F := Ideal))) ⟨m', fun _ => 0, g'⟩ (fun r => ∀ c : Dev Cert.QuantDoReferenceIdeal.nD,
          r.2.mem ((c.tc : Thread Cert.QuantDoReferenceIdeal.nD Cert.QuantDoReferenceIdeal.τ).loc Cert.QuantDoReferenceIdeal.main_v6) = v0 c
          ∧ r.2.mem ((c.tc : Thread Cert.QuantDoReferenceIdeal.nD Cert.QuantDoReferenceIdeal.τ).loc Cert.QuantDoReferenceIdeal.main_v4) = v1 c
          ∧ r.2.mem ((c.tc : Thread Cert.QuantDoReferenceIdeal.nD Cert.QuantDoReferenceIdeal.τ).loc Cert.QuantDoReferenceIdeal.main_arg0) = m' ((c.tc : Thread Cert.QuantDoReferenceIdeal.nD Cert.QuantDoReferenceIdeal.τ).loc Cert.QuantDoReferenceIdeal.main_arg0)
          ∧ r.2.mem ((c.tc : Thread Cert.QuantDoReferenceIdeal.nD Cert.QuantDoReferenceIdeal.τ).loc Cert.QuantDoReferenceIdeal.main_arg1) = m' ((c.tc : Thread Cert.QuantDoReferenceIdeal.nD Cert.QuantDoReferenceIdeal.τ).loc Cert.QuantDoReferenceIdeal.main_arg1))

def Claim : Prop :=
  ∃ (hKernel : Cert.Kernel.Facts) (hKernelIdeal : Cert.KernelIdeal.Facts) (hReferenceIdeal : Cert.ReferenceIdeal.Facts) (hPrep : Cert.Prep.Facts) (hPrepIdeal : Cert.PrepIdeal.Facts) (hPrepReferenceIdeal : Cert.PrepReferenceIdeal.Facts) (hQuantO : Cert.QuantO.Facts) (hQuantOIdeal : Cert.QuantOIdeal.Facts) (hQuantOReferenceIdeal : Cert.QuantOReferenceIdeal.Facts) (hQuantDo : Cert.QuantDo.Facts) (hQuantDoIdeal : Cert.QuantDoIdeal.Facts) (hQuantDoReferenceIdeal : Cert.QuantDoReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Prep (hPrep := hPrep)
    ∧ quiescent_PrepIdeal (hPrepIdeal := hPrepIdeal)
    ∧ quiescent_PrepReferenceIdeal (hPrepReferenceIdeal := hPrepReferenceIdeal)
    ∧ quiescent_QuantO (hQuantO := hQuantO)
    ∧ quiescent_QuantOIdeal (hQuantOIdeal := hQuantOIdeal)
    ∧ quiescent_QuantOReferenceIdeal (hQuantOReferenceIdeal := hQuantOReferenceIdeal)
    ∧ quiescent_QuantDo (hQuantDo := hQuantDo)
    ∧ quiescent_QuantDoIdeal (hQuantDoIdeal := hQuantDoIdeal)
    ∧ quiescent_QuantDoReferenceIdeal (hQuantDoReferenceIdeal := hQuantDoReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Prep_PrepIdeal
    ∧ algebraic_PrepIdeal_PrepReferenceIdeal (hPrepIdeal := hPrepIdeal) (hPrepReferenceIdeal := hPrepReferenceIdeal)
    ∧ preserves_QuantO_QuantOIdeal
    ∧ algebraic_QuantOIdeal_QuantOReferenceIdeal (hQuantOIdeal := hQuantOIdeal) (hQuantOReferenceIdeal := hQuantOReferenceIdeal)
    ∧ preserves_QuantDo_QuantDoIdeal
    ∧ algebraic_QuantDoIdeal_QuantDoReferenceIdeal (hQuantDoIdeal := hQuantDoIdeal) (hQuantDoReferenceIdeal := hQuantDoReferenceIdeal)
-- ==== Pre_finite.lean ====
abbrev S6x4096x40x128 : Shape := ⟨4, ![6, 4096, 40, 128]⟩
abbrev S6x4096x8x128 : Shape := ⟨4, ![6, 4096, 8, 128]⟩
abbrev S6x64x4096 : Shape := ⟨3, ![6, 64, 4096]⟩
abbrev S_ : Shape := ⟨0, ![]⟩

class Facts : Prop where
  bcast_S_S6x4096x40x128 : S_.BroadcastsInDim S6x4096x40x128 (![] : Fin 0 → Fin S6x4096x40x128.rank)
  reducesTo_S6x4096x40x128_S_d0_1_2_3 : S6x4096x40x128.ReducesTo [0, 1, 2, 3] S_
  h_S_ : 0 < S_.numel
  bcast_S_S6x4096x8x128 : S_.BroadcastsInDim S6x4096x8x128 (![] : Fin 0 → Fin S6x4096x8x128.rank)
  reducesTo_S6x4096x8x128_S_d0_1_2_3 : S6x4096x8x128.ReducesTo [0, 1, 2, 3] S_
  bcast_S_S6x64x4096 : S_.BroadcastsInDim S6x64x4096 (![] : Fin 0 → Fin S6x64x4096.rank)
  reducesTo_S6x64x4096_S_d0_1_2 : S6x64x4096.ReducesTo [0, 1, 2] S_

variable [Facts]

def fn_part1 {F : FTy → Type} [FloatOps F] (main_v13 : IVec S_ 1) (main_v16 : IVec S6x64x4096 1) : IVec S_ 1 :=
  let main_c_5 : IVec S_ 1 := constantI S_ 1 1#1
  let main_v17 : IVec S_ 1 := (fun x v => Host.reduce IntOp.andi x v reducesTo_S6x64x4096_S_d0_1_2 h_S_) main_v16 main_c_5
  let main_v18 : IVec S_ 1 := andi main_v13 main_v17
  main_v18

def fn {F : FTy → Type} [FloatOps F] (main_arg0 : FVec F S6x4096x40x128 .bf16) (main_arg1 : FVec F S6x4096x8x128 .bf16) (main_arg2 : FVec F S6x4096x8x128 .bf16) (main_arg3 : FVec F S6x64x4096 .f32) (main_arg4 : FVec F S6x64x4096 .f32) (main_arg5 : FVec F S6x4096x40x128 .bf16) : IVec S_ 1 :=
  let main_v0 : FVec F S6x4096x40x128 .bf16 := Host.absf main_arg0
  let main_cst : FVec F S_ .bf16 := constant S_ .bf16 0x7F80#16
  let main_v1 : FVec F S6x4096x40x128 .bf16 := broadcastInDim S6x4096x40x128 ![] bcast_S_S6x4096x40x128 main_cst
  let main_v2 : IVec S6x4096x40x128 1 := cmpf .olt main_v0 main_v1
  let main_c : IVec S_ 1 := constantI S_ 1 1#1
  let main_v3 : IVec S_ 1 := (fun x v => Host.reduce IntOp.andi x v reducesTo_S6x4096x40x128_S_d0_1_2_3 h_S_) main_v2 main_c
  let main_v4 : FVec F S6x4096x8x128 .bf16 := Host.absf main_arg1
  let main_cst_0 : FVec F S_ .bf16 := constant S_ .bf16 0x7F80#16
  let main_v5 : FVec F S6x4096x8x128 .bf16 := broadcastInDim S6x4096x8x128 ![] bcast_S_S6x4096x8x128 main_cst_0
  let main_v6 : IVec S6x4096x8x128 1 := cmpf .olt main_v4 main_v5
  let main_c_1 : IVec S_ 1 := constantI S_ 1 1#1
  let main_v7 : IVec S_ 1 := (fun x v => Host.reduce IntOp.andi x v reducesTo_S6x4096x8x128_S_d0_1_2_3 h_S_) main_v6 main_c_1
  let main_v8 : IVec S_ 1 := andi main_v3 main_v7
  let main_v9 : FVec F S6x64x4096 .f32 := Host.absf main_arg3
  let main_cst_2 : FVec F S_ .f32 := constant S_ .f32 0x7F800000#32
  let main_v10 : FVec F S6x64x4096 .f32 := broadcastInDim S6x64x4096 ![] bcast_S_S6x64x4096 main_cst_2
  let main_v11 : IVec S6x64x4096 1 := cmpf .olt main_v9 main_v10
  let main_c_3 : IVec S_ 1 := constantI S_ 1 1#1
  let main_v12 : IVec S_ 1 := (fun x v => Host.reduce IntOp.andi x v reducesTo_S6x64x4096_S_d0_1_2 h_S_) main_v11 main_c_3
  let main_v13 : IVec S_ 1 := andi main_v8 main_v12
  let main_v14 : FVec F S6x64x4096 .f32 := Host.absf main_arg4
  let main_cst_4 : FVec F S_ .f32 := constant S_ .f32 0x7F800000#32
  let main_v15 : FVec F S6x64x4096 .f32 := broadcastInDim S6x64x4096 ![] bcast_S_S6x64x4096 main_cst_4
  let main_v16 : IVec S6x64x4096 1 := cmpf .olt main_v14 main_v15
  fn_part1 (F := F) main_v13 main_v16
-- ==== Kernel.lean ====
abbrev S6x4096x40x128 : Shape := ⟨4, ![6, 4096, 40, 128]⟩
abbrev S6x4096x8x128 : Shape := ⟨4, ![6, 4096, 8, 128]⟩
abbrev S6x64x4096 : Shape := ⟨3, ![6, 64, 4096]⟩
abbrev S6x40x128x4096 : Shape := ⟨4, ![6, 40, 128, 4096]⟩
abbrev S6x8x5x128x4096 : Shape := ⟨5, ![6, 8, 5, 128, 4096]⟩
abbrev S6x8x128x4096 : Shape := ⟨4, ![6, 8, 128, 4096]⟩
abbrev S6x8x4096x128 : Shape := ⟨4, ![6, 8, 4096, 128]⟩
abbrev S6x8x5x4096 : Shape := ⟨4, ![6, 8, 5, 4096]⟩
abbrev S6x8x1x4096 : Shape := ⟨4, ![6, 8, 1, 4096]⟩
abbrev S1x1x5x128x256 : Shape := ⟨5, ![1, 1, 5, 128, 256]⟩
abbrev S1x64x256 : Shape := ⟨3, ![1, 64, 256]⟩
abbrev S1x1x4096x128 : Shape := ⟨4, ![1, 1, 4096, 128]⟩
abbrev S1x1x128x4096 : Shape := ⟨4, ![1, 1, 128, 4096]⟩
abbrev S1x1x5x256 : Shape := ⟨4, ![1, 1, 5, 256]⟩
abbrev S1x1x1x4096 : Shape := ⟨4, ![1, 1, 1, 4096]⟩
abbrev S4096x256 : Shape := ⟨2, ![4096, 256]⟩
abbrev S128x4096 : Shape := ⟨2, ![128, 4096]⟩
abbrev S1x1x1x128x256 : Shape := ⟨5, ![1, 1, 1, 128, 256]⟩
abbrev S128x256 : Shape := ⟨2, ![128, 256]⟩
abbrev S64x256 : Shape := ⟨2, ![64, 256]⟩
abbrev S256 : Shape := ⟨1, ![256]⟩
abbrev S1x256 : Shape := ⟨2, ![1, 256]⟩
abbrev S1x1x1x256 : Shape := ⟨4, ![1, 1, 1, 256]⟩
abbrev S8x256 : Shape := ⟨2, ![8, 256]⟩
abbrev S1x1x256x128 : Shape := ⟨4, ![1, 1, 256, 128]⟩
abbrev S256x128 : Shape := ⟨2, ![256, 128]⟩
abbrev S256x256 : Shape := ⟨2, ![256, 256]⟩
abbrev S32x8x256 : Shape := ⟨3, ![32, 8, 256]⟩
abbrev S1x1x128x256 : Shape := ⟨4, ![1, 1, 128, 256]⟩
abbrev S4096 : Shape := ⟨1, ![4096]⟩
abbrev S1x4096 : Shape := ⟨2, ![1, 4096]⟩

abbrev nBuf : Space → Nat
  | .hbm => 23
  | .vmem => 37
  | .smem => 0
  | _ => 0

abbrev bufTy : (tb : Table) → Fin (tcTables nBuf tb) → BufTy
  | .hbm, ⟨0, _⟩ => ⟨S6x4096x40x128, .bf16⟩
  | .hbm, ⟨1, _⟩ => ⟨S6x4096x8x128, .bf16⟩
  | .hbm, ⟨2, _⟩ => ⟨S6x4096x8x128, .bf16⟩
  | .hbm, ⟨3, _⟩ => ⟨S6x64x4096, .f32⟩
  | .hbm, ⟨4, _⟩ => ⟨S6x64x4096, .f32⟩
  | .hbm, ⟨5, _⟩ => ⟨S6x4096x40x128, .bf16⟩
  | .hbm, ⟨6, _⟩ => ⟨S6x40x128x4096, .bf16⟩
  | .hbm, ⟨7, _⟩ => ⟨S6x8x5x128x4096, .bf16⟩
  | .hbm, ⟨8, _⟩ => ⟨S6x40x128x4096, .bf16⟩
  | .hbm, ⟨9, _⟩ => ⟨S6x8x5x128x4096, .bf16⟩
  | .hbm, ⟨10, _⟩ => ⟨S6x8x128x4096, .bf16⟩
  | .hbm, ⟨11, _⟩ => ⟨S6x8x128x4096, .bf16⟩
  | .hbm, ⟨12, _⟩ => ⟨S6x8x4096x128, .bf16⟩
  | .hbm, ⟨13, _⟩ => ⟨S6x8x4096x128, .bf16⟩
  | .hbm, ⟨14, _⟩ => ⟨S6x8x5x4096, .f32⟩
  | .hbm, ⟨15, _⟩ => ⟨S6x8x5x4096, .f32⟩
  | .hbm, ⟨16, _⟩ => ⟨S6x8x5x4096, .f32⟩
  | .hbm, ⟨17, _⟩ => ⟨S6x8x5x4096, .f32⟩
  | .hbm, ⟨18, _⟩ => ⟨S6x8x5x4096, .f32⟩
  | .hbm, ⟨19, _⟩ => ⟨S6x8x5x4096, .f32⟩
  | .hbm, ⟨20, _⟩ => ⟨S6x8x5x128x4096, .f32⟩
  | .hbm, ⟨21, _⟩ => ⟨S6x8x1x4096, .f32⟩
  | .hbm, ⟨22, _⟩ => ⟨S6x8x1x4096, .f32⟩
  | .local _ .vmem, ⟨0, _⟩ => ⟨S1x1x5x128x256, .bf16⟩
  | .local _ .vmem, ⟨1, _⟩ => ⟨S1x1x5x128x256, .bf16⟩
  | .local _ .vmem, ⟨2, _⟩ => ⟨S1x1x5x128x256, .bf16⟩
  | .local _ .vmem, ⟨3, _⟩ => ⟨S1x1x5x128x256, .bf16⟩
  | .local _ .vmem, ⟨4, _⟩ => ⟨S1x64x256, .f32⟩
  | .local _ .vmem, ⟨5, _⟩ => ⟨S1x64x256, .f32⟩
  | .local _ .vmem, ⟨6, _⟩ => ⟨S1x64x256, .f32⟩
  | .local _ .vmem, ⟨7, _⟩ => ⟨S1x64x256, .f32⟩
  | .local _ .vmem, ⟨8, _⟩ => ⟨S1x1x4096x128, .bf16⟩
  | .local _ .vmem, ⟨9, _⟩ => ⟨S1x1x4096x128, .bf16⟩
  | .local _ .vmem, ⟨10, _⟩ => ⟨S1x1x128x4096, .bf16⟩
  | .local _ .vmem, ⟨11, _⟩ => ⟨S1x1x128x4096, .bf16⟩
  | .local _ .vmem, ⟨12, _⟩ => ⟨S1x1x4096x128, .bf16⟩
  | .local _ .vmem, ⟨13, _⟩ => ⟨S1x1x4096x128, .bf16⟩
  | .local _ .vmem, ⟨14, _⟩ => ⟨S1x1x128x4096, .bf16⟩
  | .local _ .vmem, ⟨15, _⟩ => ⟨S1x1x128x4096, .bf16⟩
  | .local _ .vmem, ⟨16, _⟩ => ⟨S1x1x5x256, .f32⟩
  | .local _ .vmem, ⟨17, _⟩ => ⟨S1x1x5x256, .f32⟩
  | .local _ .vmem, ⟨18, _⟩ => ⟨S1x1x5x256, .f32⟩
  | .local _ .vmem, ⟨19, _⟩ => ⟨S1x1x5x256, .f32⟩
  | .local _ .vmem, ⟨20, _⟩ => ⟨S1x1x5x256, .f32⟩
  | .local _ .vmem, ⟨21, _⟩ => ⟨S1x1x5x256, .f32⟩
  | .local _ .vmem, ⟨22, _⟩ => ⟨S1x1x5x256, .f32⟩
  | .local _ .vmem, ⟨23, _⟩ => ⟨S1x1x5x256, .f32⟩
  | .local _ .vmem, ⟨24, _⟩ => ⟨S1x1x5x256, .f32⟩
  | .local _ .vmem, ⟨25, _⟩ => ⟨S1x1x5x256, .f32⟩
  | .local _ .vmem, ⟨26, _⟩ => ⟨S1x1x5x256, .f32⟩
  | .local _ .vmem, ⟨27, _⟩ => ⟨S1x1x5x256, .f32⟩
  | .local _ .vmem, ⟨28, _⟩ => ⟨S1x1x5x128x256, .f32⟩
  | .local _ .vmem, ⟨29, _⟩ => ⟨S1x1x5x128x256, .f32⟩
  | .local _ .vmem, ⟨30, _⟩ => ⟨S1x1x1x4096, .f32⟩
  | .local _ .vmem, ⟨31, _⟩ => ⟨S1x1x1x4096, .f32⟩
  | .local _ .vmem, ⟨32, _⟩ => ⟨S1x1x1x4096, .f32⟩
  | .local _ .vmem, ⟨33, _⟩ => ⟨S1x1x1x4096, .f32⟩
  | .local _ .vmem, ⟨34, _⟩ => ⟨S4096x256, .f32⟩
  | .local _ .vmem, ⟨35, _⟩ => ⟨S128x4096, .f32⟩
  | .local _ .vmem, ⟨36, _⟩ => ⟨S128x4096, .f32⟩
  | _, _ => ⟨S6x4096x40x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev main_v8_5 : Ref sig .tc := ⟨.hbm, 19, rfl⟩
abbrev main_v8_6 : Ref sig .tc := ⟨.hbm, 20, rfl⟩
abbrev main_v8_7 : Ref sig .tc := ⟨.hbm, 21, rfl⟩
abbrev main_v8_8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨3, ![6, 8, 16], ![false, false, false]⟩

@[reducible] def k0_t1_loop : Scf.Loop 32 :=
  let c0_i32_1 : BitVec 32 := 0#32
  let c5_i32 : BitVec 32 := 5#32
  let v3 : BitVec 32 := Scalar.addi c0_i32_1 c5_i32
  let c1_i32 : BitVec 32 := 1#32
  ⟨c0_i32_1, v3, c1_i32⟩
def k0_off1 (k0_t1 : Fin k0_t1_loop.trips) : Fin 5 → Nat :=
  let c0 : Index := 0#32
  let c0_6 : Index := 0#32
  let c0_i32_5 : BitVec 32 := 0#32
  let c0_i32_1 : BitVec 32 := 0#32
  let c1_i32 : BitVec 32 := 1#32
  let arg23 : BitVec 32 := Scf.iv c0_i32_1 c1_i32 k0_t1
  let c1_i32_4 : BitVec 32 := 1#32
  let v7 : BitVec 32 := Scalar.muli arg23 c1_i32_4
  let v8 : BitVec 32 := Scalar.addi c0_i32_5 v7
  let v9 : Index := Scalar.indexCast v8
  let c0_7 : Index := 0#32
  let c0_8 : Index := 0#32
  ![0, 0, v9.toNat, 0, 0]
def k0_off2 (k0_t1 : Fin k0_t1_loop.trips) : Fin 4 → Nat :=
  let c0_19 : Index := 0#32
  let c0_20 : Index := 0#32
  let c0_i32_5 : BitVec 32 := 0#32
  let c0_i32_1 : BitVec 32 := 0#32
  let c1_i32 : BitVec 32 := 1#32
  let arg23 : BitVec 32 := Scf.iv c0_i32_1 c1_i32 k0_t1
  let c1_i32_4 : BitVec 32 := 1#32
  let v7 : BitVec 32 := Scalar.muli arg23 c1_i32_4
  let v8 : BitVec 32 := Scalar.addi c0_i32_5 v7
  let v35 : Index := Scalar.indexCast v8
  let c0_21 : Index := 0#32
  ![0, 0, v35.toNat, 0]
@[reducible] def k0_t2_loop (i : grid0.Coords) : Scf.Loop 32 :=
  let c0_i32_28 : BitVec 32 := 0#32
  let arg2 : BitVec 32 := BitVec.ofNat 32 (i 2).val
  let v49 : BitVec 32 := Scalar.subi arg2 c0_i32_28
  let c1_i32_29 : BitVec 32 := 1#32
  let v51 : BitVec 32 := Scalar.divsi v49 c1_i32_29
  let v52 : BitVec 32 := Scalar.muli v51 c1_i32_29
  let v53 : BitVec 32 := Scalar.addi c0_i32_28 v52
  let c1_i32_30 : BitVec 32 := 1#32
  ⟨c0_i32_28, v53, c1_i32_30⟩
def k0_mult1 (i : grid0.Coords) (k0_t2 : Fin (k0_t2_loop i).trips) : BitVec 32 :=
  let c0_i32_28 : BitVec 32 := 0#32
  let c1_i32_30 : BitVec 32 := 1#32
  let arg24 : BitVec 32 := Scf.iv c0_i32_28 c1_i32_30 k0_t2
  let c256_i32_85 : BitVec 32 := 256#32
  let v154 : BitVec 32 := Scalar.muli arg24 c256_i32_85
  v154
def k0_off3 (i : grid0.Coords) (k0_t2 : Fin (k0_t2_loop i).trips) : Fin 4 → Nat :=
  let c0_86 : Index := 0#32
  let c0_87 : Index := 0#32
  let c0_i32_28 : BitVec 32 := 0#32
  let c1_i32_30 : BitVec 32 := 1#32
  let arg24 : BitVec 32 := Scf.iv c0_i32_28 c1_i32_30 k0_t2
  let c256_i32_85 : BitVec 32 := 256#32
  let v154 : BitVec 32 := Scalar.muli arg24 c256_i32_85
  let v155 : BitVec 32 := v154
  let v156 : Index := Scalar.indexCast v155
  let c0_88 : Index := 0#32
  ![0, 0, v156.toNat, 0]
def k0_mult2 (i : grid0.Coords) (k0_t2 : Fin (k0_t2_loop i).trips) : BitVec 32 :=
  let c0_i32_28 : BitVec 32 := 0#32
  let c1_i32_30 : BitVec 32 := 1#32
  let arg24 : BitVec 32 := Scf.iv c0_i32_28 c1_i32_30 k0_t2
  let c256_i32_90 : BitVec 32 := 256#32
  let v160 : BitVec 32 := Scalar.muli arg24 c256_i32_90
  v160
def k0_off4 (i : grid0.Coords) (k0_t2 : Fin (k0_t2_loop i).trips) : Fin 2 → Nat :=
  let c0_i32_28 : BitVec 32 := 0#32
  let c1_i32_30 : BitVec 32 := 1#32
  let arg24 : BitVec 32 := Scf.iv c0_i32_28 c1_i32_30 k0_t2
  let c256_i32_90 : BitVec 32 := 256#32
  let v160 : BitVec 32 := Scalar.muli arg24 c256_i32_90
  let v161 : BitVec 32 := v160
  let v162 : Index := Scalar.indexCast v161
  let c0_91 : Index := 0#32
  ![v162.toNat, 0]
@[reducible] def k0_t3_loop (i : grid0.Coords) : Scf.Loop 32 :=
  let c0_i32_28 : BitVec 32 := 0#32
  let arg2 : BitVec 32 := BitVec.ofNat 32 (i 2).val
  let v49 : BitVec 32 := Scalar.subi arg2 c0_i32_28
  let c1_i32_29 : BitVec 32 := 1#32
  let v51 : BitVec 32 := Scalar.divsi v49 c1_i32_29
  let v52 : BitVec 32 := Scalar.muli v51 c1_i32_29
  let v53 : BitVec 32 := Scalar.addi c0_i32_28 v52
  let v50 : BitVec 32 := Scalar.addi c0_i32_28 v49
  let c1_i32_31 : BitVec 32 := 1#32
  ⟨v53, v50, c1_i32_31⟩
def k0_mult3 (i : grid0.Coords) (k0_t3 : Fin (k0_t3_loop i).trips) : BitVec 32 :=
  let c0_i32_28 : BitVec 32 := 0#32
  let arg2 : BitVec 32 := BitVec.ofNat 32 (i 2).val
  let v49 : BitVec 32 := Scalar.subi arg2 c0_i32_28
  let c1_i32_29 : BitVec 32 := 1#32
  let v51 : BitVec 32 := Scalar.divsi v49 c1_i32_29
  let v52 : BitVec 32 := Scalar.muli v51 c1_i32_29
  let v53 : BitVec 32 := Scalar.addi c0_i32_28 v52
  let c1_i32_31 : BitVec 32 := 1#32
  let arg24 : BitVec 32 := Scf.iv v53 c1_i32_31 k0_t3
  let c256_i32_85 : BitVec 32 := 256#32
  let v154 : BitVec 32 := Scalar.muli arg24 c256_i32_85
  v154
def k0_off5 (i : grid0.Coords) (k0_t3 : Fin (k0_t3_loop i).trips) : Fin 4 → Nat :=
  let c0_86 : Index := 0#32
  let c0_87 : Index := 0#32
  let c0_i32_28 : BitVec 32 := 0#32
  let arg2 : BitVec 32 := BitVec.ofNat 32 (i 2).val
  let v49 : BitVec 32 := Scalar.subi arg2 c0_i32_28
  let c1_i32_29 : BitVec 32 := 1#32
  let v51 : BitVec 32 := Scalar.divsi v49 c1_i32_29
  let v52 : BitVec 32 := Scalar.muli v51 c1_i32_29
  let v53 : BitVec 32 := Scalar.addi c0_i32_28 v52
  let c1_i32_31 : BitVec 32 := 1#32
  let arg24 : BitVec 32 := Scf.iv v53 c1_i32_31 k0_t3
  let c256_i32_85 : BitVec 32 := 256#32
  let v154 : BitVec 32 := Scalar.muli arg24 c256_i32_85
  let v155 : BitVec 32 := v154
  let v156 : Index := Scalar.indexCast v155
  let c0_88 : Index := 0#32
  ![0, 0, v156.toNat, 0]
def k0_mult4 (i : grid0.Coords) (k0_t3 : Fin (k0_t3_loop i).trips) : BitVec 32 :=
  let c0_i32_28 : BitVec 32 := 0#32
  let arg2 : BitVec 32 := BitVec.ofNat 32 (i 2).val
  let v49 : BitVec 32 := Scalar.subi arg2 c0_i32_28
  let c1_i32_29 : BitVec 32 := 1#32
  let v51 : BitVec 32 := Scalar.divsi v49 c1_i32_29
  let v52 : BitVec 32 := Scalar.muli v51 c1_i32_29
  let v53 : BitVec 32 := Scalar.addi c0_i32_28 v52
  let c1_i32_31 : BitVec 32 := 1#32
  let arg24 : BitVec 32 := Scf.iv v53 c1_i32_31 k0_t3
  let c256_i32_90 : BitVec 32 := 256#32
  let v160 : BitVec 32 := Scalar.muli arg24 c256_i32_90
  v160
def k0_off6 (i : grid0.Coords) (k0_t3 : Fin (k0_t3_loop i).trips) : Fin 2 → Nat :=
  let c0_i32_28 : BitVec 32 := 0#32
  let arg2 : BitVec 32 := BitVec.ofNat 32 (i 2).val
  let v49 : BitVec 32 := Scalar.subi arg2 c0_i32_28
  let c1_i32_29 : BitVec 32 := 1#32
  let v51 : BitVec 32 := Scalar.divsi v49 c1_i32_29
  let v52 : BitVec 32 := Scalar.muli v51 c1_i32_29
  let v53 : BitVec 32 := Scalar.addi c0_i32_28 v52
  let c1_i32_31 : BitVec 32 := 1#32
  let arg24 : BitVec 32 := Scf.iv v53 c1_i32_31 k0_t3
  let c256_i32_90 : BitVec 32 := 256#32
  let v160 : BitVec 32 := Scalar.muli arg24 c256_i32_90
  let v161 : BitVec 32 := v160
  let v162 : Index := Scalar.indexCast v161
  let c0_91 : Index := 0#32
  ![v162.toNat, 0]
def k0_mult5 (i : grid0.Coords) : BitVec 32 :=
  let arg2 : BitVec 32 := BitVec.ofNat 32 (i 2).val
  let c256_i32 : BitVec 32 := 256#32
  let v56 : BitVec 32 := Scalar.muli arg2 c256_i32
  v56
def k0_off7 (i : grid0.Coords) : Fin 4 → Nat :=
  let c0_32 : Index := 0#32
  let c0_33 : Index := 0#32
  let arg2 : BitVec 32 := BitVec.ofNat 32 (i 2).val
  let c256_i32 : BitVec 32 := 256#32
  let v56 : BitVec 32 := Scalar.muli arg2 c256_i32
  let v57 : BitVec 32 := v56
  let v58 : Index := Scalar.indexCast v57
  let c0_34 : Index := 0#32
  ![0, 0, v58.toNat, 0]
def k0_mult6 (i : grid0.Coords) : BitVec 32 :=
  let arg2 : BitVec 32 := BitVec.ofNat 32 (i 2).val
  let c256_i32_40 : BitVec 32 := 256#32
  let v74 : BitVec 32 := Scalar.muli arg2 c256_i32_40
  v74
def k0_off8 (i : grid0.Coords) : Fin 2 → Nat :=
  let arg2 : BitVec 32 := BitVec.ofNat 32 (i 2).val
  let c256_i32_40 : BitVec 32 := 256#32
  let v74 : BitVec 32 := Scalar.muli arg2 c256_i32_40
  let v75 : BitVec 32 := v74
  let v76 : Index := Scalar.indexCast v75
  let c0_41 : Index := 0#32
  ![v76.toNat, 0]
@[reducible] def k0_t4_loop (i : grid0.Coords) : Scf.Loop 32 :=
  let c0_i32_54 : BitVec 32 := 0#32
  let arg2 : BitVec 32 := BitVec.ofNat 32 (i 2).val
  let c1_i32_51 : BitVec 32 := 1#32
  let v98 : BitVec 32 := Scalar.addi arg2 c1_i32_51
  let v101 : BitVec 32 := Scalar.subi v98 c0_i32_54
  let c1_i32_55 : BitVec 32 := 1#32
  let v103 : BitVec 32 := Scalar.divsi v101 c1_i32_55
  let v104 : BitVec 32 := Scalar.muli v103 c1_i32_55
  let v105 : BitVec 32 := Scalar.addi c0_i32_54 v104
  let c1_i32_56 : BitVec 32 := 1#32
  ⟨c0_i32_54, v105, c1_i32_56⟩
def k0_mult7 (i : grid0.Coords) (k0_t4 : Fin (k0_t4_loop i).trips) : BitVec 32 :=
  let c0_i32_54 : BitVec 32 := 0#32
  let c1_i32_56 : BitVec 32 := 1#32
  let arg24 : BitVec 32 := Scf.iv c0_i32_54 c1_i32_56 k0_t4
  let c256_i32_85 : BitVec 32 := 256#32
  let v154 : BitVec 32 := Scalar.muli arg24 c256_i32_85
  v154
def k0_off9 (i : grid0.Coords) (k0_t4 : Fin (k0_t4_loop i).trips) : Fin 2 → Nat :=
  let c0_i32_54 : BitVec 32 := 0#32
  let c1_i32_56 : BitVec 32 := 1#32
  let arg24 : BitVec 32 := Scf.iv c0_i32_54 c1_i32_56 k0_t4
  let c256_i32_85 : BitVec 32 := 256#32
  let v154 : BitVec 32 := Scalar.muli arg24 c256_i32_85
  let v155 : BitVec 32 := v154
  let v156 : Index := Scalar.indexCast v155
  let c0_86 : Index := 0#32
  ![v156.toNat, 0]
def k0_mult8 (i : grid0.Coords) (k0_t4 : Fin (k0_t4_loop i).trips) : BitVec 32 :=
  let c0_i32_54 : BitVec 32 := 0#32
  let c1_i32_56 : BitVec 32 := 1#32
  let arg24 : BitVec 32 := Scf.iv c0_i32_54 c1_i32_56 k0_t4
  let c256_i32_88 : BitVec 32 := 256#32
  let v163 : BitVec 32 := Scalar.muli arg24 c256_i32_88
  v163
def k0_mult9 (i : grid0.Coords) (k0_t4 : Fin (k0_t4_loop i).trips) : BitVec 32 :=
  let c0_i32_54 : BitVec 32 := 0#32
  let c1_i32_56 : BitVec 32 := 1#32
  let arg24 : BitVec 32 := Scf.iv c0_i32_54 c1_i32_56 k0_t4
  let c256_i32_91 : BitVec 32 := 256#32
  let v172 : BitVec 32 := Scalar.muli arg24 c256_i32_91
  v172
def k0_off10 (i : grid0.Coords) (k0_t4 : Fin (k0_t4_loop i).trips) : Fin 4 → Nat :=
  let c0_92 : Index := 0#32
  let c0_93 : Index := 0#32
  let c0_94 : Index := 0#32
  let c0_i32_54 : BitVec 32 := 0#32
  let c1_i32_56 : BitVec 32 := 1#32
  let arg24 : BitVec 32 := Scf.iv c0_i32_54 c1_i32_56 k0_t4
  let c256_i32_91 : BitVec 32 := 256#32
  let v172 : BitVec 32 := Scalar.muli arg24 c256_i32_91
  let v173 : BitVec 32 := v172
  let v174 : Index := Scalar.indexCast v173
  ![0, 0, 0, v174.toNat]
@[reducible] def k0_t5_loop (i : grid0.Coords) : Scf.Loop 32 :=
  let c0_i32_54 : BitVec 32 := 0#32
  let arg2 : BitVec 32 := BitVec.ofNat 32 (i 2).val
  let c1_i32_51 : BitVec 32 := 1#32
  let v98 : BitVec 32 := Scalar.addi arg2 c1_i32_51
  let v101 : BitVec 32 := Scalar.subi v98 c0_i32_54
  let c1_i32_55 : BitVec 32 := 1#32
  let v103 : BitVec 32 := Scalar.divsi v101 c1_i32_55
  let v104 : BitVec 32 := Scalar.muli v103 c1_i32_55
  let v105 : BitVec 32 := Scalar.addi c0_i32_54 v104
  let v102 : BitVec 32 := Scalar.addi c0_i32_54 v101
  let c1_i32_57 : BitVec 32 := 1#32
  ⟨v105, v102, c1_i32_57⟩
def k0_mult10 (i : grid0.Coords) (k0_t5 : Fin (k0_t5_loop i).trips) : BitVec 32 :=
  let c0_i32_54 : BitVec 32 := 0#32
  let arg2 : BitVec 32 := BitVec.ofNat 32 (i 2).val
  let c1_i32_51 : BitVec 32 := 1#32
  let v98 : BitVec 32 := Scalar.addi arg2 c1_i32_51
  let v101 : BitVec 32 := Scalar.subi v98 c0_i32_54
  let c1_i32_55 : BitVec 32 := 1#32
  let v103 : BitVec 32 := Scalar.divsi v101 c1_i32_55
  let v104 : BitVec 32 := Scalar.muli v103 c1_i32_55
  let v105 : BitVec 32 := Scalar.addi c0_i32_54 v104
  let c1_i32_57 : BitVec 32 := 1#32
  let arg24 : BitVec 32 := Scf.iv v105 c1_i32_57 k0_t5
  let c256_i32_85 : BitVec 32 := 256#32
  let v154 : BitVec 32 := Scalar.muli arg24 c256_i32_85
  v154
def k0_off11 (i : grid0.Coords) (k0_t5 : Fin (k0_t5_loop i).trips) : Fin 2 → Nat :=
  let c0_i32_54 : BitVec 32 := 0#32
  let arg2 : BitVec 32 := BitVec.ofNat 32 (i 2).val
  let c1_i32_51 : BitVec 32 := 1#32
  let v98 : BitVec 32 := Scalar.addi arg2 c1_i32_51
  let v101 : BitVec 32 := Scalar.subi v98 c0_i32_54
  let c1_i32_55 : BitVec 32 := 1#32
  let v103 : BitVec 32 := Scalar.divsi v101 c1_i32_55
  let v104 : BitVec 32 := Scalar.muli v103 c1_i32_55
  let v105 : BitVec 32 := Scalar.addi c0_i32_54 v104
  let c1_i32_57 : BitVec 32 := 1#32
  let arg24 : BitVec 32 := Scf.iv v105 c1_i32_57 k0_t5
  let c256_i32_85 : BitVec 32 := 256#32
  let v154 : BitVec 32 := Scalar.muli arg24 c256_i32_85
  let v155 : BitVec 32 := v154
  let v156 : Index := Scalar.indexCast v155
  let c0_86 : Index := 0#32
  ![v156.toNat, 0]
def k0_mult11 (i : grid0.Coords) (k0_t5 : Fin (k0_t5_loop i).trips) : BitVec 32 :=
  let c0_i32_54 : BitVec 32 := 0#32
  let arg2 : BitVec 32 := BitVec.ofNat 32 (i 2).val
  let c1_i32_51 : BitVec 32 := 1#32
  let v98 : BitVec 32 := Scalar.addi arg2 c1_i32_51
  let v101 : BitVec 32 := Scalar.subi v98 c0_i32_54
  let c1_i32_55 : BitVec 32 := 1#32
  let v103 : BitVec 32 := Scalar.divsi v101 c1_i32_55
  let v104 : BitVec 32 := Scalar.muli v103 c1_i32_55
  let v105 : BitVec 32 := Scalar.addi c0_i32_54 v104
  let c1_i32_57 : BitVec 32 := 1#32
  let arg24 : BitVec 32 := Scf.iv v105 c1_i32_57 k0_t5
  let c256_i32_88 : BitVec 32 := 256#32
  let v163 : BitVec 32 := Scalar.muli arg24 c256_i32_88
  v163
def k0_mult12 (i : grid0.Coords) (k0_t5 : Fin (k0_t5_loop i).trips) : BitVec 32 :=
  let c0_i32_54 : BitVec 32 := 0#32
  let arg2 : BitVec 32 := BitVec.ofNat 32 (i 2).val
  let c1_i32_51 : BitVec 32 := 1#32
  let v98 : BitVec 32 := Scalar.addi arg2 c1_i32_51
  let v101 : BitVec 32 := Scalar.subi v98 c0_i32_54
  let c1_i32_55 : BitVec 32 := 1#32
  let v103 : BitVec 32 := Scalar.divsi v101 c1_i32_55
  let v104 : BitVec 32 := Scalar.muli v103 c1_i32_55
  let v105 : BitVec 32 := Scalar.addi c0_i32_54 v104
  let c1_i32_57 : BitVec 32 := 1#32
  let arg24 : BitVec 32 := Scf.iv v105 c1_i32_57 k0_t5
  let c256_i32_91 : BitVec 32 := 256#32
  let v172 : BitVec 32 := Scalar.muli arg24 c256_i32_91
  v172
def k0_off12 (i : grid0.Coords) (k0_t5 : Fin (k0_t5_loop i).trips) : Fin 4 → Nat :=
  let c0_92 : Index := 0#32
  let c0_93 : Index := 0#32
  let c0_94 : Index := 0#32
  let c0_i32_54 : BitVec 32 := 0#32
  let arg2 : BitVec 32 := BitVec.ofNat 32 (i 2).val
  let c1_i32_51 : BitVec 32 := 1#32
  let v98 : BitVec 32 := Scalar.addi arg2 c1_i32_51
  let v101 : BitVec 32 := Scalar.subi v98 c0_i32_54
  let c1_i32_55 : BitVec 32 := 1#32
  let v103 : BitVec 32 := Scalar.divsi v101 c1_i32_55
  let v104 : BitVec 32 := Scalar.muli v103 c1_i32_55
  let v105 : BitVec 32 := Scalar.addi c0_i32_54 v104
  let c1_i32_57 : BitVec 32 := 1#32
  let arg24 : BitVec 32 := Scf.iv v105 c1_i32_57 k0_t5
  let c256_i32_91 : BitVec 32 := 256#32
  let v172 : BitVec 32 := Scalar.muli arg24 c256_i32_91
  let v173 : BitVec 32 := v172
  let v174 : Index := Scalar.indexCast v173
  ![0, 0, 0, v174.toNat]
@[reducible] def k0_t6_loop (i : grid0.Coords) : Scf.Loop 32 :=
  let c0_i32_72 : BitVec 32 := 0#32
  let arg2 : BitVec 32 := BitVec.ofNat 32 (i 2).val
  let c1_i32_69 : BitVec 32 := 1#32
  let v129 : BitVec 32 := Scalar.addi arg2 c1_i32_69
  let v132 : BitVec 32 := Scalar.subi v129 c0_i32_72
  let c1_i32_73 : BitVec 32 := 1#32
  let v134 : BitVec 32 := Scalar.divsi v132 c1_i32_73
  let v135 : BitVec 32 := Scalar.muli v134 c1_i32_73
  let v136 : BitVec 32 := Scalar.addi c0_i32_72 v135
  let c1_i32_74 : BitVec 32 := 1#32
  ⟨c0_i32_72, v136, c1_i32_74⟩
def k0_mult13 (i : grid0.Coords) (k0_t6 : Fin (k0_t6_loop i).trips) : BitVec 32 :=
  let c0_i32_72 : BitVec 32 := 0#32
  let c1_i32_74 : BitVec 32 := 1#32
  let arg24 : BitVec 32 := Scf.iv c0_i32_72 c1_i32_74 k0_t6
  let c256_i32_85 : BitVec 32 := 256#32
  let v154 : BitVec 32 := Scalar.muli arg24 c256_i32_85
  v154
def k0_off13 (i : grid0.Coords) (k0_t6 : Fin (k0_t6_loop i).trips) : Fin 2 → Nat :=
  let c0_i32_72 : BitVec 32 := 0#32
  let c1_i32_74 : BitVec 32 := 1#32
  let arg24 : BitVec 32 := Scf.iv c0_i32_72 c1_i32_74 k0_t6
  let c256_i32_85 : BitVec 32 := 256#32
  let v154 : BitVec 32 := Scalar.muli arg24 c256_i32_85
  let v155 : BitVec 32 := v154
  let v156 : Index := Scalar.indexCast v155
  let c0_86 : Index := 0#32
  ![v156.toNat, 0]
def k0_mult14 (i : grid0.Coords) (k0_t6 : Fin (k0_t6_loop i).trips) : BitVec 32 :=
  let c0_i32_72 : BitVec 32 := 0#32
  let c1_i32_74 : BitVec 32 := 1#32
  let arg24 : BitVec 32 := Scf.iv c0_i32_72 c1_i32_74 k0_t6
  let c256_i32_87 : BitVec 32 := 256#32
  let v160 : BitVec 32 := Scalar.muli arg24 c256_i32_87
  v160
def k0_off14 (i : grid0.Coords) (k0_t6 : Fin (k0_t6_loop i).trips) : Fin 4 → Nat :=
  let c0_88 : Index := 0#32
  let c0_89 : Index := 0#32
  let c0_i32_72 : BitVec 32 := 0#32
  let c1_i32_74 : BitVec 32 := 1#32
  let arg24 : BitVec 32 := Scf.iv c0_i32_72 c1_i32_74 k0_t6
  let c256_i32_87 : BitVec 32 := 256#32
  let v160 : BitVec 32 := Scalar.muli arg24 c256_i32_87
  let v161 : BitVec 32 := v160
  let v162 : Index := Scalar.indexCast v161
  let c0_90 : Index := 0#32
  ![0, 0, v162.toNat, 0]
def k0_mult15 (i : grid0.Coords) (k0_t6 : Fin (k0_t6_loop i).trips) : BitVec 32 :=
  let c0_i32_72 : BitVec 32 := 0#32
  let c1_i32_74 : BitVec 32 := 1#32
  let arg24 : BitVec 32 := Scf.iv c0_i32_72 c1_i32_74 k0_t6
  let c256_i32_93 : BitVec 32 := 256#32
  let v174 : BitVec 32 := Scalar.muli arg24 c256_i32_93
  v174
def k0_off15 (i : grid0.Coords) (k0_t6 : Fin (k0_t6_loop i).trips) : Fin 4 → Nat :=
  let c0_94 : Index := 0#32
  let c0_95 : Index := 0#32
  let c0_96 : Index := 0#32
  let c0_i32_72 : BitVec 32 := 0#32
  let c1_i32_74 : BitVec 32 := 1#32
  let arg24 : BitVec 32 := Scf.iv c0_i32_72 c1_i32_74 k0_t6
  let c256_i32_93 : BitVec 32 := 256#32
  let v174 : BitVec 32 := Scalar.muli arg24 c256_i32_93
  let v175 : BitVec 32 := v174
  let v176 : Index := Scalar.indexCast v175
  ![0, 0, 0, v176.toNat]
def k0_mult16 (i : grid0.Coords) (k0_t6 : Fin (k0_t6_loop i).trips) : BitVec 32 :=
  let c0_i32_72 : BitVec 32 := 0#32
  let c1_i32_74 : BitVec 32 := 1#32
  let arg24 : BitVec 32 := Scf.iv c0_i32_72 c1_i32_74 k0_t6
  let c256_i32_98 : BitVec 32 := 256#32
  let v181 : BitVec 32 := Scalar.muli arg24 c256_i32_98
  v181
def k0_off16 (i : grid0.Coords) (k0_t6 : Fin (k0_t6_loop i).trips) : Fin 2 → Nat :=
  let c0_99 : Index := 0#32
  let c0_i32_72 : BitVec 32 := 0#32
  let c1_i32_74 : BitVec 32 := 1#32
  let arg24 : BitVec 32 := Scf.iv c0_i32_72 c1_i32_74 k0_t6
  let c256_i32_98 : BitVec 32 := 256#32
  let v181 : BitVec 32 := Scalar.muli arg24 c256_i32_98
  let v182 : BitVec 32 := v181
  let v183 : Index := Scalar.indexCast v182
  ![0, v183.toNat]
def k0_mult17 (i : grid0.Coords) (k0_t6 : Fin (k0_t6_loop i).trips) : BitVec 32 :=
  let c0_i32_72 : BitVec 32 := 0#32
  let c1_i32_74 : BitVec 32 := 1#32
  let arg24 : BitVec 32 := Scf.iv c0_i32_72 c1_i32_74 k0_t6
  let c256_i32_102 : BitVec 32 := 256#32
  let v192 : BitVec 32 := Scalar.muli arg24 c256_i32_102
  v192
@[reducible] def k0_t7_loop (i : grid0.Coords) : Scf.Loop 32 :=
  let c0_i32_72 : BitVec 32 := 0#32
  let arg2 : BitVec 32 := BitVec.ofNat 32 (i 2).val
  let c1_i32_69 : BitVec 32 := 1#32
  let v129 : BitVec 32 := Scalar.addi arg2 c1_i32_69
  let v132 : BitVec 32 := Scalar.subi v129 c0_i32_72
  let c1_i32_73 : BitVec 32 := 1#32
  let v134 : BitVec 32 := Scalar.divsi v132 c1_i32_73
  let v135 : BitVec 32 := Scalar.muli v134 c1_i32_73
  let v136 : BitVec 32 := Scalar.addi c0_i32_72 v135
  let v133 : BitVec 32 := Scalar.addi c0_i32_72 v132
  let c1_i32_75 : BitVec 32 := 1#32
  ⟨v136, v133, c1_i32_75⟩
def k0_mult18 (i : grid0.Coords) (k0_t7 : Fin (k0_t7_loop i).trips) : BitVec 32 :=
  let c0_i32_72 : BitVec 32 := 0#32
  let arg2 : BitVec 32 := BitVec.ofNat 32 (i 2).val
  let c1_i32_69 : BitVec 32 := 1#32
  let v129 : BitVec 32 := Scalar.addi arg2 c1_i32_69
  let v132 : BitVec 32 := Scalar.subi v129 c0_i32_72
  let c1_i32_73 : BitVec 32 := 1#32
  let v134 : BitVec 32 := Scalar.divsi v132 c1_i32_73
  let v135 : BitVec 32 := Scalar.muli v134 c1_i32_73
  let v136 : BitVec 32 := Scalar.addi c0_i32_72 v135
  let c1_i32_75 : BitVec 32 := 1#32
  let arg24 : BitVec 32 := Scf.iv v136 c1_i32_75 k0_t7
  let c256_i32_85 : BitVec 32 := 256#32
  let v154 : BitVec 32 := Scalar.muli arg24 c256_i32_85
  v154
def k0_off17 (i : grid0.Coords) (k0_t7 : Fin (k0_t7_loop i).trips) : Fin 2 → Nat :=
  let c0_i32_72 : BitVec 32 := 0#32
  let arg2 : BitVec 32 := BitVec.ofNat 32 (i 2).val
  let c1_i32_69 : BitVec 32 := 1#32
  let v129 : BitVec 32 := Scalar.addi arg2 c1_i32_69
  let v132 : BitVec 32 := Scalar.subi v129 c0_i32_72
  let c1_i32_73 : BitVec 32 := 1#32
  let v134 : BitVec 32 := Scalar.divsi v132 c1_i32_73
  let v135 : BitVec 32 := Scalar.muli v134 c1_i32_73
  let v136 : BitVec 32 := Scalar.addi c0_i32_72 v135
  let c1_i32_75 : BitVec 32 := 1#32
  let arg24 : BitVec 32 := Scf.iv v136 c1_i32_75 k0_t7
  let c256_i32_85 : BitVec 32 := 256#32
  let v154 : BitVec 32 := Scalar.muli arg24 c256_i32_85
  let v155 : BitVec 32 := v154
  let v156 : Index := Scalar.indexCast v155
  let c0_86 : Index := 0#32
  ![v156.toNat, 0]
def k0_mult19 (i : grid0.Coords) (k0_t7 : Fin (k0_t7_loop i).trips) : BitVec 32 :=
  let c0_i32_72 : BitVec 32 := 0#32
  let arg2 : BitVec 32 := BitVec.ofNat 32 (i 2).val
  let c1_i32_69 : BitVec 32 := 1#32
  let v129 : BitVec 32 := Scalar.addi arg2 c1_i32_69
  let v132 : BitVec 32 := Scalar.subi v129 c0_i32_72
  let c1_i32_73 : BitVec 32 := 1#32
  let v134 : BitVec 32 := Scalar.divsi v132 c1_i32_73
  let v135 : BitVec 32 := Scalar.muli v134 c1_i32_73
  let v136 : BitVec 32 := Scalar.addi c0_i32_72 v135
  let c1_i32_75 : BitVec 32 := 1#32
  let arg24 : BitVec 32 := Scf.iv v136 c1_i32_75 k0_t7
  let c256_i32_87 : BitVec 32 := 256#32
  let v160 : BitVec 32 := Scalar.muli arg24 c256_i32_87
  v160
def k0_off18 (i : grid0.Coords) (k0_t7 : Fin (k0_t7_loop i).trips) : Fin 4 → Nat :=
  let c0_88 : Index := 0#32
  let c0_89 : Index := 0#32
  let c0_i32_72 : BitVec 32 := 0#32
  let arg2 : BitVec 32 := BitVec.ofNat 32 (i 2).val
  let c1_i32_69 : BitVec 32 := 1#32
  let v129 : BitVec 32 := Scalar.addi arg2 c1_i32_69
  let v132 : BitVec 32 := Scalar.subi v129 c0_i32_72
  let c1_i32_73 : BitVec 32 := 1#32
  let v134 : BitVec 32 := Scalar.divsi v132 c1_i32_73
  let v135 : BitVec 32 := Scalar.muli v134 c1_i32_73
  let v136 : BitVec 32 := Scalar.addi c0_i32_72 v135
  let c1_i32_75 : BitVec 32 := 1#32
  let arg24 : BitVec 32 := Scf.iv v136 c1_i32_75 k0_t7
  let c256_i32_87 : BitVec 32 := 256#32
  let v160 : BitVec 32 := Scalar.muli arg24 c256_i32_87
  let v161 : BitVec 32 := v160
  let v162 : Index := Scalar.indexCast v161
  let c0_90 : Index := 0#32
  ![0, 0, v162.toNat, 0]
def k0_mult20 (i : grid0.Coords) (k0_t7 : Fin (k0_t7_loop i).trips) : BitVec 32 :=
  let c0_i32_72 : BitVec 32 := 0#32
  let arg2 : BitVec 32 := BitVec.ofNat 32 (i 2).val
  let c1_i32_69 : BitVec 32 := 1#32
  let v129 : BitVec 32 := Scalar.addi arg2 c1_i32_69
  let v132 : BitVec 32 := Scalar.subi v129 c0_i32_72
  let c1_i32_73 : BitVec 32 := 1#32
  let v134 : BitVec 32 := Scalar.divsi v132 c1_i32_73
  let v135 : BitVec 32 := Scalar.muli v134 c1_i32_73
  let v136 : BitVec 32 := Scalar.addi c0_i32_72 v135
  let c1_i32_75 : BitVec 32 := 1#32
  let arg24 : BitVec 32 := Scf.iv v136 c1_i32_75 k0_t7
  let c256_i32_93 : BitVec 32 := 256#32
  let v174 : BitVec 32 := Scalar.muli arg24 c256_i32_93
  v174
def k0_off19 (i : grid0.Coords) (k0_t7 : Fin (k0_t7_loop i).trips) : Fin 4 → Nat :=
  let c0_94 : Index := 0#32
  let c0_95 : Index := 0#32
  let c0_96 : Index := 0#32
  let c0_i32_72 : BitVec 32 := 0#32
  let arg2 : BitVec 32 := BitVec.ofNat 32 (i 2).val
  let c1_i32_69 : BitVec 32 := 1#32
  let v129 : BitVec 32 := Scalar.addi arg2 c1_i32_69
  let v132 : BitVec 32 := Scalar.subi v129 c0_i32_72
  let c1_i32_73 : BitVec 32 := 1#32
  let v134 : BitVec 32 := Scalar.divsi v132 c1_i32_73
  let v135 : BitVec 32 := Scalar.muli v134 c1_i32_73
  let v136 : BitVec 32 := Scalar.addi c0_i32_72 v135
  let c1_i32_75 : BitVec 32 := 1#32
  let arg24 : BitVec 32 := Scf.iv v136 c1_i32_75 k0_t7
  let c256_i32_93 : BitVec 32 := 256#32
  let v174 : BitVec 32 := Scalar.muli arg24 c256_i32_93
  let v175 : BitVec 32 := v174
  let v176 : Index := Scalar.indexCast v175
  ![0, 0, 0, v176.toNat]
def k0_mult21 (i : grid0.Coords) (k0_t7 : Fin (k0_t7_loop i).trips) : BitVec 32 :=
  let c0_i32_72 : BitVec 32 := 0#32
  let arg2 : BitVec 32 := BitVec.ofNat 32 (i 2).val
  let c1_i32_69 : BitVec 32 := 1#32
  let v129 : BitVec 32 := Scalar.addi arg2 c1_i32_69
  let v132 : BitVec 32 := Scalar.subi v129 c0_i32_72
  let c1_i32_73 : BitVec 32 := 1#32
  let v134 : BitVec 32 := Scalar.divsi v132 c1_i32_73
  let v135 : BitVec 32 := Scalar.muli v134 c1_i32_73
  let v136 : BitVec 32 := Scalar.addi c0_i32_72 v135
  let c1_i32_75 : BitVec 32 := 1#32
  let arg24 : BitVec 32 := Scf.iv v136 c1_i32_75 k0_t7
  let c256_i32_98 : BitVec 32 := 256#32
  let v181 : BitVec 32 := Scalar.muli arg24 c256_i32_98
  v181
def k0_off20 (i : grid0.Coords) (k0_t7 : Fin (k0_t7_loop i).trips) : Fin 2 → Nat :=
  let c0_99 : Index := 0#32
  let c0_i32_72 : BitVec 32 := 0#32
  let arg2 : BitVec 32 := BitVec.ofNat 32 (i 2).val
  let c1_i32_69 : BitVec 32 := 1#32
  let v129 : BitVec 32 := Scalar.addi arg2 c1_i32_69
  let v132 : BitVec 32 := Scalar.subi v129 c0_i32_72
  let c1_i32_73 : BitVec 32 := 1#32
  let v134 : BitVec 32 := Scalar.divsi v132 c1_i32_73
  let v135 : BitVec 32 := Scalar.muli v134 c1_i32_73
  let v136 : BitVec 32 := Scalar.addi c0_i32_72 v135
  let c1_i32_75 : BitVec 32 := 1#32
  let arg24 : BitVec 32 := Scf.iv v136 c1_i32_75 k0_t7
  let c256_i32_98 : BitVec 32 := 256#32
  let v181 : BitVec 32 := Scalar.muli arg24 c256_i32_98
  let v182 : BitVec 32 := v181
  let v183 : Index := Scalar.indexCast v182
  ![0, v183.toNat]
def k0_mult22 (i : grid0.Coords) (k0_t7 : Fin (k0_t7_loop i).trips) : BitVec 32 :=
  let c0_i32_72 : BitVec 32 := 0#32
  let arg2 : BitVec 32 := BitVec.ofNat 32 (i 2).val
  let c1_i32_69 : BitVec 32 := 1#32
  let v129 : BitVec 32 := Scalar.addi arg2 c1_i32_69
  let v132 : BitVec 32 := Scalar.subi v129 c0_i32_72
  let c1_i32_73 : BitVec 32 := 1#32
  let v134 : BitVec 32 := Scalar.divsi v132 c1_i32_73
  let v135 : BitVec 32 := Scalar.muli v134 c1_i32_73
  let v136 : BitVec 32 := Scalar.addi c0_i32_72 v135
  let c1_i32_75 : BitVec 32 := 1#32
  let arg24 : BitVec 32 := Scf.iv v136 c1_i32_75 k0_t7
  let c256_i32_102 : BitVec 32 := 256#32
  let v192 : BitVec 32 := Scalar.muli arg24 c256_i32_102
  v192
def k0_cond2 (i : grid0.Coords) : BitVec 1 :=
  let arg2 : BitVec 32 := BitVec.ofNat 32 (i 2).val
  let c15_i32 : BitVec 32 := 15#32
  let v4 : BitVec 1 := Scalar.cmpi .eq arg2 c15_i32
  let v5 : BitVec 32 := Scalar.extui v4
  let c0_i32_3 : BitVec 32 := 0#32
  let v6 : BitVec 1 := Scalar.cmpi .ne v5 c0_i32_3
  v6

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat, arg2.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_13 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_14 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat, arg2.toNat]

def cc0_transform_15 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_16 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x5x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x5x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x128x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1x5x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x5x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x5x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x5x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x1x5x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x1x5x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S1x1x5x128x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S1x1x1x4096 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, false]

abbrev stage0_16 : Fin 2 → Memref sig .tc .vmem S1x1x1x4096 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, false]
-- ==== KernelIdeal.lean ====
variable {F : FTy → Type} [FloatOps F] [Named F]
def κ : String → Option EReal := fun
  | "scale_log2e" => some (((11863283 / 134217728) * (Real.log 2)⁻¹ : ℝ) : EReal)
  | _ => none
-- ==== ReferenceIdeal.lean ====
abbrev S6x4096x40x128 : Shape := ⟨4, ![6, 4096, 40, 128]⟩
abbrev S6x4096x8x128 : Shape := ⟨4, ![6, 4096, 8, 128]⟩
abbrev S6x64x4096 : Shape := ⟨3, ![6, 64, 4096]⟩
abbrev S6x4096x64 : Shape := ⟨3, ![6, 4096, 64]⟩
abbrev S6x4096x1x64 : Shape := ⟨4, ![6, 4096, 1, 64]⟩
abbrev S6x4096x40x64 : Shape := ⟨4, ![6, 4096, 40, 64]⟩
abbrev S6x4096x8x5x128 : Shape := ⟨5, ![6, 4096, 8, 5, 128]⟩
abbrev S6x8x5x4096x128 : Shape := ⟨5, ![6, 8, 5, 4096, 128]⟩
abbrev S6x8x4096x128 : Shape := ⟨4, ![6, 8, 4096, 128]⟩
abbrev S_ : Shape := ⟨0, ![]⟩
abbrev S6x8x5x4096 : Shape := ⟨4, ![6, 8, 5, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S6x8x5x4096x4096 : Shape := ⟨5, ![6, 8, 5, 4096, 4096]⟩
abbrev S6x8x5x4096x1 : Shape := ⟨5, ![6, 8, 5, 4096, 1]⟩
abbrev S6x8x5x128x4096 : Shape := ⟨5, ![6, 8, 5, 128, 4096]⟩
abbrev S6x8x4096 : Shape := ⟨3, ![6, 8, 4096]⟩
abbrev S6x8x1x4096 : Shape := ⟨4, ![6, 8, 1, 4096]⟩

abbrev nBuf : Space → Nat
  | .hbm => 117
  | .vmem => 0
  | .smem => 0
  | _ => 0

abbrev bufTy : (tb : Table) → Fin (tcTables nBuf tb) → BufTy
  | .hbm, ⟨0, _⟩ => ⟨S6x4096x40x128, .bf16⟩
  | .hbm, ⟨1, _⟩ => ⟨S6x4096x8x128, .bf16⟩
  | .hbm, ⟨2, _⟩ => ⟨S6x4096x8x128, .bf16⟩
  | .hbm, ⟨3, _⟩ => ⟨S6x64x4096, .f32⟩
  | .hbm, ⟨4, _⟩ => ⟨S6x64x4096, .f32⟩
  | .hbm, ⟨5, _⟩ => ⟨S6x4096x40x128, .bf16⟩
  | .hbm, ⟨6, _⟩ => ⟨S6x4096x64, .f32⟩
  | .hbm, ⟨7, _⟩ => ⟨S6x4096x1x64, .f32⟩
  | .hbm, ⟨8, _⟩ => ⟨S6x4096x64, .f32⟩
  | .hbm, ⟨9, _⟩ => ⟨S6x4096x1x64, .f32⟩
  | .hbm, ⟨10, _⟩ => ⟨S6x4096x40x64, .bf16⟩
  | .hbm, ⟨11, _⟩ => ⟨S6x4096x40x64, .f32⟩
  | .hbm, ⟨12, _⟩ => ⟨S6x4096x40x64, .bf16⟩
  | .hbm, ⟨13, _⟩ => ⟨S6x4096x40x64, .f32⟩
  | .hbm, ⟨14, _⟩ => ⟨S6x4096x40x64, .f32⟩
  | .hbm, ⟨15, _⟩ => ⟨S6x4096x40x64, .f32⟩
  | .hbm, ⟨16, _⟩ => ⟨S6x4096x40x64, .f32⟩
  | .hbm, ⟨17, _⟩ => ⟨S6x4096x40x64, .f32⟩
  | .hbm, ⟨18, _⟩ => ⟨S6x4096x40x64, .f32⟩
  | .hbm, ⟨19, _⟩ => ⟨S6x4096x40x64, .f32⟩
  | .hbm, ⟨20, _⟩ => ⟨S6x4096x40x64, .f32⟩
  | .hbm, ⟨21, _⟩ => ⟨S6x4096x40x64, .f32⟩
  | .hbm, ⟨22, _⟩ => ⟨S6x4096x40x64, .f32⟩
  | .hbm, ⟨23, _⟩ => ⟨S6x4096x40x64, .f32⟩
  | .hbm, ⟨24, _⟩ => ⟨S6x4096x40x128, .f32⟩
  | .hbm, ⟨25, _⟩ => ⟨S6x4096x40x128, .bf16⟩
  | .hbm, ⟨26, _⟩ => ⟨S6x4096x8x5x128, .bf16⟩
  | .hbm, ⟨27, _⟩ => ⟨S6x8x5x4096x128, .bf16⟩
  | .hbm, ⟨28, _⟩ => ⟨S6x4096x8x5x128, .bf16⟩
  | .hbm, ⟨29, _⟩ => ⟨S6x8x5x4096x128, .bf16⟩
  | .hbm, ⟨30, _⟩ => ⟨S6x8x4096x128, .bf16⟩
  | .hbm, ⟨31, _⟩ => ⟨S6x8x4096x128, .bf16⟩
  | .hbm, ⟨32, _⟩ => ⟨S6x8x5x4096x128, .f32⟩
  | .hbm, ⟨33, _⟩ => ⟨S6x8x5x4096x128, .f32⟩
  | .hbm, ⟨34, _⟩ => ⟨S_, .f32⟩
  | .hbm, ⟨35, _⟩ => ⟨S6x8x5x4096, .f32⟩
  | .hbm, ⟨36, _⟩ => ⟨S6x8x5x4096x128, .f32⟩
  | .hbm, ⟨37, _⟩ => ⟨S6x8x5x4096x128, .f32⟩
  | .hbm, ⟨38, _⟩ => ⟨S_, .f32⟩
  | .hbm, ⟨39, _⟩ => ⟨S6x8x5x4096, .f32⟩
  | .hbm, ⟨40, _⟩ => ⟨S4096, .i32⟩
  | .hbm, ⟨41, _⟩ => ⟨S1x4096, .i32⟩
  | .hbm, ⟨42, _⟩ => ⟨S4096, .i32⟩
  | .hbm, ⟨43, _⟩ => ⟨S4096x1, .i32⟩
  | .hbm, ⟨44, _⟩ => ⟨S4096x4096, .i32⟩
  | .hbm, ⟨45, _⟩ => ⟨S4096x4096, .i32⟩
  | .hbm, ⟨46, _⟩ => ⟨S4096x4096, .i1⟩
  | .hbm, ⟨47, _⟩ => ⟨S6x8x5x4096x4096, .f32⟩
  | .hbm, ⟨48, _⟩ => ⟨S_, .f32⟩
  | .hbm, ⟨49, _⟩ => ⟨S6x8x5x4096x4096, .f32⟩
  | .hbm, ⟨50, _⟩ => ⟨S6x8x5x4096x4096, .f32⟩
  | .hbm, ⟨51, _⟩ => ⟨S6x8x5x4096x4096, .f32⟩
  | .hbm, ⟨52, _⟩ => ⟨S_, .f32⟩
  | .hbm, ⟨53, _⟩ => ⟨S_, .f32⟩
  | .hbm, ⟨54, _⟩ => ⟨S6x8x5x4096x4096, .i1⟩
  | .hbm, ⟨55, _⟩ => ⟨S6x8x5x4096x4096, .f32⟩
  | .hbm, ⟨56, _⟩ => ⟨S6x8x5x4096x4096, .f32⟩
  | .hbm, ⟨57, _⟩ => ⟨S_, .f32⟩
  | .hbm, ⟨58, _⟩ => ⟨S6x8x5x4096, .f32⟩
  | .hbm, ⟨59, _⟩ => ⟨S_, .f32⟩
  | .hbm, ⟨60, _⟩ => ⟨S_, .f32⟩
  | .hbm, ⟨61, _⟩ => ⟨S6x8x5x4096x4096, .i1⟩
  | .hbm, ⟨62, _⟩ => ⟨S6x8x5x4096x4096, .f32⟩
  | .hbm, ⟨63, _⟩ => ⟨S6x8x5x4096x4096, .f32⟩
  | .hbm, ⟨64, _⟩ => ⟨S_, .f32⟩
  | .hbm, ⟨65, _⟩ => ⟨S6x8x5x4096, .f32⟩
  | .hbm, ⟨66, _⟩ => ⟨S_, .f32⟩
  | .hbm, ⟨67, _⟩ => ⟨S6x8x5x4096, .f32⟩
  | .hbm, ⟨68, _⟩ => ⟨S6x8x5x4096, .f32⟩
  | .hbm, ⟨69, _⟩ => ⟨S6x8x5x4096x1, .f32⟩
  | .hbm, ⟨70, _⟩ => ⟨S6x8x5x4096x4096, .f32⟩
  | .hbm, ⟨71, _⟩ => ⟨S6x8x5x4096x4096, .f32⟩
  | .hbm, ⟨72, _⟩ => ⟨S6x8x5x4096x4096, .f32⟩
  | .hbm, ⟨73, _⟩ => ⟨S_, .f32⟩
  | .hbm, ⟨74, _⟩ => ⟨S6x8x5x4096, .f32⟩
  | .hbm, ⟨75, _⟩ => ⟨S6x8x5x4096x1, .f32⟩
  | .hbm, ⟨76, _⟩ => ⟨S6x8x5x4096x4096, .f32⟩
  | .hbm, ⟨77, _⟩ => ⟨S6x8x5x4096x4096, .f32⟩
  | .hbm, ⟨78, _⟩ => ⟨S6x8x5x4096x4096, .bf16⟩
  | .hbm, ⟨79, _⟩ => ⟨S6x8x5x4096x128, .f32⟩
  | .hbm, ⟨80, _⟩ => ⟨S6x8x5x4096x4096, .f32⟩
  | .hbm, ⟨81, _⟩ => ⟨S6x8x5x4096x128, .f32⟩
  | .hbm, ⟨82, _⟩ => ⟨S6x8x5x4096x128, .f32⟩
  | .hbm, ⟨83, _⟩ => ⟨S_, .f32⟩
  | .hbm, ⟨84, _⟩ => ⟨S6x8x5x4096, .f32⟩
  | .hbm, ⟨85, _⟩ => ⟨S6x8x5x4096x1, .f32⟩
  | .hbm, ⟨86, _⟩ => ⟨S6x8x5x4096x4096, .f32⟩
  | .hbm, ⟨87, _⟩ => ⟨S6x8x5x4096x4096, .f32⟩
  | .hbm, ⟨88, _⟩ => ⟨S6x8x5x4096x4096, .f32⟩
  | .hbm, ⟨89, _⟩ => ⟨S6x8x5x4096x4096, .bf16⟩
  | .hbm, ⟨90, _⟩ => ⟨S6x8x5x4096x128, .f32⟩
  | .hbm, ⟨91, _⟩ => ⟨S_, .f32⟩
  | .hbm, ⟨92, _⟩ => ⟨S6x8x5x4096x128, .f32⟩
  | .hbm, ⟨93, _⟩ => ⟨S6x8x5x4096x128, .f32⟩
  | .hbm, ⟨94, _⟩ => ⟨S6x8x4096x128, .f32⟩
  | .hbm, ⟨95, _⟩ => ⟨S_, .f32⟩
  | .hbm, ⟨96, _⟩ => ⟨S6x8x4096x128, .f32⟩
  | .hbm, ⟨97, _⟩ => ⟨S6x8x4096x128, .f32⟩
  | .hbm, ⟨98, _⟩ => ⟨S6x8x4096x128, .f32⟩
  | .hbm, ⟨99, _⟩ => ⟨S6x8x5x4096x128, .f32⟩
  | .hbm, ⟨100, _⟩ => ⟨S_, .f32⟩
  | .hbm, ⟨101, _⟩ => ⟨S6x8x5x4096, .f32⟩
  | .hbm, ⟨102, _⟩ => ⟨S6x8x5x4096x4096, .f32⟩
  | .hbm, ⟨103, _⟩ => ⟨S_, .f32⟩
  | .hbm, ⟨104, _⟩ => ⟨S6x8x5x4096, .f32⟩
  | .hbm, ⟨105, _⟩ => ⟨S6x8x5x4096x128, .f32⟩
  | .hbm, ⟨106, _⟩ => ⟨S_, .f32⟩
  | .hbm, ⟨107, _⟩ => ⟨S6x8x5x4096, .f32⟩
  | .hbm, ⟨108, _⟩ => ⟨S6x8x5x128x4096, .f32⟩
  | .hbm, ⟨109, _⟩ => ⟨S6x8x4096x128, .f32⟩
  | .hbm, ⟨110, _⟩ => ⟨S_, .f32⟩
  | .hbm, ⟨111, _⟩ => ⟨S6x8x4096, .f32⟩
  | .hbm, ⟨112, _⟩ => ⟨S6x8x1x4096, .f32⟩
  | .hbm, ⟨113, _⟩ => ⟨S6x8x4096x128, .f32⟩
  | .hbm, ⟨114, _⟩ => ⟨S_, .f32⟩
  | .hbm, ⟨115, _⟩ => ⟨S6x8x4096, .f32⟩
  | .hbm, ⟨116, _⟩ => ⟨S6x8x1x4096, .f32⟩
  | _, _ => ⟨S6x4096x40x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_0 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_1 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_2 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v43 : Ref sig .tc := ⟨.hbm, 56, rfl⟩
abbrev main_cst_3 : Ref sig .tc := ⟨.hbm, 57, rfl⟩
abbrev main_v44 : Ref sig .tc := ⟨.hbm, 58, rfl⟩
abbrev main_cst_4 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v45 : Ref sig .tc := ⟨.hbm, 63, rfl⟩
abbrev main_cst_5 : Ref sig .tc := ⟨.hbm, 64, rfl⟩
abbrev main_v46 : Ref sig .tc := ⟨.hbm, 65, rfl⟩
abbrev main_cst_6 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_7 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_8 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_9 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_10 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_11 : Ref sig .tc := ⟨.hbm, 100, rfl⟩
abbrev main_v76 : Ref sig .tc := ⟨.hbm, 101, rfl⟩
abbrev main_v77 : Ref sig .tc := ⟨.hbm, 102, rfl⟩
abbrev main_cst_12 : Ref sig .tc := ⟨.hbm, 103, rfl⟩
abbrev main_v78 : Ref sig .tc := ⟨.hbm, 104, rfl⟩
abbrev main_v79 : Ref sig .tc := ⟨.hbm, 105, rfl⟩
abbrev main_cst_13 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_14 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_15 : Ref sig .tc := ⟨.hbm, 114, rfl⟩
abbrev main_v86 : Ref sig .tc := ⟨.hbm, 115, rfl⟩
abbrev main_v87 : Ref sig .tc := ⟨.hbm, 116, rfl⟩

abbrev nD : Nat := 1
abbrev τ : Topo := Topo.v7x

variable {F : FTy → Type} [FloatOps F]
-- ==== Prep.lean ====
abbrev S6x4096x8x128 : Shape := ⟨4, ![6, 4096, 8, 128]⟩
abbrev S6x64x4096 : Shape := ⟨3, ![6, 64, 4096]⟩
abbrev S6x8x128x4096 : Shape := ⟨4, ![6, 8, 128, 4096]⟩
abbrev S6x8x4096x128 : Shape := ⟨4, ![6, 8, 4096, 128]⟩
abbrev S6x8x1x4096 : Shape := ⟨4, ![6, 8, 1, 4096]⟩
abbrev S1x1x128x1024 : Shape := ⟨4, ![1, 1, 128, 1024]⟩
abbrev S1x64x1024 : Shape := ⟨3, ![1, 64, 1024]⟩
abbrev S1x1x1024x128 : Shape := ⟨4, ![1, 1, 1024, 128]⟩
abbrev S1x1x1x1024 : Shape := ⟨4, ![1, 1, 1, 1024]⟩
abbrev S128x1024 : Shape := ⟨2, ![128, 1024]⟩
abbrev S64x1024 : Shape := ⟨2, ![64, 1024]⟩
abbrev S1024x128 : Shape := ⟨2, ![1024, 128]⟩
abbrev S1024 : Shape := ⟨1, ![1024]⟩
abbrev S1x1024 : Shape := ⟨2, ![1, 1024]⟩

abbrev nBuf : Space → Nat
  | .hbm => 10
  | .vmem => 16
  | .smem => 0
  | _ => 0

abbrev bufTy : (tb : Table) → Fin (tcTables nBuf tb) → BufTy
  | .hbm, ⟨0, _⟩ => ⟨S6x4096x8x128, .bf16⟩
  | .hbm, ⟨1, _⟩ => ⟨S6x4096x8x128, .bf16⟩
  | .hbm, ⟨2, _⟩ => ⟨S6x64x4096, .f32⟩
  | .hbm, ⟨3, _⟩ => ⟨S6x64x4096, .f32⟩
  | .hbm, ⟨4, _⟩ => ⟨S6x8x128x4096, .bf16⟩
  | .hbm, ⟨5, _⟩ => ⟨S6x8x128x4096, .bf16⟩
  | .hbm, ⟨6, _⟩ => ⟨S6x8x128x4096, .bf16⟩
  | .hbm, ⟨7, _⟩ => ⟨S6x8x4096x128, .bf16⟩
  | .hbm, ⟨8, _⟩ => ⟨S6x8x1x4096, .f32⟩
  | .hbm, ⟨9, _⟩ => ⟨S6x8x1x4096, .f32⟩
  | .local _ .vmem, ⟨0, _⟩ => ⟨S1x1x128x1024, .bf16⟩
  | .local _ .vmem, ⟨1, _⟩ => ⟨S1x1x128x1024, .bf16⟩
  | .local _ .vmem, ⟨2, _⟩ => ⟨S1x1x128x1024, .bf16⟩
  | .local _ .vmem, ⟨3, _⟩ => ⟨S1x1x128x1024, .bf16⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x1x128x1024, .bf16⟩
  | .local _ .vmem, ⟨9, _⟩ => ⟨S1x1x128x1024, .bf16⟩
  | .local _ .vmem, ⟨10, _⟩ => ⟨S1x1x1024x128, .bf16⟩
  | .local _ .vmem, ⟨11, _⟩ => ⟨S1x1x1024x128, .bf16⟩
  | .local _ .vmem, ⟨12, _⟩ => ⟨S1x1x1x1024, .f32⟩
  | .local _ .vmem, ⟨13, _⟩ => ⟨S1x1x1x1024, .f32⟩
  | .local _ .vmem, ⟨14, _⟩ => ⟨S1x1x1x1024, .f32⟩
  | .local _ .vmem, ⟨15, _⟩ => ⟨S1x1x1x1024, .f32⟩
  | _, _ => ⟨S6x4096x8x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![6, 8, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== PrepReferenceIdeal.lean ====
abbrev S6x4096x8x128 : Shape := ⟨4, ![6, 4096, 8, 128]⟩
abbrev S6x64x4096 : Shape := ⟨3, ![6, 64, 4096]⟩
abbrev S6x4096x64 : Shape := ⟨3, ![6, 4096, 64]⟩
abbrev S6x4096x1x64 : Shape := ⟨4, ![6, 4096, 1, 64]⟩
abbrev S6x4096x8x64 : Shape := ⟨4, ![6, 4096, 8, 64]⟩
abbrev S_ : Shape := ⟨0, ![]⟩
abbrev S6x4096x8 : Shape := ⟨3, ![6, 4096, 8]⟩
abbrev S6x8x128x4096 : Shape := ⟨4, ![6, 8, 128, 4096]⟩
abbrev S6x8x4096x128 : Shape := ⟨4, ![6, 8, 4096, 128]⟩
abbrev S6x8x4096 : Shape := ⟨3, ![6, 8, 4096]⟩
abbrev S6x8x1x4096 : Shape := ⟨4, ![6, 8, 1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S6x4096x8x128, .bf16⟩
  | .hbm, ⟨1, _⟩ => ⟨S6x4096x8x128, .bf16⟩
  | .hbm, ⟨2, _⟩ => ⟨S6x64x4096, .f32⟩
  | .hbm, ⟨3, _⟩ => ⟨S6x64x4096, .f32⟩
  | .hbm, ⟨4, _⟩ => ⟨S6x4096x64, .f32⟩
  | .hbm, ⟨5, _⟩ => ⟨S6x4096x1x64, .f32⟩
  | .hbm, ⟨6, _⟩ => ⟨S6x4096x64, .f32⟩
  | .hbm, ⟨7, _⟩ => ⟨S6x4096x1x64, .f32⟩
  | .hbm, ⟨8, _⟩ => ⟨S6x4096x8x64, .bf16⟩
  | .hbm, ⟨9, _⟩ => ⟨S6x4096x8x64, .f32⟩
  | .hbm, ⟨10, _⟩ => ⟨S6x4096x8x64, .bf16⟩
  | .hbm, ⟨11, _⟩ => ⟨S6x4096x8x64, .f32⟩
  | .hbm, ⟨12, _⟩ => ⟨S6x4096x8x64, .f32⟩
  | .hbm, ⟨13, _⟩ => ⟨S6x4096x8x64, .f32⟩
  | .hbm, ⟨14, _⟩ => ⟨S6x4096x8x64, .f32⟩
  | .hbm, ⟨15, _⟩ => ⟨S6x4096x8x64, .f32⟩
  | .hbm, ⟨16, _⟩ => ⟨S6x4096x8x64, .f32⟩
  | .hbm, ⟨17, _⟩ => ⟨S6x4096x8x64, .f32⟩
  | .hbm, ⟨18, _⟩ => ⟨S6x4096x8x64, .f32⟩
  | .hbm, ⟨19, _⟩ => ⟨S6x4096x8x64, .f32⟩
  | .hbm, ⟨20, _⟩ => ⟨S6x4096x8x64, .f32⟩
  | .hbm, ⟨21, _⟩ => ⟨S6x4096x8x64, .f32⟩
  | .hbm, ⟨22, _⟩ => ⟨S6x4096x8x128, .f32⟩
  | .hbm, ⟨23, _⟩ => ⟨S6x4096x8x128, .bf16⟩
  | .hbm, ⟨24, _⟩ => ⟨S6x4096x8x128, .f32⟩
  | .hbm, ⟨25, _⟩ => ⟨S6x4096x8x128, .f32⟩
  | .hbm, ⟨26, _⟩ => ⟨S_, .f32⟩
  | .hbm, ⟨27, _⟩ => ⟨S6x4096x8, .f32⟩
  | .hbm, ⟨28, _⟩ => ⟨S6x4096x8x128, .f32⟩
  | .hbm, ⟨29, _⟩ => ⟨S6x4096x8x128, .f32⟩
  | .hbm, ⟨30, _⟩ => ⟨S_, .f32⟩
  | .hbm, ⟨31, _⟩ => ⟨S6x4096x8, .f32⟩
  | .hbm, ⟨32, _⟩ => ⟨S6x8x128x4096, .bf16⟩
  | .hbm, ⟨33, _⟩ => ⟨S6x8x4096x128, .bf16⟩
  | .hbm, ⟨34, _⟩ => ⟨S6x8x4096, .f32⟩
  | .hbm, ⟨35, _⟩ => ⟨S6x8x1x4096, .f32⟩
  | .hbm, ⟨36, _⟩ => ⟨S6x8x4096, .f32⟩
  | .hbm, ⟨37, _⟩ => ⟨S6x8x1x4096, .f32⟩
  | _, _ => ⟨S6x4096x8x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_0 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩

abbrev nD : Nat := 1
abbrev τ : Topo := Topo.v7x

variable {F : FTy → Type} [FloatOps F]
-- ==== QuantO.lean ====
abbrev S6x40x128x4096 : Shape := ⟨4, ![6, 40, 128, 4096]⟩
abbrev S40 : Shape := ⟨1, ![40]⟩
abbrev S_ : Shape := ⟨0, ![]⟩
abbrev S40x1x1 : Shape := ⟨3, ![40, 1, 1]⟩
abbrev S6x40x4096x128 : Shape := ⟨4, ![6, 40, 4096, 128]⟩
abbrev S1x1x128x2048 : Shape := ⟨4, ![1, 1, 128, 2048]⟩
abbrev S1x1x1 : Shape := ⟨3, ![1, 1, 1]⟩
abbrev S1x1x2048x128 : Shape := ⟨4, ![1, 1, 2048, 128]⟩
abbrev S128x2048 : Shape := ⟨2, ![128, 2048]⟩
abbrev S1x1 : Shape := ⟨2, ![1, 1]⟩
abbrev S2048x128 : Shape := ⟨2, ![2048, 128]⟩

abbrev nBuf : Space → Nat
  | .hbm => 14
  | .vmem => 6
  | .smem => 0
  | _ => 0

abbrev bufTy : (tb : Table) → Fin (tcTables nBuf tb) → BufTy
  | .hbm, ⟨0, _⟩ => ⟨S6x40x128x4096, .f32⟩
  | .hbm, ⟨1, _⟩ => ⟨S40, .f32⟩
  | .hbm, ⟨2, _⟩ => ⟨S_, .f32⟩
  | .hbm, ⟨3, _⟩ => ⟨S40, .f32⟩
  | .hbm, ⟨4, _⟩ => ⟨S40, .i1⟩
  | .hbm, ⟨5, _⟩ => ⟨S_, .f32⟩
  | .hbm, ⟨6, _⟩ => ⟨S40, .f32⟩
  | .hbm, ⟨7, _⟩ => ⟨S40, .f32⟩
  | .hbm, ⟨8, _⟩ => ⟨S_, .f32⟩
  | .hbm, ⟨9, _⟩ => ⟨S_, .f32⟩
  | .hbm, ⟨10, _⟩ => ⟨S40, .f32⟩
  | .hbm, ⟨11, _⟩ => ⟨S40, .f32⟩
  | .hbm, ⟨12, _⟩ => ⟨S40x1x1, .f32⟩
  | .hbm, ⟨13, _⟩ => ⟨S6x40x4096x128, .fp8e4m3⟩
  | .local _ .vmem, ⟨0, _⟩ => ⟨S1x1x128x2048, .f32⟩
  | .local _ .vmem, ⟨1, _⟩ => ⟨S1x1x128x2048, .f32⟩
  | .local _ .vmem, ⟨2, _⟩ => ⟨S1x1x1, .f32⟩
  | .local _ .vmem, ⟨3, _⟩ => ⟨S1x1x1, .f32⟩
  | .local _ .vmem, ⟨4, _⟩ => ⟨S1x1x2048x128, .fp8e4m3⟩
  | .local _ .vmem, ⟨5, _⟩ => ⟨S1x1x2048x128, .fp8e4m3⟩
  | _, _ => ⟨S6x40x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 40, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1x2048x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== QuantOReferenceIdeal.lean ====
abbrev S6x40x128x4096 : Shape := ⟨4, ![6, 40, 128, 4096]⟩
abbrev S40 : Shape := ⟨1, ![40]⟩
abbrev S_ : Shape := ⟨0, ![]⟩
abbrev S6x40x4096x128 : Shape := ⟨4, ![6, 40, 4096, 128]⟩
abbrev S1x40x1x1 : Shape := ⟨4, ![1, 40, 1, 1]⟩

abbrev nBuf : Space → Nat
  | .hbm => 25
  | .vmem => 0
  | .smem => 0
  | _ => 0

abbrev bufTy : (tb : Table) → Fin (tcTables nBuf tb) → BufTy
  | .hbm, ⟨0, _⟩ => ⟨S6x40x128x4096, .f32⟩
  | .hbm, ⟨1, _⟩ => ⟨S40, .f32⟩
  | .hbm, ⟨2, _⟩ => ⟨S_, .f32⟩
  | .hbm, ⟨3, _⟩ => ⟨S40, .f32⟩
  | .hbm, ⟨4, _⟩ => ⟨S40, .i1⟩
  | .hbm, ⟨5, _⟩ => ⟨S_, .f32⟩
  | .hbm, ⟨6, _⟩ => ⟨S40, .f32⟩
  | .hbm, ⟨7, _⟩ => ⟨S40, .f32⟩
  | .hbm, ⟨8, _⟩ => ⟨S_, .f32⟩
  | .hbm, ⟨9, _⟩ => ⟨S_, .f32⟩
  | .hbm, ⟨10, _⟩ => ⟨S40, .f32⟩
  | .hbm, ⟨11, _⟩ => ⟨S40, .f32⟩
  | .hbm, ⟨12, _⟩ => ⟨S6x40x4096x128, .f32⟩
  | .hbm, ⟨13, _⟩ => ⟨S1x40x1x1, .f32⟩
  | .hbm, ⟨14, _⟩ => ⟨S6x40x4096x128, .f32⟩
  | .hbm, ⟨15, _⟩ => ⟨S6x40x4096x128, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S6x40x4096x128, .f32⟩
  | .hbm, ⟨20, _⟩ => ⟨S6x40x4096x128, .f32⟩
  | .hbm, ⟨21, _⟩ => ⟨S_, .f32⟩
  | .hbm, ⟨22, _⟩ => ⟨S6x40x4096x128, .f32⟩
  | .hbm, ⟨23, _⟩ => ⟨S6x40x4096x128, .f32⟩
  | .hbm, ⟨24, _⟩ => ⟨S6x40x4096x128, .fp8e4m3⟩
  | _, _ => ⟨S6x40x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v9 : Ref sig .tc := ⟨.hbm, 23, rfl⟩
abbrev main_v10 : Ref sig .tc := ⟨.hbm, 24, rfl⟩

abbrev nD : Nat := 1
abbrev τ : Topo := Topo.v7x

variable {F : FTy → Type} [FloatOps F]
-- ==== QuantDo.lean ====
abbrev S6x4096x40x128 : Shape := ⟨4, ![6, 4096, 40, 128]⟩
abbrev S40 : Shape := ⟨1, ![40]⟩
abbrev S_ : Shape := ⟨0, ![]⟩
abbrev S1x40x1 : Shape := ⟨3, ![1, 40, 1]⟩
abbrev S1x256x40x128 : Shape := ⟨4, ![1, 256, 40, 128]⟩
abbrev S256x40x128 : Shape := ⟨3, ![256, 40, 128]⟩

abbrev nBuf : Space → Nat
  | .hbm => 14
  | .vmem => 5
  | .smem => 0
  | _ => 0

abbrev bufTy : (tb : Table) → Fin (tcTables nBuf tb) → BufTy
  | .hbm, ⟨0, _⟩ => ⟨S6x4096x40x128, .bf16⟩
  | .hbm, ⟨1, _⟩ => ⟨S40, .f32⟩
  | .hbm, ⟨2, _⟩ => ⟨S_, .f32⟩
  | .hbm, ⟨3, _⟩ => ⟨S40, .f32⟩
  | .hbm, ⟨4, _⟩ => ⟨S40, .i1⟩
  | .hbm, ⟨5, _⟩ => ⟨S_, .f32⟩
  | .hbm, ⟨6, _⟩ => ⟨S40, .f32⟩
  | .hbm, ⟨7, _⟩ => ⟨S40, .f32⟩
  | .hbm, ⟨8, _⟩ => ⟨S_, .f32⟩
  | .hbm, ⟨9, _⟩ => ⟨S_, .f32⟩
  | .hbm, ⟨10, _⟩ => ⟨S40, .f32⟩
  | .hbm, ⟨11, _⟩ => ⟨S40, .f32⟩
  | .hbm, ⟨12, _⟩ => ⟨S1x40x1, .f32⟩
  | .hbm, ⟨13, _⟩ => ⟨S6x4096x40x128, .fp8e5m2⟩
  | .local _ .vmem, ⟨0, _⟩ => ⟨S1x256x40x128, .bf16⟩
  | .local _ .vmem, ⟨1, _⟩ => ⟨S1x256x40x128, .bf16⟩
  | .local _ .vmem, ⟨2, _⟩ => ⟨S1x40x1, .f32⟩
  | .local _ .vmem, ⟨3, _⟩ => ⟨S1x256x40x128, .fp8e5m2⟩
  | .local _ .vmem, ⟨4, _⟩ => ⟨S1x256x40x128, .fp8e5m2⟩
  | _, _ => ⟨S6x4096x40x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![6, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x40x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x40x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x40x128 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QuantDoReferenceIdeal.lean ====
abbrev S6x4096x40x128 : Shape := ⟨4, ![6, 4096, 40, 128]⟩
abbrev S40 : Shape := ⟨1, ![40]⟩
abbrev S_ : Shape := ⟨0, ![]⟩
abbrev S1x1x40x1 : Shape := ⟨4, ![1, 1, 40, 1]⟩

abbrev nBuf : Space → Nat
  | .hbm => 14
  | .vmem => 3
  | .smem => 0
  | _ => 0

abbrev bufTy : (tb : Table) → Fin (tcTables nBuf tb) → BufTy
  | .hbm, ⟨0, _⟩ => ⟨S6x4096x40x128, .bf16⟩
  | .hbm, ⟨1, _⟩ => ⟨S40, .f32⟩
  | .hbm, ⟨2, _⟩ => ⟨S_, .f32⟩
  | .hbm, ⟨3, _⟩ => ⟨S40, .f32⟩
  | .hbm, ⟨4, _⟩ => ⟨S40, .i1⟩
  | .hbm, ⟨5, _⟩ => ⟨S_, .f32⟩
  | .hbm, ⟨6, _⟩ => ⟨S40, .f32⟩
  | .hbm, ⟨7, _⟩ => ⟨S40, .f32⟩
  | .hbm, ⟨8, _⟩ => ⟨S_, .f32⟩
  | .hbm, ⟨9, _⟩ => ⟨S_, .f32⟩
  | .hbm, ⟨10, _⟩ => ⟨S40, .f32⟩
  | .hbm, ⟨11, _⟩ => ⟨S40, .f32⟩
  | .hbm, ⟨12, _⟩ => ⟨S1x1x40x1, .f32⟩
  | .hbm, ⟨13, _⟩ => ⟨S6x4096x40x128, .fp8e5m2⟩
  | .local _ .vmem, ⟨0, _⟩ => ⟨S6x4096x40x128, .bf16⟩
  | .local _ .vmem, ⟨1, _⟩ => ⟨S1x1x40x1, .f32⟩
  | .local _ .vmem, ⟨2, _⟩ => ⟨S6x4096x40x128, .fp8e5m2⟩
  | _, _ => ⟨S6x4096x40x128, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S6x4096x40x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1x40x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x4096x40x128 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Blk.lean ====
/-
  Blocks of arrays as plain functions: the six kinds of window that the attention kernel loads and stores (256 rows or columns
  of a long array, one of five heads), what a load of such a window reads, and what a store of it leaves.
-/
module

public import Idealize.ShloMosaic.Lib.VecWindow
public import Idealize.ShloMosaic.Lib.Pointwise

@[expose] public section

noncomputable section

namespace Attn

open Idealize.ShloMosaic

variable {α : Type} {sig : RefSig} {κ : Kind} {sp : Space} {e : EltTy} {Val : EltTy → Type}

/-- Rows `256 j … 256 j + 255` of a `4096 × 128` block. -/
def rows4 (X : (⟨4, ![1, 1, 4096, 128]⟩ : Shape).Idx → α) (j : ℕ) : (⟨4, ![1, 1, 256, 128]⟩ : Shape).Idx → α :=
  fun y => X (ix4 (y 0) (y 1) ⟨(j * 256 + (y 2).val) % 4096, Nat.mod_lt _ (by decide)⟩ (y 3))

/-- A load of that window reads it. -/
theorem readAt_rows4 (v : View sig κ sp (⟨4, ![1, 1, 4096, 128]⟩ : Shape) e) (f : v.ty.Contents Val) {off : Fin 4 → ℕ} (inb : ∀ a, off a + ((⟨4, ![1, 1, 256, 128]⟩ : Shape).size) a ≤ (⟨4, ![1, 1, 4096, 128]⟩ : Shape).size a)
    {k : ℕ} (hk : k < 16) (h : off = ![0, 0, k * 256, 0]) :
    v.readAt Val (Rect.unit (s := (⟨4, ![1, 1, 4096, 128]⟩ : Shape)) off (⟨4, ![1, 1, 256, 128]⟩ : Shape).size inb).toLoadRect f = rows4 (v.read Val f) k := by
  subst h
  funext y
  refine congrArg (v.read Val f) (funext fun a => Fin.ext ?_)
  have hy := (y 2).isLt
  have hy' : (y 2).val < 256 := hy
  fin_cases a
  · show 0 + 1 * (y 0).val = (y 0).val
    omega
  · show 0 + 1 * (y 1).val = (y 1).val
    omega
  · show k * 256 + 1 * (y 2).val = (k * 256 + (y 2).val) % 4096
    omega
  · show 0 + 1 * (y 3).val = (y 3).val
    omega

/-- After a store of window `k`, window `j` is the payload where `j = k` and what it was elsewhere. -/
theorem rows4_writes (v : View sig κ sp (⟨4, ![1, 1, 4096, 128]⟩ : Shape) e) (f : v.ty.Contents Val) {off : Fin 4 → ℕ} (inb : ∀ a, off a + ((⟨4, ![1, 1, 256, 128]⟩ : Shape).size) a ≤ (⟨4, ![1, 1, 4096, 128]⟩ : Shape).size a)
    (w : (⟨4, ![1, 1, 256, 128]⟩ : Shape).Idx → Val e) {k j : ℕ} (hk : k < 16) (hj : j < 16) (h : off = ![0, 0, k * 256, 0]) :
    rows4 (v.read Val (v.writes Val f [⟨Rect.unit off (⟨4, ![1, 1, 256, 128]⟩ : Shape).size inb, w⟩])) j = if j = k then w else rows4 (v.read Val f) j := by
  funext y
  have hy : (y 2).val < 256 := (y 2).isLt
  by_cases hjk : j = k
  · subst hjk
    rw [if_pos rfl]
    refine View.read_writes_cons_unit_of_mem v f inb w [] _ y h fun a => ?_
    fin_cases a
    · show (y 0).val = 0 + (y 0).val
      omega
    · show (y 1).val = 0 + (y 1).val
      omega
    · show (j * 256 + (y 2).val) % 4096 = j * 256 + (y 2).val
      omega
    · show (y 3).val = 0 + (y 3).val
      omega
  · rw [if_neg hjk]
    refine (View.read_writes_cons_unit_of_not_mem v f inb w [] _ h 2 ?_).trans ?_
    · show (j * 256 + (y 2).val) % 4096 < k * 256 ∨ k * 256 + 256 ≤ (j * 256 + (y 2).val) % 4096
      omega
    · rw [View.writes_nil]; rfl

/-- An array is known by its windows. -/
theorem rows4_ext {X Y : (⟨4, ![1, 1, 4096, 128]⟩ : Shape).Idx → α} (h : ∀ j < 16, rows4 X j = rows4 Y j) : X = Y := by
  funext x
  have hx : (x 2).val < 4096 := (x 2).isLt
  have key := congrFun (h ((x 2).val / 256) (by omega)) (ix4 (x 0) (x 1) ⟨(x 2).val % 256, Nat.mod_lt _ (by decide)⟩ (x 3))
  have e : (ix4 (x 0) (x 1) ⟨((x 2).val / 256 * 256 + (x 2).val % 256) % 4096, Nat.mod_lt _ (by decide)⟩ (x 3) : (⟨4, ![1, 1, 4096, 128]⟩ : Shape).Idx) = x := by
    funext a
    apply Fin.ext
    fin_cases a
    · rfl
    · rfl
    · show ((x 2).val / 256 * 256 + (x 2).val % 256) % 4096 = (x 2).val
      omega
    · rfl
  exact (congrArg X e.symm).trans (key.trans (congrArg Y e))

/-- Columns `256 j … 256 j + 255` of a `128 × 4096` block. -/
def cols4 (X : (⟨4, ![1, 1, 128, 4096]⟩ : Shape).Idx → α) (j : ℕ) : (⟨4, ![1, 1, 128, 256]⟩ : Shape).Idx → α :=
  fun y => X (ix4 (y 0) (y 1) (y 2) ⟨(j * 256 + (y 3).val) % 4096, Nat.mod_lt _ (by decide)⟩)

/-- A load of that window reads it. -/
theorem readAt_cols4 (v : View sig κ sp (⟨4, ![1, 1, 128, 4096]⟩ : Shape) e) (f : v.ty.Contents Val) {off : Fin 4 → ℕ} (inb : ∀ a, off a + ((⟨4, ![1, 1, 128, 256]⟩ : Shape).size) a ≤ (⟨4, ![1, 1, 128, 4096]⟩ : Shape).size a)
    {k : ℕ} (hk : k < 16) (h : off = ![0, 0, 0, k * 256]) :
    v.readAt Val (Rect.unit (s := (⟨4, ![1, 1, 128, 4096]⟩ : Shape)) off (⟨4, ![1, 1, 128, 256]⟩ : Shape).size inb).toLoadRect f = cols4 (v.read Val f) k := by
  subst h
  funext y
  refine congrArg (v.read Val f) (funext fun a => Fin.ext ?_)
  have hy := (y 3).isLt
  have hy' : (y 3).val < 256 := hy
  fin_cases a
  · show 0 + 1 * (y 0).val = (y 0).val
    omega
  · show 0 + 1 * (y 1).val = (y 1).val
    omega
  · show 0 + 1 * (y 2).val = (y 2).val
    omega
  · show k * 256 + 1 * (y 3).val = (k * 256 + (y 3).val) % 4096
    omega

/-- After a store of window `k`, window `j` is the payload where `j = k` and what it was elsewhere. -/
theorem cols4_writes (v : View sig κ sp (⟨4, ![1, 1, 128, 4096]⟩ : Shape) e) (f : v.ty.Contents Val) {off : Fin 4 → ℕ} (inb : ∀ a, off a + ((⟨4, ![1, 1, 128, 256]⟩ : Shape).size) a ≤ (⟨4, ![1, 1, 128, 4096]⟩ : Shape).size a)
    (w : (⟨4, ![1, 1, 128, 256]⟩ : Shape).Idx → Val e) {k j : ℕ} (hk : k < 16) (hj : j < 16) (h : off = ![0, 0, 0, k * 256]) :
    cols4 (v.read Val (v.writes Val f [⟨Rect.unit off (⟨4, ![1, 1, 128, 256]⟩ : Shape).size inb, w⟩])) j = if j = k then w else cols4 (v.read Val f) j := by
  funext y
  have hy : (y 3).val < 256 := (y 3).isLt
  by_cases hjk : j = k
  · subst hjk
    rw [if_pos rfl]
    refine View.read_writes_cons_unit_of_mem v f inb w [] _ y h fun a => ?_
    fin_cases a
    · show (y 0).val = 0 + (y 0).val
      omega
    · show (y 1).val = 0 + (y 1).val
      omega
    · show (y 2).val = 0 + (y 2).val
      omega
    · show (j * 256 + (y 3).val) % 4096 = j * 256 + (y 3).val
      omega
  · rw [if_neg hjk]
    refine (View.read_writes_cons_unit_of_not_mem v f inb w [] _ h 3 ?_).trans ?_
    · show (j * 256 + (y 3).val) % 4096 < k * 256 ∨ k * 256 + 256 ≤ (j * 256 + (y 3).val) % 4096
      omega
    · rw [View.writes_nil]; rfl

/-- An array is known by its windows. -/
theorem cols4_ext {X Y : (⟨4, ![1, 1, 128, 4096]⟩ : Shape).Idx → α} (h : ∀ j < 16, cols4 X j = cols4 Y j) : X = Y := by
  funext x
  have hx : (x 3).val < 4096 := (x 3).isLt
  have key := congrFun (h ((x 3).val / 256) (by omega)) (ix4 (x 0) (x 1) (x 2) ⟨(x 3).val % 256, Nat.mod_lt _ (by decide)⟩)
  have e : (ix4 (x 0) (x 1) (x 2) ⟨((x 3).val / 256 * 256 + (x 3).val % 256) % 4096, Nat.mod_lt _ (by decide)⟩ : (⟨4, ![1, 1, 128, 4096]⟩ : Shape).Idx) = x := by
    funext a
    apply Fin.ext
    fin_cases a
    · rfl
    · rfl
    · rfl
    · show ((x 3).val / 256 * 256 + (x 3).val % 256) % 4096 = (x 3).val
      omega
  exact (congrArg X e.symm).trans (key.trans (congrArg Y e))

/-- Rows `256 j … 256 j + 255` of a `4096 × 256` array. -/
def rows2 (X : (⟨2, ![4096, 256]⟩ : Shape).Idx → α) (j : ℕ) : (⟨2, ![256, 256]⟩ : Shape).Idx → α :=
  fun y => X (ix2 ⟨(j * 256 + (y 0).val) % 4096, Nat.mod_lt _ (by decide)⟩ (y 1))

/-- A load of that window reads it. -/
theorem readAt_rows2 (v : View sig κ sp (⟨2, ![4096, 256]⟩ : Shape) e) (f : v.ty.Contents Val) {off : Fin 2 → ℕ} (inb : ∀ a, off a + ((⟨2, ![256, 256]⟩ : Shape).size) a ≤ (⟨2, ![4096, 256]⟩ : Shape).size a)
    {k : ℕ} (hk : k < 16) (h : off = ![k * 256, 0]) :
    v.readAt Val (Rect.unit (s := (⟨2, ![4096, 256]⟩ : Shape)) off (⟨2, ![256, 256]⟩ : Shape).size inb).toLoadRect f = rows2 (v.read Val f) k := by
  subst h
  funext y
  refine congrArg (v.read Val f) (funext fun a => Fin.ext ?_)
  have hy := (y 0).isLt
  have hy' : (y 0).val < 256 := hy
  fin_cases a
  · show k * 256 + 1 * (y 0).val = (k * 256 + (y 0).val) % 4096
    omega
  · show 0 + 1 * (y 1).val = (y 1).val
    omega

/-- After a store of window `k`, window `j` is the payload where `j = k` and what it was elsewhere. -/
theorem rows2_writes (v : View sig κ sp (⟨2, ![4096, 256]⟩ : Shape) e) (f : v.ty.Contents Val) {off : Fin 2 → ℕ} (inb : ∀ a, off a + ((⟨2, ![256, 256]⟩ : Shape).size) a ≤ (⟨2, ![4096, 256]⟩ : Shape).size a)
    (w : (⟨2, ![256, 256]⟩ : Shape).Idx → Val e) {k j : ℕ} (hk : k < 16) (hj : j < 16) (h : off = ![k * 256, 0]) :
    rows2 (v.read Val (v.writes Val f [⟨Rect.unit off (⟨2, ![256, 256]⟩ : Shape).size inb, w⟩])) j = if j = k then w else rows2 (v.read Val f) j := by
  funext y
  have hy : (y 0).val < 256 := (y 0).isLt
  by_cases hjk : j = k
  · subst hjk
    rw [if_pos rfl]
    refine View.read_writes_cons_unit_of_mem v f inb w [] _ y h fun a => ?_
    fin_cases a
    · show (j * 256 + (y 0).val) % 4096 = j * 256 + (y 0).val
      omega
    · show (y 1).val = 0 + (y 1).val
      omega
  · rw [if_neg hjk]
    refine (View.read_writes_cons_unit_of_not_mem v f inb w [] _ h 0 ?_).trans ?_
    · show (j * 256 + (y 0).val) % 4096 < k * 256 ∨ k * 256 + 256 ≤ (j * 256 + (y 0).val) % 4096
      omega
    · rw [View.writes_nil]; rfl

/-- An array is known by its windows. -/
theorem rows2_ext {X Y : (⟨2, ![4096, 256]⟩ : Shape).Idx → α} (h : ∀ j < 16, rows2 X j = rows2 Y j) : X = Y := by
  funext x
  have hx : (x 0).val < 4096 := (x 0).isLt
  have key := congrFun (h ((x 0).val / 256) (by omega)) (ix2 ⟨(x 0).val % 256, Nat.mod_lt _ (by decide)⟩ (x 1))
  have e : (ix2 ⟨((x 0).val / 256 * 256 + (x 0).val % 256) % 4096, Nat.mod_lt _ (by decide)⟩ (x 1) : (⟨2, ![4096, 256]⟩ : Shape).Idx) = x := by
    funext a
    apply Fin.ext
    fin_cases a
    · show ((x 0).val / 256 * 256 + (x 0).val % 256) % 4096 = (x 0).val
      omega
    · rfl
  exact (congrArg X e.symm).trans (key.trans (congrArg Y e))

/-- Columns `256 j … 256 j + 255` of a `128 × 4096` array. -/
def cols2 (X : (⟨2, ![128, 4096]⟩ : Shape).Idx → α) (j : ℕ) : (⟨2, ![128, 256]⟩ : Shape).Idx → α :=
  fun y => X (ix2 (y 0) ⟨(j * 256 + (y 1).val) % 4096, Nat.mod_lt _ (by decide)⟩)

/-- A load of that window reads it. -/
theorem readAt_cols2 (v : View sig κ sp (⟨2, ![128, 4096]⟩ : Shape) e) (f : v.ty.Contents Val) {off : Fin 2 → ℕ} (inb : ∀ a, off a + ((⟨2, ![128, 256]⟩ : Shape).size) a ≤ (⟨2, ![128, 4096]⟩ : Shape).size a)
    {k : ℕ} (hk : k < 16) (h : off = ![0, k * 256]) :
    v.readAt Val (Rect.unit (s := (⟨2, ![128, 4096]⟩ : Shape)) off (⟨2, ![128, 256]⟩ : Shape).size inb).toLoadRect f = cols2 (v.read Val f) k := by
  subst h
  funext y
  refine congrArg (v.read Val f) (funext fun a => Fin.ext ?_)
  have hy := (y 1).isLt
  have hy' : (y 1).val < 256 := hy
  fin_cases a
  · show 0 + 1 * (y 0).val = (y 0).val
    omega
  · show k * 256 + 1 * (y 1).val = (k * 256 + (y 1).val) % 4096
    omega

/-- After a store of window `k`, window `j` is the payload where `j = k` and what it was elsewhere. -/
theorem cols2_writes (v : View sig κ sp (⟨2, ![128, 4096]⟩ : Shape) e) (f : v.ty.Contents Val) {off : Fin 2 → ℕ} (inb : ∀ a, off a + ((⟨2, ![128, 256]⟩ : Shape).size) a ≤ (⟨2, ![128, 4096]⟩ : Shape).size a)
    (w : (⟨2, ![128, 256]⟩ : Shape).Idx → Val e) {k j : ℕ} (hk : k < 16) (hj : j < 16) (h : off = ![0, k * 256]) :
    cols2 (v.read Val (v.writes Val f [⟨Rect.unit off (⟨2, ![128, 256]⟩ : Shape).size inb, w⟩])) j = if j = k then w else cols2 (v.read Val f) j := by
  funext y
  have hy : (y 1).val < 256 := (y 1).isLt
  by_cases hjk : j = k
  · subst hjk
    rw [if_pos rfl]
    refine View.read_writes_cons_unit_of_mem v f inb w [] _ y h fun a => ?_
    fin_cases a
    · show (y 0).val = 0 + (y 0).val
      omega
    · show (j * 256 + (y 1).val) % 4096 = j * 256 + (y 1).val
      omega
  · rw [if_neg hjk]
    refine (View.read_writes_cons_unit_of_not_mem v f inb w [] _ h 1 ?_).trans ?_
    · show (j * 256 + (y 1).val) % 4096 < k * 256 ∨ k * 256 + 256 ≤ (j * 256 + (y 1).val) % 4096
      omega
    · rw [View.writes_nil]; rfl

/-- An array is known by its windows. -/
theorem cols2_ext {X Y : (⟨2, ![128, 4096]⟩ : Shape).Idx → α} (h : ∀ j < 16, cols2 X j = cols2 Y j) : X = Y := by
  funext x
  have hx : (x 1).val < 4096 := (x 1).isLt
  have key := congrFun (h ((x 1).val / 256) (by omega)) (ix2 (x 0) ⟨(x 1).val % 256, Nat.mod_lt _ (by decide)⟩)
  have e : (ix2 (x 0) ⟨((x 1).val / 256 * 256 + (x 1).val % 256) % 4096, Nat.mod_lt _ (by decide)⟩ : (⟨2, ![128, 4096]⟩ : Shape).Idx) = x := by
    funext a
    apply Fin.ext
    fin_cases a
    · rfl
    · show ((x 1).val / 256 * 256 + (x 1).val % 256) % 4096 = (x 1).val
      omega
  exact (congrArg X e.symm).trans (key.trans (congrArg Y e))

/-- Head `j` of a block of five `128 × 256` heads. -/
def head5 (X : (⟨5, ![1, 1, 5, 128, 256]⟩ : Shape).Idx → α) (j : ℕ) : (⟨5, ![1, 1, 1, 128, 256]⟩ : Shape).Idx → α :=
  fun y => X (ix5 (y 0) (y 1) ⟨(j * 1 + (y 2).val) % 5, Nat.mod_lt _ (by decide)⟩ (y 3) (y 4))

/-- A load of that window reads it. -/
theorem readAt_head5 (v : View sig κ sp (⟨5, ![1, 1, 5, 128, 256]⟩ : Shape) e) (f : v.ty.Contents Val) {off : Fin 5 → ℕ} (inb : ∀ a, off a + ((⟨5, ![1, 1, 1, 128, 256]⟩ : Shape).size) a ≤ (⟨5, ![1, 1, 5, 128, 256]⟩ : Shape).size a)
    {k : ℕ} (hk : k < 5) (h : off = ![0, 0, k, 0, 0]) :
    v.readAt Val (Rect.unit (s := (⟨5, ![1, 1, 5, 128, 256]⟩ : Shape)) off (⟨5, ![1, 1, 1, 128, 256]⟩ : Shape).size inb).toLoadRect f = head5 (v.read Val f) k := by
  subst h
  funext y
  refine congrArg (v.read Val f) (funext fun a => Fin.ext ?_)
  have hy := (y 2).isLt
  have hy' : (y 2).val < 1 := hy
  fin_cases a
  · show 0 + 1 * (y 0).val = (y 0).val
    omega
  · show 0 + 1 * (y 1).val = (y 1).val
    omega
  · show k + 1 * (y 2).val = (k * 1 + (y 2).val) % 5
    omega
  · show 0 + 1 * (y 3).val = (y 3).val
    omega
  · show 0 + 1 * (y 4).val = (y 4).val
    omega

/-- After a store of window `k`, window `j` is the payload where `j = k` and what it was elsewhere. -/
theorem head5_writes (v : View sig κ sp (⟨5, ![1, 1, 5, 128, 256]⟩ : Shape) e) (f : v.ty.Contents Val) {off : Fin 5 → ℕ} (inb : ∀ a, off a + ((⟨5, ![1, 1, 1, 128, 256]⟩ : Shape).size) a ≤ (⟨5, ![1, 1, 5, 128, 256]⟩ : Shape).size a)
    (w : (⟨5, ![1, 1, 1, 128, 256]⟩ : Shape).Idx → Val e) {k j : ℕ} (hk : k < 5) (hj : j < 5) (h : off = ![0, 0, k, 0, 0]) :
    head5 (v.read Val (v.writes Val f [⟨Rect.unit off (⟨5, ![1, 1, 1, 128, 256]⟩ : Shape).size inb, w⟩])) j = if j = k then w else head5 (v.read Val f) j := by
  funext y
  have hy : (y 2).val < 1 := (y 2).isLt
  by_cases hjk : j = k
  · subst hjk
    rw [if_pos rfl]
    refine View.read_writes_cons_unit_of_mem v f inb w [] _ y h fun a => ?_
    fin_cases a
    · show (y 0).val = 0 + (y 0).val
      omega
    · show (y 1).val = 0 + (y 1).val
      omega
    · show (j * 1 + (y 2).val) % 5 = j + (y 2).val
      omega
    · show (y 3).val = 0 + (y 3).val
      omega
    · show (y 4).val = 0 + (y 4).val
      omega
  · rw [if_neg hjk]
    refine (View.read_writes_cons_unit_of_not_mem v f inb w [] _ h 2 ?_).trans ?_
    · show (j * 1 + (y 2).val) % 5 < k ∨ k + 1 ≤ (j * 1 + (y 2).val) % 5
      omega
    · rw [View.writes_nil]; rfl

/-- An array is known by its windows. -/
theorem head5_ext {X Y : (⟨5, ![1, 1, 5, 128, 256]⟩ : Shape).Idx → α} (h : ∀ j < 5, head5 X j = head5 Y j) : X = Y := by
  funext x
  have hx : (x 2).val < 5 := (x 2).isLt
  have key := congrFun (h ((x 2).val / 1) (by omega)) (ix5 (x 0) (x 1) ⟨(x 2).val % 1, Nat.mod_lt _ (by decide)⟩ (x 3) (x 4))
  have e : (ix5 (x 0) (x 1) ⟨((x 2).val / 1 * 1 + (x 2).val % 1) % 5, Nat.mod_lt _ (by decide)⟩ (x 3) (x 4) : (⟨5, ![1, 1, 5, 128, 256]⟩ : Shape).Idx) = x := by
    funext a
    apply Fin.ext
    fin_cases a
    · rfl
    · rfl
    · show ((x 2).val / 1 * 1 + (x 2).val % 1) % 5 = (x 2).val
      omega
    · rfl
    · rfl
  exact (congrArg X e.symm).trans (key.trans (congrArg Y e))

/-- Row `j` of a block of five rows of 256. -/
def row4 (X : (⟨4, ![1, 1, 5, 256]⟩ : Shape).Idx → α) (j : ℕ) : (⟨4, ![1, 1, 1, 256]⟩ : Shape).Idx → α :=
  fun y => X (ix4 (y 0) (y 1) ⟨(j * 1 + (y 2).val) % 5, Nat.mod_lt _ (by decide)⟩ (y 3))

/-- A load of that window reads it. -/
theorem readAt_row4 (v : View sig κ sp (⟨4, ![1, 1, 5, 256]⟩ : Shape) e) (f : v.ty.Contents Val) {off : Fin 4 → ℕ} (inb : ∀ a, off a + ((⟨4, ![1, 1, 1, 256]⟩ : Shape).size) a ≤ (⟨4, ![1, 1, 5, 256]⟩ : Shape).size a)
    {k : ℕ} (hk : k < 5) (h : off = ![0, 0, k, 0]) :
    v.readAt Val (Rect.unit (s := (⟨4, ![1, 1, 5, 256]⟩ : Shape)) off (⟨4, ![1, 1, 1, 256]⟩ : Shape).size inb).toLoadRect f = row4 (v.read Val f) k := by
  subst h
  funext y
  refine congrArg (v.read Val f) (funext fun a => Fin.ext ?_)
  have hy := (y 2).isLt
  have hy' : (y 2).val < 1 := hy
  fin_cases a
  · show 0 + 1 * (y 0).val = (y 0).val
    omega
  · show 0 + 1 * (y 1).val = (y 1).val
    omega
  · show k + 1 * (y 2).val = (k * 1 + (y 2).val) % 5
    omega
  · show 0 + 1 * (y 3).val = (y 3).val
    omega

/-- After a store of window `k`, window `j` is the payload where `j = k` and what it was elsewhere. -/
theorem row4_writes (v : View sig κ sp (⟨4, ![1, 1, 5, 256]⟩ : Shape) e) (f : v.ty.Contents Val) {off : Fin 4 → ℕ} (inb : ∀ a, off a + ((⟨4, ![1, 1, 1, 256]⟩ : Shape).size) a ≤ (⟨4, ![1, 1, 5, 256]⟩ : Shape).size a)
    (w : (⟨4, ![1, 1, 1, 256]⟩ : Shape).Idx → Val e) {k j : ℕ} (hk : k < 5) (hj : j < 5) (h : off = ![0, 0, k, 0]) :
    row4 (v.read Val (v.writes Val f [⟨Rect.unit off (⟨4, ![1, 1, 1, 256]⟩ : Shape).size inb, w⟩])) j = if j = k then w else row4 (v.read Val f) j := by
  funext y
  have hy : (y 2).val < 1 := (y 2).isLt
  by_cases hjk : j = k
  · subst hjk
    rw [if_pos rfl]
    refine View.read_writes_cons_unit_of_mem v f inb w [] _ y h fun a => ?_
    fin_cases a
    · show (y 0).val = 0 + (y 0).val
      omega
    · show (y 1).val = 0 + (y 1).val
      omega
    · show (j * 1 + (y 2).val) % 5 = j + (y 2).val
      omega
    · show (y 3).val = 0 + (y 3).val
      omega
  · rw [if_neg hjk]
    refine (View.read_writes_cons_unit_of_not_mem v f inb w [] _ h 2 ?_).trans ?_
    · show (j * 1 + (y 2).val) % 5 < k ∨ k + 1 ≤ (j * 1 + (y 2).val) % 5
      omega
    · rw [View.writes_nil]; rfl

/-- An array is known by its windows. -/
theorem row4_ext {X Y : (⟨4, ![1, 1, 5, 256]⟩ : Shape).Idx → α} (h : ∀ j < 5, row4 X j = row4 Y j) : X = Y := by
  funext x
  have hx : (x 2).val < 5 := (x 2).isLt
  have key := congrFun (h ((x 2).val / 1) (by omega)) (ix4 (x 0) (x 1) ⟨(x 2).val % 1, Nat.mod_lt _ (by decide)⟩ (x 3))
  have e : (ix4 (x 0) (x 1) ⟨((x 2).val / 1 * 1 + (x 2).val % 1) % 5, Nat.mod_lt _ (by decide)⟩ (x 3) : (⟨4, ![1, 1, 5, 256]⟩ : Shape).Idx) = x := by
    funext a
    apply Fin.ext
    fin_cases a
    · rfl
    · rfl
    · show ((x 2).val / 1 * 1 + (x 2).val % 1) % 5 = (x 2).val
      omega
    · rfl
  exact (congrArg X e.symm).trans (key.trans (congrArg Y e))

/-- The array whose windows are `P`. -/
def of_rows4 (P : ℕ → (⟨4, ![1, 1, 256, 128]⟩ : Shape).Idx → α) : (⟨4, ![1, 1, 4096, 128]⟩ : Shape).Idx → α :=
  fun x => P ((x 2).val / 256) (ix4 (x 0) (x 1) ⟨(x 2).val % 256, Nat.mod_lt _ (by decide)⟩ (x 3))

theorem rows4_of (P : ℕ → (⟨4, ![1, 1, 256, 128]⟩ : Shape).Idx → α) {j : ℕ} (hj : j < 16) : rows4 (of_rows4 P) j = P j := by
  funext y
  have hy : (y 2).val < 256 := (y 2).isLt
  have e1 : (j * 256 + (y 2).val) % 4096 / 256 = j := by omega
  have e2 : (j * 256 + (y 2).val) % 4096 % 256 = (y 2).val := by omega
  show P ((j * 256 + (y 2).val) % 4096 / 256) _ = P j y
  rw [e1]
  refine congrArg (P j) (funext fun a => Fin.ext ?_)
  fin_cases a
  · rfl
  · rfl
  · exact e2
  · rfl

/-- An array whose windows are `P` is that one. -/
theorem eq_of_rows4 {X : (⟨4, ![1, 1, 4096, 128]⟩ : Shape).Idx → α} {P : ℕ → (⟨4, ![1, 1, 256, 128]⟩ : Shape).Idx → α} (h : ∀ j < 16, rows4 X j = P j) : X = of_rows4 P :=
  rows4_ext fun j hj => (h j hj).trans (rows4_of P hj).symm

/-- The array whose windows are `P`. -/
def of_cols4 (P : ℕ → (⟨4, ![1, 1, 128, 256]⟩ : Shape).Idx → α) : (⟨4, ![1, 1, 128, 4096]⟩ : Shape).Idx → α :=
  fun x => P ((x 3).val / 256) (ix4 (x 0) (x 1) (x 2) ⟨(x 3).val % 256, Nat.mod_lt _ (by decide)⟩)

theorem cols4_of (P : ℕ → (⟨4, ![1, 1, 128, 256]⟩ : Shape).Idx → α) {j : ℕ} (hj : j < 16) : cols4 (of_cols4 P) j = P j := by
  funext y
  have hy : (y 3).val < 256 := (y 3).isLt
  have e1 : (j * 256 + (y 3).val) % 4096 / 256 = j := by omega
  have e2 : (j * 256 + (y 3).val) % 4096 % 256 = (y 3).val := by omega
  show P ((j * 256 + (y 3).val) % 4096 / 256) _ = P j y
  rw [e1]
  refine congrArg (P j) (funext fun a => Fin.ext ?_)
  fin_cases a
  · rfl
  · rfl
  · rfl
  · exact e2

/-- An array whose windows are `P` is that one. -/
theorem eq_of_cols4 {X : (⟨4, ![1, 1, 128, 4096]⟩ : Shape).Idx → α} {P : ℕ → (⟨4, ![1, 1, 128, 256]⟩ : Shape).Idx → α} (h : ∀ j < 16, cols4 X j = P j) : X = of_cols4 P :=
  cols4_ext fun j hj => (h j hj).trans (cols4_of P hj).symm

/-- The array whose windows are `P`. -/
def of_rows2 (P : ℕ → (⟨2, ![256, 256]⟩ : Shape).Idx → α) : (⟨2, ![4096, 256]⟩ : Shape).Idx → α :=
  fun x => P ((x 0).val / 256) (ix2 ⟨(x 0).val % 256, Nat.mod_lt _ (by decide)⟩ (x 1))

theorem rows2_of (P : ℕ → (⟨2, ![256, 256]⟩ : Shape).Idx → α) {j : ℕ} (hj : j < 16) : rows2 (of_rows2 P) j = P j := by
  funext y
  have hy : (y 0).val < 256 := (y 0).isLt
  have e1 : (j * 256 + (y 0).val) % 4096 / 256 = j := by omega
  have e2 : (j * 256 + (y 0).val) % 4096 % 256 = (y 0).val := by omega
  show P ((j * 256 + (y 0).val) % 4096 / 256) _ = P j y
  rw [e1]
  refine congrArg (P j) (funext fun a => Fin.ext ?_)
  fin_cases a
  · exact e2
  · rfl

/-- An array whose windows are `P` is that one. -/
theorem eq_of_rows2 {X : (⟨2, ![4096, 256]⟩ : Shape).Idx → α} {P : ℕ → (⟨2, ![256, 256]⟩ : Shape).Idx → α} (h : ∀ j < 16, rows2 X j = P j) : X = of_rows2 P :=
  rows2_ext fun j hj => (h j hj).trans (rows2_of P hj).symm

/-- The array whose windows are `P`. -/
def of_cols2 (P : ℕ → (⟨2, ![128, 256]⟩ : Shape).Idx → α) : (⟨2, ![128, 4096]⟩ : Shape).Idx → α :=
  fun x => P ((x 1).val / 256) (ix2 (x 0) ⟨(x 1).val % 256, Nat.mod_lt _ (by decide)⟩)

theorem cols2_of (P : ℕ → (⟨2, ![128, 256]⟩ : Shape).Idx → α) {j : ℕ} (hj : j < 16) : cols2 (of_cols2 P) j = P j := by
  funext y
  have hy : (y 1).val < 256 := (y 1).isLt
  have e1 : (j * 256 + (y 1).val) % 4096 / 256 = j := by omega
  have e2 : (j * 256 + (y 1).val) % 4096 % 256 = (y 1).val := by omega
  show P ((j * 256 + (y 1).val) % 4096 / 256) _ = P j y
  rw [e1]
  refine congrArg (P j) (funext fun a => Fin.ext ?_)
  fin_cases a
  · rfl
  · exact e2

/-- An array whose windows are `P` is that one. -/
theorem eq_of_cols2 {X : (⟨2, ![128, 4096]⟩ : Shape).Idx → α} {P : ℕ → (⟨2, ![128, 256]⟩ : Shape).Idx → α} (h : ∀ j < 16, cols2 X j = P j) : X = of_cols2 P :=
  cols2_ext fun j hj => (h j hj).trans (cols2_of P hj).symm

/-- The array whose windows are `P`. -/
def of_head5 (P : ℕ → (⟨5, ![1, 1, 1, 128, 256]⟩ : Shape).Idx → α) : (⟨5, ![1, 1, 5, 128, 256]⟩ : Shape).Idx → α :=
  fun x => P ((x 2).val / 1) (ix5 (x 0) (x 1) ⟨(x 2).val % 1, Nat.mod_lt _ (by decide)⟩ (x 3) (x 4))

theorem head5_of (P : ℕ → (⟨5, ![1, 1, 1, 128, 256]⟩ : Shape).Idx → α) {j : ℕ} (hj : j < 5) : head5 (of_head5 P) j = P j := by
  funext y
  have hy : (y 2).val < 1 := (y 2).isLt
  have e1 : (j * 1 + (y 2).val) % 5 / 1 = j := by omega
  have e2 : (j * 1 + (y 2).val) % 5 % 1 = (y 2).val := by omega
  show P ((j * 1 + (y 2).val) % 5 / 1) _ = P j y
  rw [e1]
  refine congrArg (P j) (funext fun a => Fin.ext ?_)
  fin_cases a
  · rfl
  · rfl
  · exact e2
  · rfl
  · rfl

/-- An array whose windows are `P` is that one. -/
theorem eq_of_head5 {X : (⟨5, ![1, 1, 5, 128, 256]⟩ : Shape).Idx → α} {P : ℕ → (⟨5, ![1, 1, 1, 128, 256]⟩ : Shape).Idx → α} (h : ∀ j < 5, head5 X j = P j) : X = of_head5 P :=
  head5_ext fun j hj => (h j hj).trans (head5_of P hj).symm

/-- The array whose windows are `P`. -/
def of_row4 (P : ℕ → (⟨4, ![1, 1, 1, 256]⟩ : Shape).Idx → α) : (⟨4, ![1, 1, 5, 256]⟩ : Shape).Idx → α :=
  fun x => P ((x 2).val / 1) (ix4 (x 0) (x 1) ⟨(x 2).val % 1, Nat.mod_lt _ (by decide)⟩ (x 3))

theorem row4_of (P : ℕ → (⟨4, ![1, 1, 1, 256]⟩ : Shape).Idx → α) {j : ℕ} (hj : j < 5) : row4 (of_row4 P) j = P j := by
  funext y
  have hy : (y 2).val < 1 := (y 2).isLt
  have e1 : (j * 1 + (y 2).val) % 5 / 1 = j := by omega
  have e2 : (j * 1 + (y 2).val) % 5 % 1 = (y 2).val := by omega
  show P ((j * 1 + (y 2).val) % 5 / 1) _ = P j y
  rw [e1]
  refine congrArg (P j) (funext fun a => Fin.ext ?_)
  fin_cases a
  · rfl
  · rfl
  · exact e2
  · rfl

/-- An array whose windows are `P` is that one. -/
theorem eq_of_row4 {X : (⟨4, ![1, 1, 5, 256]⟩ : Shape).Idx → α} {P : ℕ → (⟨4, ![1, 1, 1, 256]⟩ : Shape).Idx → α} (h : ∀ j < 5, row4 X j = P j) : X = of_row4 P :=
  row4_ext fun j hj => (h j hj).trans (row4_of P hj).symm

end Attn

end
-- ==== Proof.KiBody.lean ====
/-
  The attention body's blocks of work, one part at a time: what each part of the body leaves in the arrays it stores to and what
  it returns, as plain recursions over key blocks and query heads. Nothing here depends on what a float is.
-/
module

public import proofs.«01_k».proof.Proof.Gen.KernelIdeal.Skeleton
public import proofs.«01_k».proof.Proof.Gen.KernelIdeal.Frame
public import proofs.«01_k».proof.Proof.Blk
public import Idealize.ShloMosaic.Lib.Exec
public import Idealize.ShloMosaic.Lib.Tactic
public import Idealize.ShloMosaic.Lib.LoopRemainder
public import Idealize.ShloMosaic.Lib.Pipeline.Kit

@[expose] public section

set_option maxRecDepth 16384
set_option maxHeartbeats 4000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Attn

variable {F : FTy → Type} [FloatOps F] [Named F]

local notation "𝕄" => MT nD τ sig Unit (Elt F) ℕ (UR sig nD τ) ℕ

/-- The contents type of memref `M`'s buffer on core `c`, -/
abbrev Bf (c : Dev nD) {sp : Space} {S : Shape} {e : EltTy} (M : Memref sig .tc sp S e) : Type := Buf (Elt F) (M.view.loc (c : Thread nD τ))
/-- and that buffer held whole at contents `f`. -/
abbrev pt (c : Dev nD) {sp : Space} {S : Shape} {e : EltTy} (M : Memref sig .tc sp S e) (f : Bf (F := F) c M) : sProp 𝕄 :=
  M.view.loc (c : Thread nD τ) ↦{fullShare} f
/-- A buffer held whole at some contents whose reading through `M` satisfies `P`. -/
abbrev hp (c : Dev nD) {sp : Space} {S : Shape} {e : EltTy} (M : Memref sig .tc sp S e) (P : (S.Idx → Elt F e) → Prop) : sProp 𝕄 :=
  iprop(∃ f : Bf (F := F) c M, pt c M f ∗ ⌜P (M.view.read (Elt F) f)⌝)

/-- The kernel has no variants. -/
abbrev 𝒱₀ : Variants := Variants.none

/-! ## Offsets and trip counts -/

theorem iv256 : ∀ k < 17, (Scalar.indexCast (Scalar.muli (Scf.iv 0#32 1#32 k) 256#32)).toNat = k * 256 := by decide +kernel
theorem iv1 : ∀ k < 5, (Scalar.indexCast (Scalar.addi 0#32 (Scalar.muli (Scf.iv 0#32 1#32 k) 1#32))).toNat = k := by decide +kernel
theorem qb256 : ∀ k < 16, (Scalar.indexCast (Scalar.muli (BitVec.ofNat 32 k) 256#32)).toNat = k * 256 := by decide +kernel

theorem trips1 : k0_t1_loop.trips = 5 := by decide +kernel
theorem trips2_aux : ∀ k < 16, (Scf.Loop.mk 0#32 (Scalar.addi 0#32 (Scalar.muli (Scalar.divsi (Scalar.subi (BitVec.ofNat 32 k) 0#32) 1#32) 1#32)) 1#32).trips = k := by decide +kernel
theorem trips4_aux : ∀ k < 16, (Scf.Loop.mk 0#32 (Scalar.addi 0#32 (Scalar.muli (Scalar.divsi (Scalar.subi (Scalar.addi (BitVec.ofNat 32 k) 1#32) 0#32) 1#32) 1#32)) 1#32).trips = k + 1 := by decide +kernel
theorem i2_lt (i : grid0.Coords) : (i 2).val < 16 := (i 2).isLt
theorem trips2 (i : grid0.Coords) : (k0_t2_loop i).trips = (i 2).val := trips2_aux _ (i2_lt i)
theorem trips4 (i : grid0.Coords) : (k0_t4_loop i).trips = (i 2).val + 1 := trips4_aux _ (i2_lt i)
theorem trips6 (i : grid0.Coords) : (k0_t6_loop i).trips = (i 2).val + 1 := trips4_aux _ (i2_lt i)

theorem lt2 {i : grid0.Coords} (k : Fin (k0_t2_loop i).trips) : k.val < (i 2).val := (trips2 i) ▸ k.isLt
theorem lt4 {i : grid0.Coords} (k : Fin (k0_t4_loop i).trips) : k.val < (i 2).val + 1 := (trips4 i) ▸ k.isLt
theorem lt6 {i : grid0.Coords} (k : Fin (k0_t6_loop i).trips) : k.val < (i 2).val + 1 := (trips6 i) ▸ k.isLt
theorem lt1 (k : Fin k0_t1_loop.trips) : k.val < 5 := trips1 ▸ k.isLt

theorem off1 (k : Fin k0_t1_loop.trips) : k0_off1 k = ![0, 0, k.val, 0, 0] := by
  show ![0, 0, (Scalar.indexCast (Scalar.addi 0#32 (Scalar.muli (Scf.iv 0#32 1#32 k.val) 1#32))).toNat, 0, 0] = _
  rw [iv1 _ (lt1 k)]
theorem off2 (k : Fin k0_t1_loop.trips) : k0_off2 k = ![0, 0, k.val, 0] := by
  show ![0, 0, (Scalar.indexCast (Scalar.addi 0#32 (Scalar.muli (Scf.iv 0#32 1#32 k.val) 1#32))).toNat, 0] = _
  rw [iv1 _ (lt1 k)]
theorem off3 (i : grid0.Coords) (k : Fin (k0_t2_loop i).trips) : k0_off3 i k = ![0, 0, k.val * 256, 0] := by
  show ![0, 0, (Scalar.indexCast (Scalar.muli (Scf.iv 0#32 1#32 k.val) 256#32)).toNat, 0] = _
  rw [iv256 _ (by have := lt2 k; have := i2_lt i; omega)]
theorem off4 (i : grid0.Coords) (k : Fin (k0_t2_loop i).trips) : k0_off4 i k = ![k.val * 256, 0] := by
  show ![(Scalar.indexCast (Scalar.muli (Scf.iv 0#32 1#32 k.val) 256#32)).toNat, 0] = _
  rw [iv256 _ (by have := lt2 k; have := i2_lt i; omega)]
theorem off7 (i : grid0.Coords) : k0_off7 i = ![0, 0, (i 2).val * 256, 0] := by
  show ![0, 0, (Scalar.indexCast (Scalar.muli (BitVec.ofNat 32 (i 2).val) 256#32)).toNat, 0] = _
  rw [qb256 _ (i2_lt i)]
theorem off8 (i : grid0.Coords) : k0_off8 i = ![(i 2).val * 256, 0] := by
  show ![(Scalar.indexCast (Scalar.muli (BitVec.ofNat 32 (i 2).val) 256#32)).toNat, 0] = _
  rw [qb256 _ (i2_lt i)]
theorem off9 (i : grid0.Coords) (k : Fin (k0_t4_loop i).trips) : k0_off9 i k = ![k.val * 256, 0] := by
  show ![(Scalar.indexCast (Scalar.muli (Scf.iv 0#32 1#32 k.val) 256#32)).toNat, 0] = _
  rw [iv256 _ (by have := lt4 k; have := i2_lt i; omega)]
theorem off10 (i : grid0.Coords) (k : Fin (k0_t4_loop i).trips) : k0_off10 i k = ![0, 0, 0, k.val * 256] := by
  show ![0, 0, 0, (Scalar.indexCast (Scalar.muli (Scf.iv 0#32 1#32 k.val) 256#32)).toNat] = _
  rw [iv256 _ (by have := lt4 k; have := i2_lt i; omega)]
theorem off13 (i : grid0.Coords) (k : Fin (k0_t6_loop i).trips) : k0_off13 i k = ![k.val * 256, 0] := by
  show ![(Scalar.indexCast (Scalar.muli (Scf.iv 0#32 1#32 k.val) 256#32)).toNat, 0] = _
  rw [iv256 _ (by have := lt6 k; have := i2_lt i; omega)]
theorem off14 (i : grid0.Coords) (k : Fin (k0_t6_loop i).trips) : k0_off14 i k = ![0, 0, k.val * 256, 0] := by
  show ![0, 0, (Scalar.indexCast (Scalar.muli (Scf.iv 0#32 1#32 k.val) 256#32)).toNat, 0] = _
  rw [iv256 _ (by have := lt6 k; have := i2_lt i; omega)]
theorem off15 (i : grid0.Coords) (k : Fin (k0_t6_loop i).trips) : k0_off15 i k = ![0, 0, 0, k.val * 256] := by
  show ![0, 0, 0, (Scalar.indexCast (Scalar.muli (Scf.iv 0#32 1#32 k.val) 256#32)).toNat] = _
  rw [iv256 _ (by have := lt6 k; have := i2_lt i; omega)]
theorem off16 (i : grid0.Coords) (k : Fin (k0_t6_loop i).trips) : k0_off16 i k = ![0, k.val * 256] := by
  show ![0, (Scalar.indexCast (Scalar.muli (Scf.iv 0#32 1#32 k.val) 256#32)).toNat] = _
  rw [iv256 _ (by have := lt6 k; have := i2_lt i; omega)]

/-! ## The recursions over key blocks -/

/-- The running maximum of the scores over the first key blocks, -/
def mxR (v27 : FVec F S128x256 .bf16) (kr : Vec F S1x1x4096x128 .bf16) : ℕ → FVec F S8x256 .f32
  | 0 => k0_pay22
  | k + 1 => k0_pay26 v27 (mxR v27 kr k) (rows4 kr k)
/-- and of their negations; -/
def mnR (v27 : FVec F S128x256 .bf16) (kr : Vec F S1x1x4096x128 .bf16) : ℕ → FVec F S8x256 .f32
  | 0 => k0_pay23
  | k + 1 => k0_pay27 v27 (mnR v27 kr k) (rows4 kr k)
/-- the scores of key block `j`, the last one masked. -/
def sB (v27 : FVec F S128x256 .bf16) (kr : Vec F S1x1x4096x128 .bf16) (qb j : ℕ) : FVec F S256x256 .f32 :=
  if j < qb then k0_pay25 v27 (rows4 kr j) else k0_pay36 v27 (rows4 kr qb)
/-- The running sum of exponentials, -/
def lR (a : FVec F S8x256 .f32) (z : FVec F S32x8x256 .f32) (s : ℕ → FVec F S256x256 .f32) : ℕ → FVec F S8x256 .f32
  | 0 => k0_pay41
  | k + 1 => k0_pay45 a z (lR a z s k) (s k)
/-- and of the exponentials against the values. -/
def oR (a : FVec F S8x256 .f32) (z : FVec F S32x8x256 .f32) (s : ℕ → FVec F S256x256 .f32) (vt : Vec F S1x1x128x4096 .bf16) :
    ℕ → FVec F S128x256 .f32
  | 0 => k0_pay42
  | k + 1 => k0_pay46 a z (oR a z s vt k) (s k) (cols4 vt k)
/-- The running maximum of the score gradients' magnitudes, -/
def dsR (v30 : FVec F S128x256 .bf16) (v111 v128 : FVec F S1x256 .f32) (e : ℕ → FVec F S256x256 .f32) (vr : Vec F S1x1x4096x128 .bf16) :
    ℕ → FVec F S8x256 .f32
  | 0 => k0_pay56
  | k + 1 => k0_pay7 v30 v111 v128 (dsR v30 v111 v128 e vr k) (e k) (rows4 vr k)
/-- and the running sum of the query gradient. -/
def dqR (v30 : FVec F S128x256 .bf16) (v111 v128 : FVec F S1x256 .f32) (e : ℕ → FVec F S256x256 .f32) (vr : Vec F S1x1x4096x128 .bf16)
    (kt : Vec F S1x1x128x4096 .bf16) : ℕ → FVec F S128x256 .f32
  | 0 => k0_pay57
  | k + 1 => k0_pay9 v30 v111 v128 (dqR v30 v111 v128 e vr kt k) (e k) (rows4 vr k) (cols4 kt k)
/-- What one head adds to the key gradient's block, -/
def dkU (v27 v30 : FVec F S128x256 .bf16) (v111 v128 : FVec F S1x256 .f32) (e : FVec F S256x256 .f32) (vb : Vec F S1x1x256x128 .bf16)
    (old : Vec F S128x256 .f32) : Vec F S128x256 .f32 :=
  k0_pay58 v27 (k0_pay8 v30 v111 v128 e vb) old
/-- and to the value gradient's. -/
def dvU (v30 : FVec F S128x256 .bf16) (v111 : FVec F S1x256 .f32) (e : FVec F S256x256 .f32) (old : Vec F S128x256 .f32) : Vec F S128x256 .f32 :=
  k0_pay10 v30 v111 e old

section parts
variable (c : Dev nD) (i : grid0.Coords) (arg3 : Memref sig .tc .vmem S1x1x5x128x256 .bf16) (harg3 : arg3.IsWhole) (arg4 : Memref sig .tc .vmem S1x1x5x128x256 .bf16) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x1x4096x128 .bf16) (harg7 : arg7.IsWhole) (arg8 : Memref sig .tc .vmem S1x1x128x4096 .bf16) (harg8 : arg8.IsWhole) (arg9 : Memref sig .tc .vmem S1x1x4096x128 .bf16) (harg9 : arg9.IsWhole) (arg10 : Memref sig .tc .vmem S1x1x128x4096 .bf16) (harg10 : arg10.IsWhole) (arg11 : Memref sig .tc .vmem S1x1x5x256 .f32) (harg11 : arg11.IsWhole) (arg12 : Memref sig .tc .vmem S1x1x5x256 .f32) (harg12 : arg12.IsWhole) (arg13 : Memref sig .tc .vmem S1x1x5x256 .f32) (harg13 : arg13.IsWhole) (arg14 : Memref sig .tc .vmem S1x1x5x256 .f32) (harg14 : arg14.IsWhole) (arg15 : Memref sig .tc .vmem S1x1x5x256 .f32) (harg15 : arg15.IsWhole) (arg16 : Memref sig .tc .vmem S1x1x5x256 .f32) (harg16 : arg16.IsWhole) (arg17 : Memref sig .tc .vmem S1x1x5x128x256 .f32) (harg17 : arg17.IsWhole) (arg18 : Memref sig .tc .vmem S1x1x1x4096 .f32) (harg18 : arg18.IsWhole) (arg19 : Memref sig .tc .vmem S1x1x1x4096 .f32) (harg19 : arg19.IsWhole) (arg20 : Memref sig .tc .vmem S4096x256 .f32) (harg20 : arg20.IsWhole) (arg21 : Memref sig .tc .vmem S128x4096 .f32) (harg21 : arg21.IsWhole) (arg22 : Memref sig .tc .vmem S128x4096 .f32) (harg22 : arg22.IsWhole)

/-! ## The scores -/

/-- One key block's scores: the invariant is kept. -/
theorem t2_run (x7 : Bf (F := F) c arg7) (arg2 : BitVec 32) (k1 : Fin k0_t1_loop.trips) (v8 : BitVec 32) (v27 : FVec F S128x256 .bf16) (v42 : FVec F S1x256 .f32)
    (k : Fin (k0_t2_loop i).trips) (acc : FVec F S8x256 .f32 × FVec F S8x256 .f32) :
    iprop(pt c arg7 x7 ∗ hp c arg20 (fun A => ∀ j < k.val, rows2 A j = k0_pay25 v27 (rows4 (arg7.view.read (Elt F) x7) j))
        ∗ ⌜acc = (mxR v27 (arg7.view.read (Elt F) x7) k.val, mnR v27 (arg7.view.read (Elt F) x7) k.val)⌝)
      ⊢ wp frame (wpE (defs₀ (F := F)) 𝒱₀ (c : Thread nD τ) none) Set.univ (k0_t2_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 k1 v8 v27 v42 k acc)
        (fun acc' => iprop(pt c arg7 x7 ∗ hp c arg20 (fun A => ∀ j < k.val + 1, rows2 A j = k0_pay25 v27 (rows4 (arg7.view.read (Elt F) x7) j))
        ∗ ⌜acc' = (mxR v27 (arg7.view.read (Elt F) x7) (k.val + 1), mnR v27 (arg7.view.read (Elt F) x7) (k.val + 1))⌝)) := by
  iintro ⟨H7, ⟨%f20, H20, %h20⟩, %hacc⟩
  subst hacc
  unfold k0_t2_body
  sl_exec
  sl_step
  have hk := lt2 k
  have hi := i2_lt i
  rw [readAt_rows4 (k := k.val) arg7.view x7 (k0_off3_inb i k) (by omega) (off3 i k)]
  isplitl [H7]; · iexact H7
  isplitl [H20]
  · iexists _; isplitl [H20]; · iexact H20
    ipureintro
    intro j hj
    rw [rows2_writes arg20.view f20 (k0_off4_inb i k) _ (k := k.val) (by omega) (by omega) (off4 i k)]
    split
    · subst j; rfl
    · exact h20 j (by omega)
  · ipureintro; rfl

/-- The fourth part: the scores of every key block written, their maxima returned, and the incoming gradient's row stored. -/
theorem part4_run (x7 : Bf (F := F) c arg7) (k1 : Fin k0_t1_loop.trips) (v8 : BitVec 32) (v27 : FVec F S128x256 .bf16)
    (v42 : FVec F S1x256 .f32) (x12 : Bf (F := F) c arg12) (P12 : ℕ → S1x1x1x256.Idx → Elt F .f32)
    (h12 : ∀ h < k1.val, row4 (arg12.view.read (Elt F) x12) h = P12 h) (hP : P12 k1.val = k0_pay21 v42) :
    iprop(pt c arg7 x7 ∗ pt c arg12 x12 ∗ (∃ f, pt c arg20 f))
      ⊢ wp frame (wpE (defs₀ (F := F)) 𝒱₀ (c : Thread nD τ) none) Set.univ (k0_part4 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 2).val) k1 v8 v27 v42)
        (fun r => iprop(⌜r = ⟨mxR v27 (arg7.view.read (Elt F) x7) (i 2).val, k0_pay34 v27 (mnR v27 (arg7.view.read (Elt F) x7) (i 2).val) (rows4 (arg7.view.read (Elt F) x7) (i 2).val),
              k0_pay37 v27 (rows4 (arg7.view.read (Elt F) x7) (i 2).val)⟩⌝
          ∗ pt c arg7 x7 ∗ hp c arg12 (fun A => ∀ h < k1.val + 1, row4 A h = P12 h)
          ∗ hp c arg20 (fun A => ∀ j < (i 2).val + 1, rows2 A j = sB v27 (arg7.view.read (Elt F) x7) (i 2).val j))) := by
  iintro ⟨H7, H12, ⟨%f20, H20⟩⟩
  rw [k0_part4_eq_skeleton]
  unfold k0_part4_skel
  have hi := i2_lt i
  have hk1 := lt1 k1
  sl_exec
  sl_for (fun k acc => iprop(pt c arg7 x7 ∗ hp c arg20 (fun A => ∀ j < k, rows2 A j = k0_pay25 v27 (rows4 (arg7.view.read (Elt F) x7) j))
        ∗ ⌜acc = (mxR v27 (arg7.view.read (Elt F) x7) k, mnR v27 (arg7.view.read (Elt F) x7) k)⌝)) $$ [H7 H20]
  case region => intro k acc; exact t2_run c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x7 _ k1 v8 v27 v42 k acc
  · isplitl [H7]; · iexact H7
    isplitl [H20]
    · iexists f20; isplitl [H20]; · iexact H20
      ipureintro; intro j hj; exact absurd hj (Nat.not_lt_zero _)
    · ipureintro; rfl
  iintro %acc ⟨H7, ⟨%g20, H20, %h20⟩, %hacc⟩
  rw [show Scf.trips (k0_t2_loop i).lb (k0_t2_loop i).ub (k0_t2_loop i).st = (i 2).val from trips2 i] at h20 hacc
  subst hacc
  sl_exec
  sl_step
  rw [readAt_rows4 (k := (i 2).val) arg7.view x7 (k0_off7_inb i) (by omega) (off7 i)]
  isplitr; · ipureintro; rfl
  isplitl [H7]; · iexact H7
  isplitl [H12]
  · iexists _; isplitl [H12]; · iexact H12
    ipureintro
    intro h hh
    rw [row4_writes arg12.view x12 (k0_off2_inb k1) _ (k := k1.val) (by omega) (by omega) (off2 k1)]
    split
    · subst h; exact hP.symm
    · exact h12 h (by omega)
  · iexists _; isplitl [H20]; · iexact H20
    ipureintro
    intro j hj
    rw [rows2_writes arg20.view g20 (k0_off8_inb i) _ (k := (i 2).val) (by omega) (by omega) (off8 i)]
    unfold sB
    split
    · rw [if_neg (by omega)]
    · rw [if_pos (by omega)]; exact h20 j (by omega)

/-! ## The softmax and the output -/

/-- One key block's exponentials: the invariant is kept. -/
theorem t4_run (x10 : Bf (F := F) c arg10) (arg2 : BitVec 32) (k1 : Fin k0_t1_loop.trips) (v8 : BitVec 32) (a v71 : FVec F S8x256 .f32)
    (z : FVec F S32x8x256 .f32) (s : ℕ → FVec F S256x256 .f32)
    (k : Fin (k0_t4_loop i).trips) (acc : FVec F S8x256 .f32 × FVec F S128x256 .f32) :
    iprop(pt c arg10 x10 ∗ hp c arg20 (fun A => ∀ j < (i 2).val + 1, rows2 A j = if j < k.val then k0_pay44 a z (s j) else s j)
        ∗ ⌜acc = (lR a z s k.val, oR a z s (arg10.view.read (Elt F) x10) k.val)⌝)
      ⊢ wp frame (wpE (defs₀ (F := F)) 𝒱₀ (c : Thread nD τ) none) Set.univ (k0_t4_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 k1 v8 a v71 z k acc)
        (fun acc' => iprop(pt c arg10 x10 ∗ hp c arg20 (fun A => ∀ j < (i 2).val + 1, rows2 A j = if j < k.val + 1 then k0_pay44 a z (s j) else s j)
        ∗ ⌜acc' = (lR a z s (k.val + 1), oR a z s (arg10.view.read (Elt F) x10) (k.val + 1))⌝)) := by
  iintro ⟨H10, ⟨%f20, H20, %h20⟩, %hacc⟩
  subst hacc
  unfold k0_t4_body
  sl_exec
  sl_step
  have hk := lt4 k
  have hi := i2_lt i
  have e : rows2 (arg20.view.read (Elt F) f20) k.val = s k.val := by rw [h20 _ hk, if_neg (by omega)]
  rw [readAt_cols4 (k := k.val) arg10.view x10 (k0_off10_inb i k) (by omega) (off10 i k),
    readAt_rows2 (k := k.val) arg20.view f20 (k0_off9_inb i k) (by omega) (off9 i k), e]
  isplitl [H10]; · iexact H10
  isplitl [H20]
  · iexists _; isplitl [H20]; · iexact H20
    ipureintro
    intro j hj
    rw [rows2_writes arg20.view f20 (k0_off9_inb i k) _ (k := k.val) (by omega) (by omega) (off9 i k)]
    split
    · subst j; rw [if_pos (by omega)]
    · rw [h20 j hj]
      by_cases hjk : j < k.val
      · rw [if_pos hjk, if_pos (by omega)]
      · rw [if_neg hjk, if_neg (by omega)]
  · ipureintro; rfl

/-- The fifth part: the score row and the output's head stored, the exponentials left in the score array, the inverse denominator and
    the output returned. -/
theorem part5_run (x10 : Bf (F := F) c arg10) (k1 : Fin k0_t1_loop.trips) (v8 : BitVec 32) (a v71 : FVec F S8x256 .f32)
    (z : FVec F S32x8x256 .f32) (s : ℕ → FVec F S256x256 .f32) (x13 : Bf (F := F) c arg13) (x17 : Bf (F := F) c arg17)
    (P13 : ℕ → S1x1x1x256.Idx → Elt F .f32) (h13 : ∀ h < k1.val, row4 (arg13.view.read (Elt F) x13) h = P13 h) (hP : P13 k1.val = k0_pay39 a v71 z)
    (P17 : ℕ → S1x1x1x128x256.Idx → Elt F .f32) (h17 : ∀ h < k1.val, head5 (arg17.view.read (Elt F) x17) h = P17 h)
    (hP' : P17 k1.val = k0_pay53 (lR a z s ((i 2).val + 1)) (oR a z s (arg10.view.read (Elt F) x10) ((i 2).val + 1))) :
    iprop(pt c arg10 x10 ∗ pt c arg13 x13 ∗ pt c arg17 x17 ∗ hp c arg20 (fun A => ∀ j < (i 2).val + 1, rows2 A j = s j))
      ⊢ wp frame (wpE (defs₀ (F := F)) 𝒱₀ (c : Thread nD τ) none) Set.univ (k0_part5 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 2).val) k1 v8 a v71 z)
        (fun r => iprop(⌜r = ⟨k0_pay51 (lR a z s ((i 2).val + 1)), k0_pay52 (lR a z s ((i 2).val + 1)) (oR a z s (arg10.view.read (Elt F) x10) ((i 2).val + 1))⟩⌝
          ∗ pt c arg10 x10 ∗ hp c arg13 (fun A => ∀ h < k1.val + 1, row4 A h = P13 h) ∗ hp c arg17 (fun A => ∀ h < k1.val + 1, head5 A h = P17 h)
          ∗ hp c arg20 (fun A => ∀ j < (i 2).val + 1, rows2 A j = k0_pay44 a z (s j)))) := by
  iintro ⟨H10, H13, H17, ⟨%f20, H20, %h20⟩⟩
  rw [k0_part5_eq_skeleton]
  unfold k0_part5_skel
  have hi := i2_lt i
  have hk1 := lt1 k1
  sl_exec
  sl_for (fun k acc => iprop(pt c arg10 x10 ∗ hp c arg20 (fun A => ∀ j < (i 2).val + 1, rows2 A j = if j < k then k0_pay44 a z (s j) else s j)
        ∗ ⌜acc = (lR a z s k, oR a z s (arg10.view.read (Elt F) x10) k)⌝)) $$ [H10 H20]
  case region => intro k acc; exact t4_run c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x10 _ k1 v8 a v71 z s k acc
  · isplitl [H10]; · iexact H10
    isplitl [H20]
    · iexists f20; isplitl [H20]; · iexact H20
      ipureintro; intro j hj; rw [if_neg (Nat.not_lt_zero _)]; exact h20 j hj
    · ipureintro; rfl
  iintro %acc ⟨H10, ⟨%g20, H20, %h20'⟩, %hacc⟩
  rw [show Scf.trips (k0_t4_loop i).lb (k0_t4_loop i).ub (k0_t4_loop i).st = (i 2).val + 1 from trips4 i] at h20' hacc
  subst hacc
  sl_exec
  sl_step
  isplitr; · ipureintro; rfl
  isplitl [H10]; · iexact H10
  isplitl [H13]
  · iexists _; isplitl [H13]; · iexact H13
    ipureintro
    intro h hh
    rw [row4_writes arg13.view x13 (k0_off2_inb k1) _ (k := k1.val) (by omega) (by omega) (off2 k1)]
    split
    · subst h; exact hP.symm
    · exact h13 h (by omega)
  isplitl [H17]
  · iexists _; isplitl [H17]; · iexact H17
    ipureintro
    intro h hh
    rw [head5_writes arg17.view x17 (k0_off1_inb k1) _ (k := k1.val) (by omega) (by omega) (off1 k1)]
    split
    · subst h; exact hP'.symm
    · exact h17 h (by omega)
  · iexists _; isplitl [H20]; · iexact H20
    ipureintro
    intro j hj
    rw [h20' j hj, if_pos hj]

/-! ## The gradients -/

/-- One key block's gradients: the invariant is kept. -/
theorem t6_run (x8 : Bf (F := F) c arg8) (x9 : Bf (F := F) c arg9) (arg2 : BitVec 32) (k1 : Fin k0_t1_loop.trips) (v8 : BitVec 32)
    (v27 v30 : FVec F S128x256 .bf16) (v111 : FVec F S1x256 .f32) (v113 : FVec F S128x256 .f32) (e : ℕ → FVec F S256x256 .f32)
    (K W : ℕ → S128x256.Idx → Elt F .f32)
    (k : Fin (k0_t6_loop i).trips) (acc : FVec F S8x256 .f32 × FVec F S128x256 .f32) :
    iprop(pt c arg8 x8 ∗ pt c arg9 x9 ∗ hp c arg20 (fun A => ∀ j < (i 2).val + 1, rows2 A j = e j)
        ∗ hp c arg21 (fun A => ∀ j < 16, cols2 A j = if j < k.val then dkU v27 v30 v111 (k0_pay55 v30 v113) (e j) (rows4 (arg9.view.read (Elt F) x9) j) (K j) else K j)
        ∗ hp c arg22 (fun A => ∀ j < 16, cols2 A j = if j < k.val then dvU v30 v111 (e j) (W j) else W j)
        ∗ ⌜acc = (dsR v30 v111 (k0_pay55 v30 v113) e (arg9.view.read (Elt F) x9) k.val, dqR v30 v111 (k0_pay55 v30 v113) e (arg9.view.read (Elt F) x9) (arg8.view.read (Elt F) x8) k.val)⌝)
      ⊢ wp frame (wpE (defs₀ (F := F)) 𝒱₀ (c : Thread nD τ) none) Set.univ (k0_t6_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 k1 v8 v27 v30 v111 v113 k acc)
        (fun acc' => iprop(pt c arg8 x8 ∗ pt c arg9 x9 ∗ hp c arg20 (fun A => ∀ j < (i 2).val + 1, rows2 A j = e j)
        ∗ hp c arg21 (fun A => ∀ j < 16, cols2 A j = if j < k.val + 1 then dkU v27 v30 v111 (k0_pay55 v30 v113) (e j) (rows4 (arg9.view.read (Elt F) x9) j) (K j) else K j)
        ∗ hp c arg22 (fun A => ∀ j < 16, cols2 A j = if j < k.val + 1 then dvU v30 v111 (e j) (W j) else W j)
        ∗ ⌜acc' = (dsR v30 v111 (k0_pay55 v30 v113) e (arg9.view.read (Elt F) x9) (k.val + 1), dqR v30 v111 (k0_pay55 v30 v113) e (arg9.view.read (Elt F) x9) (arg8.view.read (Elt F) x8) (k.val + 1))⌝)) := by
  iintro ⟨H8, H9, ⟨%f20, H20, %h20⟩, ⟨%f21, H21, %h21⟩, ⟨%f22, H22, %h22⟩, %hacc⟩
  subst hacc
  unfold k0_t6_body
  dsimp only
  rw [k0_part1_eq_skeleton]
  unfold k0_part1_skel
  sl_exec
  sl_step
  have hk := lt6 k
  have hi := i2_lt i
  have e20 : rows2 (arg20.view.read (Elt F) f20) k.val = e k.val := h20 _ hk
  have e21 : cols2 (arg21.view.read (Elt F) f21) k.val = K k.val := by rw [h21 _ (by omega), if_neg (by omega)]
  have e22 : cols2 (arg22.view.read (Elt F) f22) k.val = W k.val := by rw [h22 _ (by omega), if_neg (by omega)]
  rw [readAt_rows2 (k := k.val) arg20.view f20 (k0_off13_inb i k) (by omega) (off13 i k), e20,
    readAt_rows4 (k := k.val) arg9.view x9 (k0_off14_inb i k) (by omega) (off14 i k),
    readAt_cols4 (k := k.val) arg8.view x8 (k0_off15_inb i k) (by omega) (off15 i k),
    readAt_cols2 (k := k.val) arg21.view f21 (k0_off16_inb i k) (by omega) (off16 i k), e21,
    readAt_cols2 (k := k.val) arg22.view f22 (k0_off16_inb i k) (by omega) (off16 i k), e22]
  isplitl [H8]; · iexact H8
  isplitl [H9]; · iexact H9
  isplitl [H20]
  · iexists _; isplitl [H20]; · iexact H20
    ipureintro; exact h20
  isplitl [H21]
  · iexists _; isplitl [H21]; · iexact H21
    ipureintro
    intro j hj
    rw [cols2_writes arg21.view f21 (k0_off16_inb i k) _ (k := k.val) (by omega) (by omega) (off16 i k)]
    split
    · subst j; rw [if_pos (by omega)]; rfl
    · rw [h21 j hj]
      by_cases hjk : j < k.val
      · rw [if_pos hjk, if_pos (by omega)]
      · rw [if_neg hjk, if_neg (by omega)]
  isplitl [H22]
  · iexists _; isplitl [H22]; · iexact H22
    ipureintro
    intro j hj
    rw [cols2_writes arg22.view f22 (k0_off16_inb i k) _ (k := k.val) (by omega) (by omega) (off16 i k)]
    split
    · subst j; rw [if_pos (by omega)]; rfl
    · rw [h22 j hj]
      by_cases hjk : j < k.val
      · rw [if_pos hjk, if_pos (by omega)]
      · rw [if_neg hjk, if_neg (by omega)]
  · ipureintro; rfl

/-- The sixth part: three rows stored, and one head's share added to the key and value gradients. -/
theorem part6_run (x8 : Bf (F := F) c arg8) (x9 : Bf (F := F) c arg9) (k1 : Fin k0_t1_loop.trips) (v8 : BitVec 32)
    (v27 v30 : FVec F S128x256 .bf16) (v111 : FVec F S1x256 .f32) (v113 : FVec F S128x256 .f32) (e : ℕ → FVec F S256x256 .f32)
    (K W : ℕ → S128x256.Idx → Elt F .f32) (x14 : Bf (F := F) c arg14) (x15 : Bf (F := F) c arg15) (x16 : Bf (F := F) c arg16)
    (P14 P15 P16 : ℕ → S1x1x1x256.Idx → Elt F .f32)
    (h14 : ∀ h < k1.val, row4 (arg14.view.read (Elt F) x14) h = P14 h) (hP14 : P14 k1.val = k0_pay54 v113)
    (h15 : ∀ h < k1.val, row4 (arg15.view.read (Elt F) x15) h = P15 h)
    (hP15 : P15 k1.val = k0_pay60 (dsR v30 v111 (k0_pay55 v30 v113) e (arg9.view.read (Elt F) x9) ((i 2).val + 1)))
    (h16 : ∀ h < k1.val, row4 (arg16.view.read (Elt F) x16) h = P16 h)
    (hP16 : P16 k1.val = k0_pay61 (dqR v30 v111 (k0_pay55 v30 v113) e (arg9.view.read (Elt F) x9) (arg8.view.read (Elt F) x8) ((i 2).val + 1))) :
    iprop(pt c arg8 x8 ∗ pt c arg9 x9 ∗ pt c arg14 x14 ∗ pt c arg15 x15 ∗ pt c arg16 x16 ∗ hp c arg20 (fun A => ∀ j < (i 2).val + 1, rows2 A j = e j)
        ∗ hp c arg21 (fun A => ∀ j < 16, cols2 A j = K j) ∗ hp c arg22 (fun A => ∀ j < 16, cols2 A j = W j))
      ⊢ wp frame (wpE (defs₀ (F := F)) 𝒱₀ (c : Thread nD τ) none) Set.univ (k0_part6 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 2).val) k1 v8 v27 v30 v111 v113)
        (fun _ => iprop(pt c arg8 x8 ∗ pt c arg9 x9 ∗ hp c arg14 (fun A => ∀ h < k1.val + 1, row4 A h = P14 h)
          ∗ hp c arg15 (fun A => ∀ h < k1.val + 1, row4 A h = P15 h) ∗ hp c arg16 (fun A => ∀ h < k1.val + 1, row4 A h = P16 h) ∗ (∃ f, pt c arg20 f)
          ∗ hp c arg21 (fun A => ∀ j < 16, cols2 A j = if j < (i 2).val + 1 then dkU v27 v30 v111 (k0_pay55 v30 v113) (e j) (rows4 (arg9.view.read (Elt F) x9) j) (K j) else K j)
          ∗ hp c arg22 (fun A => ∀ j < 16, cols2 A j = if j < (i 2).val + 1 then dvU v30 v111 (e j) (W j) else W j))) := by
  iintro ⟨H8, H9, H14, H15, H16, ⟨%f20, H20, %h20⟩, ⟨%f21, H21, %h21⟩, ⟨%f22, H22, %h22⟩⟩
  rw [k0_part6_eq_skeleton]
  unfold k0_part6_skel
  have hi := i2_lt i
  have hk1 := lt1 k1
  sl_exec
  sl_for (fun k acc => iprop(pt c arg8 x8 ∗ pt c arg9 x9 ∗ hp c arg20 (fun A => ∀ j < (i 2).val + 1, rows2 A j = e j)
        ∗ hp c arg21 (fun A => ∀ j < 16, cols2 A j = if j < k then dkU v27 v30 v111 (k0_pay55 v30 v113) (e j) (rows4 (arg9.view.read (Elt F) x9) j) (K j) else K j)
        ∗ hp c arg22 (fun A => ∀ j < 16, cols2 A j = if j < k then dvU v30 v111 (e j) (W j) else W j)
        ∗ ⌜acc = (dsR v30 v111 (k0_pay55 v30 v113) e (arg9.view.read (Elt F) x9) k, dqR v30 v111 (k0_pay55 v30 v113) e (arg9.view.read (Elt F) x9) (arg8.view.read (Elt F) x8) k)⌝)) $$ [H8 H9 H20 H21 H22]
  case region => intro k acc; exact t6_run c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x8 x9 _ k1 v8 v27 v30 v111 v113 e K W k acc
  · isplitl [H8]; · iexact H8
    isplitl [H9]; · iexact H9
    isplitl [H20]
    · iexists f20; isplitl [H20]; · iexact H20
      ipureintro; exact h20
    isplitl [H21]
    · iexists f21; isplitl [H21]; · iexact H21
      ipureintro; intro j hj; rw [if_neg (Nat.not_lt_zero _)]; exact h21 j hj
    isplitl [H22]
    · iexists f22; isplitl [H22]; · iexact H22
      ipureintro; intro j hj; rw [if_neg (Nat.not_lt_zero _)]; exact h22 j hj
    · ipureintro; rfl
  iintro %acc ⟨H8, H9, ⟨%g20, H20, %h20'⟩, ⟨%g21, H21, %h21'⟩, ⟨%g22, H22, %h22'⟩, %hacc⟩
  rw [show Scf.trips (k0_t6_loop i).lb (k0_t6_loop i).ub (k0_t6_loop i).st = (i 2).val + 1 from trips6 i] at h21' h22' hacc
  subst hacc
  sl_exec
  sl_step
  isplitl [H8]; · iexact H8
  isplitl [H9]; · iexact H9
  isplitl [H14]
  · iexists _; isplitl [H14]; · iexact H14
    ipureintro
    intro h hh
    rw [row4_writes arg14.view x14 (k0_off2_inb k1) _ (k := k1.val) (by omega) (by omega) (off2 k1)]
    split
    · subst h; exact hP14.symm
    · exact h14 h (by omega)
  isplitl [H15]
  · iexists _; isplitl [H15]; · iexact H15
    ipureintro
    intro h hh
    rw [row4_writes arg15.view x15 (k0_off2_inb k1) _ (k := k1.val) (by omega) (by omega) (off2 k1)]
    split
    · subst h; exact hP15.symm
    · exact h15 h (by omega)
  isplitl [H16]
  · iexists _; isplitl [H16]; · iexact H16
    ipureintro
    intro h hh
    rw [row4_writes arg16.view x16 (k0_off2_inb k1) _ (k := k1.val) (by omega) (by omega) (off2 k1)]
    split
    · subst h; exact hP16.symm
    · exact h16 h (by omega)
  isplitl [H20]; · iexists g20; iexact H20
  isplitl [H21]
  · iexists _; isplitl [H21]; · iexact H21
    ipureintro; exact h21'
  · iexists _; isplitl [H22]; · iexact H22
    ipureintro; exact h22'

/-- The third part: the query's row stored, the rotated query and the incoming gradient's head returned. -/
theorem part3_run (x3 : Bf (F := F) c arg3) (x4 : Bf (F := F) c arg4) (x5 : Bf (F := F) c arg5) (x6 : Bf (F := F) c arg6) (k1 : Fin k0_t1_loop.trips)
    (x11 : Bf (F := F) c arg11) (P11 : ℕ → S1x1x1x256.Idx → Elt F .f32)
    (h11 : ∀ h < k1.val, row4 (arg11.view.read (Elt F) x11) h = P11 h)
    (hP : P11 k1.val = k0_pay19 (head5 (arg3.view.read (Elt F) x3) k1.val) (arg5.view.read (Elt F) x5) (arg6.view.read (Elt F) x6)) :
    iprop(pt c arg3 x3 ∗ pt c arg4 x4 ∗ pt c arg5 x5 ∗ pt c arg6 x6 ∗ pt c arg11 x11)
      ⊢ wp frame (wpE (defs₀ (F := F)) 𝒱₀ (c : Thread nD τ) none) Set.univ (k0_part3 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 0#32 1#32 k1)
        (fun r => iprop(⌜r.2 = ⟨k0_pay17 (head5 (arg3.view.read (Elt F) x3) k1.val) (arg5.view.read (Elt F) x5) (arg6.view.read (Elt F) x6),
              k0_pay18 (head5 (arg4.view.read (Elt F) x4) k1.val), k0_pay20 (head5 (arg4.view.read (Elt F) x4) k1.val)⟩⌝
          ∗ pt c arg3 x3 ∗ pt c arg4 x4 ∗ pt c arg5 x5 ∗ pt c arg6 x6 ∗ hp c arg11 (fun A => ∀ h < k1.val + 1, row4 A h = P11 h))) := by
  iintro ⟨H3, H4, H5, H6, H11⟩
  rw [k0_part3_eq_skeleton]
  unfold k0_part3_skel
  have hk1 := lt1 k1
  sl_exec
  sl_step
  rw [readAt_head5 (k := k1.val) arg3.view x3 (k0_off1_inb k1) (by omega) (off1 k1),
    readAt_head5 (k := k1.val) arg4.view x4 (k0_off1_inb k1) (by omega) (off1 k1),
    View.readAt_full arg5.view x5, View.readAt_full arg6.view x6]
  isplitr; · ipureintro; rfl
  isplitl [H3]; · iexact H3
  isplitl [H4]; · iexact H4
  isplitl [H5]; · iexact H5
  isplitl [H6]; · iexact H6
  iexists _; isplitl [H11]; · iexact H11
  ipureintro
  intro h hh
  rw [row4_writes arg11.view x11 (k0_off2_inb k1) _ (k := k1.val) (by omega) (by omega) (off2 k1)]
  split
  · subst h; exact hP.symm
  · exact h11 h (by omega)

end parts

end Cert.KernelIdeal.Body

end
-- ==== Proof.KiHead.lean ====
/-
  One grid point of the attention body: five query heads one after another, then the whole body. The arrays it leaves are named
  as functions of the operand blocks it is given.
-/
module

public import proofs.«01_k».proof.Proof.KiBody

@[expose] public section

set_option maxRecDepth 16384
set_option maxHeartbeats 4000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Attn

variable {F : FTy → Type} [FloatOps F] [Named F]

local notation "𝕄" => MT nD τ sig Unit (Elt F) ℕ (UR sig nD τ) ℕ

/-- The operand blocks of one grid point: the query and incoming-gradient heads, the two rotation tables, and the keys and values, by
    rows and by columns. -/
structure In (F : FTy → Type) where
  q : Vec F S1x1x5x128x256 .bf16
  d : Vec F S1x1x5x128x256 .bf16
  cs : Vec F S1x64x256 .f32
  sn : Vec F S1x64x256 .f32
  kr : Vec F S1x1x4096x128 .bf16
  kt : Vec F S1x1x128x4096 .bf16
  vr : Vec F S1x1x4096x128 .bf16
  vt : Vec F S1x1x128x4096 .bf16

variable (I : In F) (qb : ℕ)

/-- Head `h`'s rotated query, -/
def qH (h : ℕ) : FVec F S128x256 .bf16 := k0_pay17 (head5 I.q h) I.cs I.sn
/-- its incoming gradient, -/
def doH (h : ℕ) : FVec F S128x256 .bf16 := k0_pay18 (head5 I.d h)
/-- the maximum of its unmasked scores, -/
def mxH (h : ℕ) : FVec F S8x256 .f32 := mxR (qH I h) I.kr qb
/-- the maximum of its negated visible scores, -/
def mnH (h : ℕ) : FVec F S8x256 .f32 := k0_pay34 (qH I h) (mnR (qH I h) I.kr qb) (rows4 I.kr qb)
/-- its masked last block of scores, -/
def zH (h : ℕ) : FVec F S32x8x256 .f32 := k0_pay37 (qH I h) (rows4 I.kr qb)
/-- its scores, -/
def sH (h j : ℕ) : FVec F S256x256 .f32 := sB (qH I h) I.kr qb j
/-- their exponentials, -/
def eH (h j : ℕ) : FVec F S256x256 .f32 := k0_pay44 (mxH I qb h) (zH I qb h) (sH I qb h j)
/-- the exponentials' sums, -/
def lH (h : ℕ) : FVec F S8x256 .f32 := lR (mxH I qb h) (zH I qb h) (sH I qb h) (qb + 1)
/-- their sum against the values, -/
def oH (h : ℕ) : FVec F S128x256 .f32 := oR (mxH I qb h) (zH I qb h) (sH I qb h) I.vt (qb + 1)
/-- the inverse denominator, -/
def ivH (h : ℕ) : FVec F S1x256 .f32 := k0_pay51 (lH I qb h)
/-- the output, -/
def outH (h : ℕ) : FVec F S128x256 .f32 := k0_pay52 (lH I qb h) (oH I qb h)
/-- and the row sums of the output against the incoming gradient. -/
def dlH (h : ℕ) : FVec F S1x256 .f32 := k0_pay55 (doH I h) (outH I qb h)

/-- The rows and the head that head `h` stores. -/
def p11 (h : ℕ) : S1x1x1x256.Idx → Elt F .f32 := k0_pay19 (head5 I.q h) I.cs I.sn
def p12 (h : ℕ) : S1x1x1x256.Idx → Elt F .f32 := k0_pay21 (k0_pay20 (head5 I.d h))
def p13 (h : ℕ) : S1x1x1x256.Idx → Elt F .f32 := k0_pay39 (mxH I qb h) (mnH I qb h) (zH I qb h)
def p14 (h : ℕ) : S1x1x1x256.Idx → Elt F .f32 := k0_pay54 (outH I qb h)
def p15 (h : ℕ) : S1x1x1x256.Idx → Elt F .f32 :=
  k0_pay60 (dsR (doH I h) (ivH I qb h) (dlH I qb h) (eH I qb h) I.vr (qb + 1))
def p16 (h : ℕ) : S1x1x1x256.Idx → Elt F .f32 :=
  k0_pay61 (dqR (doH I h) (ivH I qb h) (dlH I qb h) (eH I qb h) I.vr I.kt (qb + 1))
def p17 (h : ℕ) : S1x1x1x128x256.Idx → Elt F .f32 := k0_pay53 (lH I qb h) (oH I qb h)

/-- The key gradient's blocks after the first `h` heads, from `K`, -/
def dkA (K : ℕ → S128x256.Idx → Elt F .f32) : ℕ → ℕ → S128x256.Idx → Elt F .f32
  | 0, j => K j
  | h + 1, j => if j < qb + 1 then dkU (qH I h) (doH I h) (ivH I qb h) (dlH I qb h) (eH I qb h j) (rows4 I.vr j) (dkA K h j) else dkA K h j
/-- and the value gradient's, from `W`. -/
def dvA (W : ℕ → S128x256.Idx → Elt F .f32) : ℕ → ℕ → S128x256.Idx → Elt F .f32
  | 0, j => W j
  | h + 1, j => if j < qb + 1 then dvU (doH I h) (ivH I qb h) (eH I qb h j) (dvA W h j) else dvA W h j

/-- The key gradient at a grid point's start, where it is zeroed, -/
def K0 (j : ℕ) : S128x256.Idx → Elt F .f32 := cols2 (k0_pay1 (F := F)) j
/-- and the value gradient. -/
def W0 (j : ℕ) : S128x256.Idx → Elt F .f32 := cols2 (k0_pay2 (F := F)) j

section parts
variable (c : Dev nD) (i : grid0.Coords) (arg3 : Memref sig .tc .vmem S1x1x5x128x256 .bf16) (harg3 : arg3.IsWhole) (arg4 : Memref sig .tc .vmem S1x1x5x128x256 .bf16) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x1x4096x128 .bf16) (harg7 : arg7.IsWhole) (arg8 : Memref sig .tc .vmem S1x1x128x4096 .bf16) (harg8 : arg8.IsWhole) (arg9 : Memref sig .tc .vmem S1x1x4096x128 .bf16) (harg9 : arg9.IsWhole) (arg10 : Memref sig .tc .vmem S1x1x128x4096 .bf16) (harg10 : arg10.IsWhole) (arg11 : Memref sig .tc .vmem S1x1x5x256 .f32) (harg11 : arg11.IsWhole) (arg12 : Memref sig .tc .vmem S1x1x5x256 .f32) (harg12 : arg12.IsWhole) (arg13 : Memref sig .tc .vmem S1x1x5x256 .f32) (harg13 : arg13.IsWhole) (arg14 : Memref sig .tc .vmem S1x1x5x256 .f32) (harg14 : arg14.IsWhole) (arg15 : Memref sig .tc .vmem S1x1x5x256 .f32) (harg15 : arg15.IsWhole) (arg16 : Memref sig .tc .vmem S1x1x5x256 .f32) (harg16 : arg16.IsWhole) (arg17 : Memref sig .tc .vmem S1x1x5x128x256 .f32) (harg17 : arg17.IsWhole) (arg18 : Memref sig .tc .vmem S1x1x1x4096 .f32) (harg18 : arg18.IsWhole) (arg19 : Memref sig .tc .vmem S1x1x1x4096 .f32) (harg19 : arg19.IsWhole) (arg20 : Memref sig .tc .vmem S4096x256 .f32) (harg20 : arg20.IsWhole) (arg21 : Memref sig .tc .vmem S128x4096 .f32) (harg21 : arg21.IsWhole) (arg22 : Memref sig .tc .vmem S128x4096 .f32) (harg22 : arg22.IsWhole)
  (x3 : Bf (F := F) c arg3) (x4 : Bf (F := F) c arg4) (x5 : Bf (F := F) c arg5) (x6 : Bf (F := F) c arg6)
  (x7 : Bf (F := F) c arg7) (x8 : Bf (F := F) c arg8) (x9 : Bf (F := F) c arg9) (x10 : Bf (F := F) c arg10)

/-- The operand blocks as the eight staging buffers hold them. -/
def inOf : In F := ⟨arg3.view.read (Elt F) x3, arg4.view.read (Elt F) x4, arg5.view.read (Elt F) x5, arg6.view.read (Elt F) x6,
  arg7.view.read (Elt F) x7, arg8.view.read (Elt F) x8, arg9.view.read (Elt F) x9, arg10.view.read (Elt F) x10⟩

local notation "I₀" => inOf c arg3 arg4 arg5 arg6 arg7 arg8 arg9 arg10 x3 x4 x5 x6 x7 x8 x9 x10

/-- What holds before head `n`: the operands as found, the first `n` rows of every result stored, the gradients with `n` heads added. -/
abbrev headInv (K W : ℕ → S128x256.Idx → Elt F .f32) (n : ℕ) : sProp 𝕄 :=
  iprop(pt c arg3 x3 ∗ pt c arg4 x4 ∗ pt c arg5 x5 ∗ pt c arg6 x6 ∗ pt c arg7 x7 ∗ pt c arg8 x8 ∗ pt c arg9 x9 ∗ pt c arg10 x10
    ∗ hp c arg11 (fun A => ∀ h < n, row4 A h = p11 I₀ h)
    ∗ hp c arg12 (fun A => ∀ h < n, row4 A h = p12 I₀ h)
    ∗ hp c arg13 (fun A => ∀ h < n, row4 A h = p13 I₀ (i 2).val h)
    ∗ hp c arg14 (fun A => ∀ h < n, row4 A h = p14 I₀ (i 2).val h)
    ∗ hp c arg15 (fun A => ∀ h < n, row4 A h = p15 I₀ (i 2).val h)
    ∗ hp c arg16 (fun A => ∀ h < n, row4 A h = p16 I₀ (i 2).val h)
    ∗ hp c arg17 (fun A => ∀ h < n, head5 A h = p17 I₀ (i 2).val h)
    ∗ (∃ f, pt c arg20 f)
    ∗ hp c arg21 (fun A => ∀ j < 16, cols2 A j = dkA I₀ (i 2).val K n j)
    ∗ hp c arg22 (fun A => ∀ j < 16, cols2 A j = dvA I₀ (i 2).val W n j))

/-- One head. -/
theorem t1_run (K W : ℕ → S128x256.Idx → Elt F .f32) (k1 : Fin k0_t1_loop.trips) (u : Unit) :
    headInv c i arg3 arg4 arg5 arg6 arg7 arg8 arg9 arg10 arg11 arg12 arg13 arg14 arg15 arg16 arg17 arg20 arg21 arg22 x3 x4 x5 x6 x7 x8 x9 x10 K W k1.val
      ⊢ wp frame (wpE (defs₀ (F := F)) 𝒱₀ (c : Thread nD τ) none) Set.univ (k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 2).val) k1 u)
        (fun _ => headInv c i arg3 arg4 arg5 arg6 arg7 arg8 arg9 arg10 arg11 arg12 arg13 arg14 arg15 arg16 arg17 arg20 arg21 arg22 x3 x4 x5 x6 x7 x8 x9 x10 K W (k1.val + 1)) := by
  iintro ⟨H3, H4, H5, H6, H7, H8, H9, H10, ⟨%f11, H11, %h11⟩, ⟨%f12, H12, %h12⟩, ⟨%f13, H13, %h13⟩, ⟨%f14, H14, %h14⟩, ⟨%f15, H15, %h15⟩,
    ⟨%f16, H16, %h16⟩, ⟨%f17, H17, %h17⟩, H20, H21, H22⟩
  unfold k0_t1_body
  dsimp only
  rw [wp_bind]
  iapply (wp_wand_r Idealize.ShloMosaic.frame (wpE (defs₀ (F := F)) 𝒱₀ (c : Thread nD τ) none) Set.univ)
  isplitl [H3 H4 H5 H6 H11]
  · iapply (part3_run c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x3 x4 x5 x6 k1 f11 (fun h => p11 I₀ h) h11 rfl)
    isplitl [H3]; · iexact H3
    isplitl [H4]; · iexact H4
    isplitl [H5]; · iexact H5
    isplitl [H6]; · iexact H6
    iexact H11
  iintro %r ⟨%hr, H3, H4, H5, H6, H11⟩
  obtain ⟨v8, v27, v30, v42⟩ := r
  obtain ⟨rfl, h2⟩ := PSigma.mk.inj hr
  obtain ⟨rfl, h3⟩ := PSigma.mk.inj (eq_of_heq h2)
  have h3 := eq_of_heq h3
  subst h3
  dsimp only
  rw [wp_bind]
  iapply (wp_wand_r Idealize.ShloMosaic.frame (wpE (defs₀ (F := F)) 𝒱₀ (c : Thread nD τ) none) Set.univ)
  isplitl [H7 H12 H20]
  · iapply (part4_run c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x7 k1 v8 (qH I₀ k1.val) (k0_pay20 (head5 (arg4.view.read (Elt F) x4) k1.val)) f12 (fun h => p12 I₀ h) h12 rfl)
    isplitl [H7]; · iexact H7
    isplitl [H12]; · iexact H12
    iexact H20
  iintro %r ⟨%hr, H7, H12, H20⟩
  subst hr
  dsimp only
  rw [wp_bind]
  iapply (wp_wand_r Idealize.ShloMosaic.frame (wpE (defs₀ (F := F)) 𝒱₀ (c : Thread nD τ) none) Set.univ)
  isplitl [H10 H13 H17 H20]
  · iapply (part5_run c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x10 k1 v8 (mxH I₀ (i 2).val k1.val) (mnH I₀ (i 2).val k1.val) (zH I₀ (i 2).val k1.val) (sH I₀ (i 2).val k1.val) f13 f17
      (fun h => p13 I₀ (i 2).val h) h13 rfl (fun h => p17 I₀ (i 2).val h) h17 rfl)
    isplitl [H10]; · iexact H10
    isplitl [H13]; · iexact H13
    isplitl [H17]; · iexact H17
    iexact H20
  iintro %r ⟨%hr, H10, H13, H17, H20⟩
  subst hr
  dsimp only
  rw [wp_bind]
  iapply (wp_wand_r Idealize.ShloMosaic.frame (wpE (defs₀ (F := F)) 𝒱₀ (c : Thread nD τ) none) Set.univ)
  isplitl [H8 H9 H14 H15 H16 H20 H21 H22]
  · iapply (part6_run c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x8 x9 k1 v8 (qH I₀ k1.val) (doH I₀ k1.val) (ivH I₀ (i 2).val k1.val) (outH I₀ (i 2).val k1.val) (eH I₀ (i 2).val k1.val)
      (dkA I₀ (i 2).val K k1.val) (dvA I₀ (i 2).val W k1.val) f14 f15 f16
      (fun h => p14 I₀ (i 2).val h) (fun h => p15 I₀ (i 2).val h) (fun h => p16 I₀ (i 2).val h) h14 rfl h15 rfl h16 rfl)
    isplitl [H8]; · iexact H8
    isplitl [H9]; · iexact H9
    isplitl [H14]; · iexact H14
    isplitl [H15]; · iexact H15
    isplitl [H16]; · iexact H16
    isplitl [H20]; · iexact H20
    isplitl [H21]; · iexact H21
    iexact H22
  iintro %r ⟨H8, H9, H14, H15, H16, H20, H21, H22⟩
  sl_step
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H20]; · iexact H20
  isplitl [H21]; · iexact H21
  iexact H22

/-- What the body leaves at a grid point: the operands as found, the results' blocks whole, the gradients with five heads added, and at
    the last query block the gradients' column maxima. -/
abbrev bodyPost (K W : ℕ → S128x256.Idx → Elt F .f32) (x18 : Bf (F := F) c arg18) (x19 : Bf (F := F) c arg19) : sProp 𝕄 :=
  iprop(pt c arg3 x3 ∗ pt c arg4 x4 ∗ pt c arg5 x5 ∗ pt c arg6 x6 ∗ pt c arg7 x7 ∗ pt c arg8 x8 ∗ pt c arg9 x9 ∗ pt c arg10 x10
    ∗ hp c arg11 (fun A => A = of_row4 (p11 I₀))
    ∗ hp c arg12 (fun A => A = of_row4 (p12 I₀))
    ∗ hp c arg13 (fun A => A = of_row4 (p13 I₀ (i 2).val))
    ∗ hp c arg14 (fun A => A = of_row4 (p14 I₀ (i 2).val))
    ∗ hp c arg15 (fun A => A = of_row4 (p15 I₀ (i 2).val))
    ∗ hp c arg16 (fun A => A = of_row4 (p16 I₀ (i 2).val))
    ∗ hp c arg17 (fun A => A = of_head5 (p17 I₀ (i 2).val))
    ∗ hp c arg18 (fun A => A = if (i 2).val = 15 then k0_pay3 (of_cols2 (dkA I₀ (i 2).val K 5)) else arg18.view.read (Elt F) x18)
    ∗ hp c arg19 (fun A => A = if (i 2).val = 15 then k0_pay4 (of_cols2 (dvA I₀ (i 2).val W 5)) else arg19.view.read (Elt F) x19)
    ∗ (∃ f, pt c arg20 f)
    ∗ hp c arg21 (fun A => ∀ j < 16, cols2 A j = dkA I₀ (i 2).val K 5 j)
    ∗ hp c arg22 (fun A => ∀ j < 16, cols2 A j = dvA I₀ (i 2).val W 5 j))

theorem first_iff : ∀ k < 16, (Scalar.cmpi .ne (Scalar.extui (Scalar.cmpi .eq (BitVec.ofNat 32 k) 0#32) : BitVec 32) 0#32 = 1#1) ↔ k = 0 := by decide +kernel
theorem last_aux : ∀ k < 16, (Scalar.cmpi .ne (Scalar.extui (Scalar.cmpi .eq (BitVec.ofNat 32 k) 15#32) : BitVec 32) 0#32 = 1#1) ↔ k = 15 := by decide +kernel
theorem last_iff : k0_cond2 i = 1#1 ↔ (i 2).val = 15 := last_aux _ (i2_lt i)

/-- The five heads, then the last query block's two stores. -/
theorem tail_run (K W : ℕ → S128x256.Idx → Elt F .f32) (x11 : Bf (F := F) c arg11) (x12 : Bf (F := F) c arg12) (x13 : Bf (F := F) c arg13)
    (x14 : Bf (F := F) c arg14) (x15 : Bf (F := F) c arg15) (x16 : Bf (F := F) c arg16) (x17 : Bf (F := F) c arg17)
    (x18 : Bf (F := F) c arg18) (x19 : Bf (F := F) c arg19) (x20 : Bf (F := F) c arg20) (x21 : Bf (F := F) c arg21) (x22 : Bf (F := F) c arg22)
    (hK : (i 2).val = 0 → ∀ j < 16, K j = K0 j) (hW : (i 2).val = 0 → ∀ j < 16, W j = W0 j)
    (h21 : (i 2).val ≠ 0 → ∀ j < 16, cols2 (arg21.view.read (Elt F) x21) j = K j)
    (h22 : (i 2).val ≠ 0 → ∀ j < 16, cols2 (arg22.view.read (Elt F) x22) j = W j) :
    iprop(pt c arg3 x3 ∗ pt c arg4 x4 ∗ pt c arg5 x5 ∗ pt c arg6 x6 ∗ pt c arg7 x7 ∗ pt c arg8 x8 ∗ pt c arg9 x9 ∗ pt c arg10 x10
      ∗ pt c arg11 x11 ∗ pt c arg12 x12 ∗ pt c arg13 x13 ∗ pt c arg14 x14 ∗ pt c arg15 x15 ∗ pt c arg16 x16 ∗ pt c arg17 x17
      ∗ pt c arg18 x18 ∗ pt c arg19 x19 ∗ pt c arg20 x20 ∗ pt c arg21 x21 ∗ pt c arg22 x22)
      ⊢ wp frame (wpE (defs₀ (F := F)) 𝒱₀ (c : Thread nD τ) none) Set.univ (cc0_attention i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
        (fun _ => bodyPost c i arg3 arg4 arg5 arg6 arg7 arg8 arg9 arg10 arg11 arg12 arg13 arg14 arg15 arg16 arg17 arg18 arg19 arg20 arg21 arg22 x3 x4 x5 x6 x7 x8 x9 x10 K W x18 x19) := by
  iintro ⟨H3, H4, H5, H6, H7, H8, H9, H10, H11, H12, H13, H14, H15, H16, H17, H18, H19, H20, H21, H22⟩
  rw [cc0_attention_eq_skeleton]
  unfold cc0_attention_skel
  have hi := i2_lt i
  by_cases hf : (i 2).val = 0
  case pos =>
    have hc := (first_iff _ hi).mpr hf
    sl_exec
    sl_for (fun k (_ : Unit) => headInv c i arg3 arg4 arg5 arg6 arg7 arg8 arg9 arg10 arg11 arg12 arg13 arg14 arg15 arg16 arg17 arg20 arg21 arg22 x3 x4 x5 x6 x7 x8 x9 x10 K W k) $$ [H3 H4 H5 H6 H7 H8 H9 H10 H11 H12 H13 H14 H15 H16 H17 H20 H21 H22]
    case region => intro k acc; exact t1_run c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x3 x4 x5 x6 x7 x8 x9 x10 K W k acc
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists x11; isplitl [H11]; (· iexact H11); ipureintro; intro h hh; exact absurd hh (Nat.not_lt_zero _)
      isplitl [H12]; · iexists x12; isplitl [H12]; (· iexact H12); ipureintro; intro h hh; exact absurd hh (Nat.not_lt_zero _)
      isplitl [H13]; · iexists x13; isplitl [H13]; (· iexact H13); ipureintro; intro h hh; exact absurd hh (Nat.not_lt_zero _)
      isplitl [H14]; · iexists x14; isplitl [H14]; (· iexact H14); ipureintro; intro h hh; exact absurd hh (Nat.not_lt_zero _)
      isplitl [H15]; · iexists x15; isplitl [H15]; (· iexact H15); ipureintro; intro h hh; exact absurd hh (Nat.not_lt_zero _)
      isplitl [H16]; · iexists x16; isplitl [H16]; (· iexact H16); ipureintro; intro h hh; exact absurd hh (Nat.not_lt_zero _)
      isplitl [H17]; · iexists x17; isplitl [H17]; (· iexact H17); ipureintro; intro h hh; exact absurd hh (Nat.not_lt_zero _)
      isplitl [H20]; · iexists x20; iexact H20
      isplitl [H21]
      · iexists _; isplitl [H21]; · iexact H21
        ipureintro; intro j hj
        exact (congrArg (fun A => cols2 A j) (View.read_writes_full arg21.view _ inb_S128x4096_S128x4096_0_0 _ [])).trans (hK hf j hj).symm
      · iexists _; isplitl [H22]; · iexact H22
        ipureintro; intro j hj
        exact (congrArg (fun A => cols2 A j) (View.read_writes_full arg22.view _ inb_S128x4096_S128x4096_0_0 _ [])).trans (hW hf j hj).symm
    iintro %acc ⟨H3, H4, H5, H6, H7, H8, H9, H10, ⟨%f11, H11, %h11⟩, ⟨%f12, H12, %h12⟩, ⟨%f13, H13, %h13⟩, ⟨%f14, H14, %h14⟩, ⟨%f15, H15, %h15⟩,
      ⟨%f16, H16, %h16⟩, ⟨%f17, H17, %h17⟩, H20, ⟨%f21, H21, %h21'⟩, ⟨%f22, H22, %h22'⟩⟩
    rw [show Scf.trips k0_t1_loop.lb k0_t1_loop.ub k0_t1_loop.st = 5 from trips1] at h11 h12 h13 h14 h15 h16 h17 h21' h22'
    have e21 := eq_of_cols2 h21'
    have e22 := eq_of_cols2 h22'
    by_cases hl : (i 2).val = 15
    case pos =>
      have hc2 := (last_iff i).mpr hl
      sl_exec
      sl_step
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists f11; isplitl [H11]; (· iexact H11); ipureintro; exact eq_of_row4 h11
      isplitl [H12]; · iexists f12; isplitl [H12]; (· iexact H12); ipureintro; exact eq_of_row4 h12
      isplitl [H13]; · iexists f13; isplitl [H13]; (· iexact H13); ipureintro; exact eq_of_row4 h13
      isplitl [H14]; · iexists f14; isplitl [H14]; (· iexact H14); ipureintro; exact eq_of_row4 h14
      isplitl [H15]; · iexists f15; isplitl [H15]; (· iexact H15); ipureintro; exact eq_of_row4 h15
      isplitl [H16]; · iexists f16; isplitl [H16]; (· iexact H16); ipureintro; exact eq_of_row4 h16
      isplitl [H17]; · iexists f17; isplitl [H17]; (· iexact H17); ipureintro; exact eq_of_head5 h17
      isplitl [H18]
      · iexists _; isplitl [H18]; · iexact H18
        ipureintro
        rw [if_pos hl, View.read_writes_full, View.readAt_full arg21.view f21, e21]
      isplitl [H19]
      · iexists _; isplitl [H19]; · iexact H19
        ipureintro
        rw [if_pos hl, View.read_writes_full, View.readAt_full arg22.view f22, e22]
      isplitl [H20]; · iexact H20
      isplitl [H21]; · iexists f21; isplitl [H21]; (· iexact H21); ipureintro; exact h21'
      iexists f22; isplitl [H22]; (· iexact H22); ipureintro; exact h22'
    case neg =>
      have hc2 := mt (last_iff i).mp hl
      sl_exec
      sl_step
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists f11; isplitl [H11]; (· iexact H11); ipureintro; exact eq_of_row4 h11
      isplitl [H12]; · iexists f12; isplitl [H12]; (· iexact H12); ipureintro; exact eq_of_row4 h12
      isplitl [H13]; · iexists f13; isplitl [H13]; (· iexact H13); ipureintro; exact eq_of_row4 h13
      isplitl [H14]; · iexists f14; isplitl [H14]; (· iexact H14); ipureintro; exact eq_of_row4 h14
      isplitl [H15]; · iexists f15; isplitl [H15]; (· iexact H15); ipureintro; exact eq_of_row4 h15
      isplitl [H16]; · iexists f16; isplitl [H16]; (· iexact H16); ipureintro; exact eq_of_row4 h16
      isplitl [H17]; · iexists f17; isplitl [H17]; (· iexact H17); ipureintro; exact eq_of_head5 h17
      isplitl [H18]
      · iexists x18; isplitl [H18]; · iexact H18
        ipureintro; rw [if_neg hl]
      isplitl [H19]
      · iexists x19; isplitl [H19]; · iexact H19
        ipureintro; rw [if_neg hl]
      isplitl [H20]; · iexact H20
      isplitl [H21]; · iexists f21; isplitl [H21]; (· iexact H21); ipureintro; exact h21'
      iexists f22; isplitl [H22]; (· iexact H22); ipureintro; exact h22'
  case neg =>
    have hc := mt (first_iff _ hi).mp hf
    sl_exec
    sl_for (fun k (_ : Unit) => headInv c i arg3 arg4 arg5 arg6 arg7 arg8 arg9 arg10 arg11 arg12 arg13 arg14 arg15 arg16 arg17 arg20 arg21 arg22 x3 x4 x5 x6 x7 x8 x9 x10 K W k) $$ [H3 H4 H5 H6 H7 H8 H9 H10 H11 H12 H13 H14 H15 H16 H17 H20 H21 H22]
    case region => intro k acc; exact t1_run c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x3 x4 x5 x6 x7 x8 x9 x10 K W k acc
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists x11; isplitl [H11]; (· iexact H11); ipureintro; intro h hh; exact absurd hh (Nat.not_lt_zero _)
      isplitl [H12]; · iexists x12; isplitl [H12]; (· iexact H12); ipureintro; intro h hh; exact absurd hh (Nat.not_lt_zero _)
      isplitl [H13]; · iexists x13; isplitl [H13]; (· iexact H13); ipureintro; intro h hh; exact absurd hh (Nat.not_lt_zero _)
      isplitl [H14]; · iexists x14; isplitl [H14]; (· iexact H14); ipureintro; intro h hh; exact absurd hh (Nat.not_lt_zero _)
      isplitl [H15]; · iexists x15; isplitl [H15]; (· iexact H15); ipureintro; intro h hh; exact absurd hh (Nat.not_lt_zero _)
      isplitl [H16]; · iexists x16; isplitl [H16]; (· iexact H16); ipureintro; intro h hh; exact absurd hh (Nat.not_lt_zero _)
      isplitl [H17]; · iexists x17; isplitl [H17]; (· iexact H17); ipureintro; intro h hh; exact absurd hh (Nat.not_lt_zero _)
      isplitl [H20]; · iexists x20; iexact H20
      isplitl [H21]
      · iexists x21; isplitl [H21]; · iexact H21
        ipureintro; exact h21 hf
      · iexists x22; isplitl [H22]; · iexact H22
        ipureintro; exact h22 hf
    iintro %acc ⟨H3, H4, H5, H6, H7, H8, H9, H10, ⟨%f11, H11, %h11⟩, ⟨%f12, H12, %h12⟩, ⟨%f13, H13, %h13⟩, ⟨%f14, H14, %h14⟩, ⟨%f15, H15, %h15⟩,
      ⟨%f16, H16, %h16⟩, ⟨%f17, H17, %h17⟩, H20, ⟨%f21, H21, %h21'⟩, ⟨%f22, H22, %h22'⟩⟩
    rw [show Scf.trips k0_t1_loop.lb k0_t1_loop.ub k0_t1_loop.st = 5 from trips1] at h11 h12 h13 h14 h15 h16 h17 h21' h22'
    have e21 := eq_of_cols2 h21'
    have e22 := eq_of_cols2 h22'
    by_cases hl : (i 2).val = 15
    case pos =>
      have hc2 := (last_iff i).mpr hl
      sl_exec
      sl_step
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists f11; isplitl [H11]; (· iexact H11); ipureintro; exact eq_of_row4 h11
      isplitl [H12]; · iexists f12; isplitl [H12]; (· iexact H12); ipureintro; exact eq_of_row4 h12
      isplitl [H13]; · iexists f13; isplitl [H13]; (· iexact H13); ipureintro; exact eq_of_row4 h13
      isplitl [H14]; · iexists f14; isplitl [H14]; (· iexact H14); ipureintro; exact eq_of_row4 h14
      isplitl [H15]; · iexists f15; isplitl [H15]; (· iexact H15); ipureintro; exact eq_of_row4 h15
      isplitl [H16]; · iexists f16; isplitl [H16]; (· iexact H16); ipureintro; exact eq_of_row4 h16
      isplitl [H17]; · iexists f17; isplitl [H17]; (· iexact H17); ipureintro; exact eq_of_head5 h17
      isplitl [H18]
      · iexists _; isplitl [H18]; · iexact H18
        ipureintro
        rw [if_pos hl, View.read_writes_full, View.readAt_full arg21.view f21, e21]
      isplitl [H19]
      · iexists _; isplitl [H19]; · iexact H19
        ipureintro
        rw [if_pos hl, View.read_writes_full, View.readAt_full arg22.view f22, e22]
      isplitl [H20]; · iexact H20
      isplitl [H21]; · iexists f21; isplitl [H21]; (· iexact H21); ipureintro; exact h21'
      iexists f22; isplitl [H22]; (· iexact H22); ipureintro; exact h22'
    case neg =>
      have hc2 := mt (last_iff i).mp hl
      sl_exec
      sl_step
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists f11; isplitl [H11]; (· iexact H11); ipureintro; exact eq_of_row4 h11
      isplitl [H12]; · iexists f12; isplitl [H12]; (· iexact H12); ipureintro; exact eq_of_row4 h12
      isplitl [H13]; · iexists f13; isplitl [H13]; (· iexact H13); ipureintro; exact eq_of_row4 h13
      isplitl [H14]; · iexists f14; isplitl [H14]; (· iexact H14); ipureintro; exact eq_of_row4 h14
      isplitl [H15]; · iexists f15; isplitl [H15]; (· iexact H15); ipureintro; exact eq_of_row4 h15
      isplitl [H16]; · iexists f16; isplitl [H16]; (· iexact H16); ipureintro; exact eq_of_row4 h16
      isplitl [H17]; · iexists f17; isplitl [H17]; (· iexact H17); ipureintro; exact eq_of_head5 h17
      isplitl [H18]
      · iexists x18; isplitl [H18]; · iexact H18
        ipureintro; rw [if_neg hl]
      isplitl [H19]
      · iexists x19; isplitl [H19]; · iexact H19
        ipureintro; rw [if_neg hl]
      isplitl [H20]; · iexact H20
      isplitl [H21]; · iexists f21; isplitl [H21]; (· iexact H21); ipureintro; exact h21'
      iexists f22; isplitl [H22]; (· iexact H22); ipureintro; exact h22'

end parts

end Cert.KernelIdeal.Body

end
-- ==== Proof.KiRun.lean ====
/-
  The attention call's grid: what is carried from point to point in the gradient accumulators, the body's step at every point, and the
  run of the whole program.
-/
module

public import proofs.«01_k».proof.Proof.KiHead
public import proofs.«01_k».proof.Proof.Gen.KernelIdeal.Frame
public import Idealize.ShloMosaic.Lib.Pipeline.Frame

@[expose] public section

set_option maxRecDepth 16384
set_option maxHeartbeats 4000000

noncomputable section

namespace Cert.KernelIdeal.Body

open Cert.KernelIdeal Cert.KernelIdeal.Gen
open Idealize.ShloMosaic.Pipeline (Dat BodyObligation)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Attn

variable {F : FTy → Type} [FloatOps F] [Named F]

local notation "𝕄" => MT nD τ sig Unit (Elt F) ℕ (UR sig nD τ) ℕ

/-- Ownership of a whole buffer at what it reads, as a points-to. -/
theorem own_pt (c : Dev nD) {sp : Space} {s : Shape} {e : EltTy} (M : Memref sig .tc sp s e) (h : M.IsWhole) (X : s.Idx → Elt F e) :
    (owns (c : Thread nD τ) M fullShare X : sProp 𝕄) ⊢ iprop(∃ f, ⌜M.view.read (Elt F) f = X⌝ ∗ (M.view.loc (c : Thread nD τ) ↦{fullShare} f)) := by
  obtain ⟨b, rfl, rfl, rfl, hm⟩ := h
  cases hm
  rw [owns_whole_eq]
  simp only [Memref.view_whole, View.read_whole]
  exact .rfl

/-- A points-to of a whole buffer, as ownership at what it reads. -/
theorem pt_own (c : Dev nD) {sp : Space} {s : Shape} {e : EltTy} (M : Memref sig .tc sp s e) (h : M.IsWhole) (X : s.Idx → Elt F e)
    (f : M.view.ty.Contents (Elt F)) (hf : M.view.read (Elt F) f = X) :
    (M.view.loc (c : Thread nD τ) ↦{fullShare} f : sProp 𝕄) ⊢ owns (c : Thread nD τ) M fullShare X := by
  obtain ⟨b, rfl, rfl, rfl, hm⟩ := h
  cases hm
  rw [owns_whole_eq]
  iintro H
  iexists f
  isplitr
  · ipureintro; simpa only [Memref.view_whole, View.read_whole] using hf
  iexact H

/-- The body at a grid point, from the operands' blocks and what the accumulators hold to the results' blocks and the accumulators
    after the point's five heads. -/
theorem body_own (c : Dev nD) (i : grid0.Coords) (arg3 : Memref sig .tc .vmem S1x1x5x128x256 .bf16) (harg3 : arg3.IsWhole) (arg4 : Memref sig .tc .vmem S1x1x5x128x256 .bf16) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x1x4096x128 .bf16) (harg7 : arg7.IsWhole) (arg8 : Memref sig .tc .vmem S1x1x128x4096 .bf16) (harg8 : arg8.IsWhole) (arg9 : Memref sig .tc .vmem S1x1x4096x128 .bf16) (harg9 : arg9.IsWhole) (arg10 : Memref sig .tc .vmem S1x1x128x4096 .bf16) (harg10 : arg10.IsWhole) (arg11 : Memref sig .tc .vmem S1x1x5x256 .f32) (harg11 : arg11.IsWhole) (arg12 : Memref sig .tc .vmem S1x1x5x256 .f32) (harg12 : arg12.IsWhole) (arg13 : Memref sig .tc .vmem S1x1x5x256 .f32) (harg13 : arg13.IsWhole) (arg14 : Memref sig .tc .vmem S1x1x5x256 .f32) (harg14 : arg14.IsWhole) (arg15 : Memref sig .tc .vmem S1x1x5x256 .f32) (harg15 : arg15.IsWhole) (arg16 : Memref sig .tc .vmem S1x1x5x256 .f32) (harg16 : arg16.IsWhole) (arg17 : Memref sig .tc .vmem S1x1x5x128x256 .f32) (harg17 : arg17.IsWhole) (arg18 : Memref sig .tc .vmem S1x1x1x4096 .f32) (harg18 : arg18.IsWhole) (arg19 : Memref sig .tc .vmem S1x1x1x4096 .f32) (harg19 : arg19.IsWhole) (arg20 : Memref sig .tc .vmem S4096x256 .f32) (harg20 : arg20.IsWhole) (arg21 : Memref sig .tc .vmem S128x4096 .f32) (harg21 : arg21.IsWhole) (arg22 : Memref sig .tc .vmem S128x4096 .f32) (harg22 : arg22.IsWhole)
    (I : In F) (K W : ℕ → S128x256.Idx → Elt F .f32) (d18 d19 : S1x1x1x4096.Idx → Elt F .f32)
    (hK : (i 2).val = 0 → ∀ j < 16, K j = K0 j) (hW : (i 2).val = 0 → ∀ j < 16, W j = W0 j) :
    (iprop(owns (c : Thread nD τ) arg3 fullShare I.q ∗ owns (c : Thread nD τ) arg4 fullShare I.d ∗ owns (c : Thread nD τ) arg5 fullShare I.cs ∗ owns (c : Thread nD τ) arg6 fullShare I.sn ∗ owns (c : Thread nD τ) arg7 fullShare I.kr ∗ owns (c : Thread nD τ) arg8 fullShare I.kt ∗ owns (c : Thread nD τ) arg9 fullShare I.vr ∗ owns (c : Thread nD τ) arg10 fullShare I.vt ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare d18 ∗ owns (c : Thread nD τ) arg19 fullShare d19 ∗ (∃ f, pt c arg20 f) ∗ hp c arg21 (fun A => (i 2).val ≠ 0 → ∀ j < 16, cols2 A j = K j) ∗ hp c arg22 (fun A => (i 2).val ≠ 0 → ∀ j < 16, cols2 A j = W j)) : sProp 𝕄)
      ⊢ wp frame (wpE (defs₀ (F := F)) 𝒱₀ (c : Thread nD τ) none) Set.univ (cc0_attention i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
        (fun _ => iprop(owns (c : Thread nD τ) arg3 fullShare I.q ∗ owns (c : Thread nD τ) arg4 fullShare I.d ∗ owns (c : Thread nD τ) arg5 fullShare I.cs ∗ owns (c : Thread nD τ) arg6 fullShare I.sn ∗ owns (c : Thread nD τ) arg7 fullShare I.kr ∗ owns (c : Thread nD τ) arg8 fullShare I.kt ∗ owns (c : Thread nD τ) arg9 fullShare I.vr ∗ owns (c : Thread nD τ) arg10 fullShare I.vt ∗ owns (c : Thread nD τ) arg11 fullShare (of_row4 (p11 I)) ∗ owns (c : Thread nD τ) arg12 fullShare (of_row4 (p12 I)) ∗ owns (c : Thread nD τ) arg13 fullShare (of_row4 (p13 I (i 2).val)) ∗ owns (c : Thread nD τ) arg14 fullShare (of_row4 (p14 I (i 2).val)) ∗ owns (c : Thread nD τ) arg15 fullShare (of_row4 (p15 I (i 2).val)) ∗ owns (c : Thread nD τ) arg16 fullShare (of_row4 (p16 I (i 2).val)) ∗ owns (c : Thread nD τ) arg17 fullShare (of_head5 (p17 I (i 2).val)) ∗ owns (c : Thread nD τ) arg18 fullShare (if (i 2).val = 15 then k0_pay3 (of_cols2 (dkA I (i 2).val K 5)) else d18) ∗ owns (c : Thread nD τ) arg19 fullShare (if (i 2).val = 15 then k0_pay4 (of_cols2 (dvA I (i 2).val W 5)) else d19) ∗ (∃ f, pt c arg20 f) ∗ hp c arg21 (fun A => ∀ j < 16, cols2 A j = dkA I (i 2).val K 5 j) ∗ hp c arg22 (fun A => ∀ j < 16, cols2 A j = dvA I (i 2).val W 5 j))) := by
  obtain ⟨q, d, cs, sn, kr, kt, vr, vt⟩ := I
  dsimp only
  iintro ⟨H3, H4, H5, H6, H7, H8, H9, H10, ⟨%d11, H11⟩, ⟨%d12, H12⟩, ⟨%d13, H13⟩, ⟨%d14, H14⟩, ⟨%d15, H15⟩, ⟨%d16, H16⟩, ⟨%d17, H17⟩, H18, H19, ⟨%x20, H20⟩, ⟨%x21, H21, %h21⟩, ⟨%x22, H22, %h22⟩⟩
  ihave H3' := own_pt c arg3 harg3 _ $$ H3
  icases H3' with ⟨%x3, %hx3, H3⟩
  ihave H4' := own_pt c arg4 harg4 _ $$ H4
  icases H4' with ⟨%x4, %hx4, H4⟩
  ihave H5' := own_pt c arg5 harg5 _ $$ H5
  icases H5' with ⟨%x5, %hx5, H5⟩
  ihave H6' := own_pt c arg6 harg6 _ $$ H6
  icases H6' with ⟨%x6, %hx6, H6⟩
  ihave H7' := own_pt c arg7 harg7 _ $$ H7
  icases H7' with ⟨%x7, %hx7, H7⟩
  ihave H8' := own_pt c arg8 harg8 _ $$ H8
  icases H8' with ⟨%x8, %hx8, H8⟩
  ihave H9' := own_pt c arg9 harg9 _ $$ H9
  icases H9' with ⟨%x9, %hx9, H9⟩
  ihave H10' := own_pt c arg10 harg10 _ $$ H10
  icases H10' with ⟨%x10, %hx10, H10⟩
  ihave H11' := own_pt c arg11 harg11 _ $$ H11
  icases H11' with ⟨%x11, %hx11, H11⟩
  ihave H12' := own_pt c arg12 harg12 _ $$ H12
  icases H12' with ⟨%x12, %hx12, H12⟩
  ihave H13' := own_pt c arg13 harg13 _ $$ H13
  icases H13' with ⟨%x13, %hx13, H13⟩
  ihave H14' := own_pt c arg14 harg14 _ $$ H14
  icases H14' with ⟨%x14, %hx14, H14⟩
  ihave H15' := own_pt c arg15 harg15 _ $$ H15
  icases H15' with ⟨%x15, %hx15, H15⟩
  ihave H16' := own_pt c arg16 harg16 _ $$ H16
  icases H16' with ⟨%x16, %hx16, H16⟩
  ihave H17' := own_pt c arg17 harg17 _ $$ H17
  icases H17' with ⟨%x17, %hx17, H17⟩
  ihave H18' := own_pt c arg18 harg18 _ $$ H18
  icases H18' with ⟨%x18, %hx18, H18⟩
  ihave H19' := own_pt c arg19 harg19 _ $$ H19
  icases H19' with ⟨%x19, %hx19, H19⟩
  subst hx3 hx4 hx5 hx6 hx7 hx8 hx9 hx10
  iapply (wp_wand_r Idealize.ShloMosaic.frame (wpE (defs₀ (F := F)) 𝒱₀ (c : Thread nD τ) none) Set.univ)
  isplitl [H3 H4 H5 H6 H7 H8 H9 H10 H11 H12 H13 H14 H15 H16 H17 H18 H19 H20 H21 H22]
  · iapply (tail_run c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x3 x4 x5 x6 x7 x8 x9 x10 K W x11 x12 x13 x14 x15 x16 x17 x18 x19 x20 x21 x22 hK hW h21 h22)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22
  iintro %r ⟨H3, H4, H5, H6, H7, H8, H9, H10, ⟨%f11, H11, %h11⟩, ⟨%f12, H12, %h12⟩, ⟨%f13, H13, %h13⟩, ⟨%f14, H14, %h14⟩, ⟨%f15, H15, %h15⟩, ⟨%f16, H16, %h16⟩, ⟨%f17, H17, %h17⟩, ⟨%f18, H18, %h18⟩, ⟨%f19, H19, %h19⟩, H20, H21, H22⟩
  isplitl [H3]; · iapply (pt_own c arg3 harg3 _ x3 rfl); iexact H3
  isplitl [H4]; · iapply (pt_own c arg4 harg4 _ x4 rfl); iexact H4
  isplitl [H5]; · iapply (pt_own c arg5 harg5 _ x5 rfl); iexact H5
  isplitl [H6]; · iapply (pt_own c arg6 harg6 _ x6 rfl); iexact H6
  isplitl [H7]; · iapply (pt_own c arg7 harg7 _ x7 rfl); iexact H7
  isplitl [H8]; · iapply (pt_own c arg8 harg8 _ x8 rfl); iexact H8
  isplitl [H9]; · iapply (pt_own c arg9 harg9 _ x9 rfl); iexact H9
  isplitl [H10]; · iapply (pt_own c arg10 harg10 _ x10 rfl); iexact H10
  isplitl [H11]; · iapply (pt_own c arg11 harg11 _ f11 h11); iexact H11
  isplitl [H12]; · iapply (pt_own c arg12 harg12 _ f12 h12); iexact H12
  isplitl [H13]; · iapply (pt_own c arg13 harg13 _ f13 h13); iexact H13
  isplitl [H14]; · iapply (pt_own c arg14 harg14 _ f14 h14); iexact H14
  isplitl [H15]; · iapply (pt_own c arg15 harg15 _ f15 h15); iexact H15
  isplitl [H16]; · iapply (pt_own c arg16 harg16 _ f16 h16); iexact H16
  isplitl [H17]; · iapply (pt_own c arg17 harg17 _ f17 h17); iexact H17
  isplitl [H18]; · iapply (pt_own c arg18 harg18 _ f18 (hx18 ▸ h18)); iexact H18
  isplitl [H19]; · iapply (pt_own c arg19 harg19 _ f19 (hx19 ▸ h19)); iexact H19
  isplitl [H20]; · iexact H20
  isplitl [H21]; · iexact H21
  iexact H22

/-! ## The grid -/

variable (m : (ℓ : Loc nD τ sig) → Buf (Elt F) ℓ) (ρ : Dev nD → PrngReg)

/-- The operand blocks of grid point `t`. -/
def inAt (c : Dev nD) (t : Fin cfg0.N) : In F :=
  ⟨iblk m c 0 t, iblk m c 1 t, iblk m c 2 t, iblk m c 3 t, iblk m c 4 t, iblk m c 5 t, iblk m c 6 t, iblk m c 7 t⟩

/-- The keys' gradient accumulator on entering point `n`, -/
def accK (c : Dev nD) : ℕ → ℕ → S128x256.Idx → Elt F .f32
  | 0 => K0
  | n + 1 => if h : n < cfg0.N then dkA (inAt m c ⟨n, h⟩) (n % 16) (if n % 16 = 0 then K0 else accK c n) 5 else K0
/-- the values', -/
def accV (c : Dev nD) : ℕ → ℕ → S128x256.Idx → Elt F .f32
  | 0 => W0
  | n + 1 => if h : n < cfg0.N then dvA (inAt m c ⟨n, h⟩) (n % 16) (if n % 16 = 0 then W0 else accV c n) 5 else W0

/-- and once the first query block has cleared them. -/
def inK (c : Dev nD) (n : ℕ) : ℕ → S128x256.Idx → Elt F .f32 := if n % 16 = 0 then K0 else accK m c n
/-- The values' gradient accumulator, cleared likewise. -/
def inV (c : Dev nD) (n : ℕ) : ℕ → S128x256.Idx → Elt F .f32 := if n % 16 = 0 then W0 else accV m c n

theorem accK_succ (c : Dev nD) (t : Fin cfg0.N) : accK m c (t.val + 1) = dkA (inAt m c t) (t.val % 16) (inK m c t.val) 5 := by
  rw [accK, dif_pos t.isLt]; rfl
theorem accV_succ (c : Dev nD) (t : Fin cfg0.N) : accV m c (t.val + 1) = dvA (inAt m c t) (t.val % 16) (inV m c t.val) 5 := by
  rw [accV, dif_pos t.isLt]; rfl

/-- The query block of a grid point. -/
theorem coords2 (t : Fin cfg0.N) : (grid0.coords t 2).val = t.val % 16 :=
  (Pipeline.Grid.coords_val t 2 (S := 1) (B := 16) (by decide) rfl).trans (by rw [Nat.div_one])

/-- What the accumulators hold before point `n`: past a first query block, the sums so far. -/
def carried (c : Dev nD) (n : ℕ) : sProp 𝕄 :=
  iprop((∃ f, pt c (Memref.whole cc0_scratch0) f)
    ∗ hp c (Memref.whole cc0_scratch1) (fun A => n % 16 ≠ 0 → ∀ j < 16, cols2 A j = accK m c n j)
    ∗ hp c (Memref.whole cc0_scratch2) (fun A => n % 16 ≠ 0 → ∀ j < 16, cols2 A j = accV m c n j)
    ∗ ∃ r, prngReg c r)

/-- What each window's buffer holds after the body at each point. -/
def left (c : Dev nD) : (w : Fin cfg0.W) → Fin cfg0.N → (cfg0.win w).block.Idx → Elt F (cfg0.win w).elt := fun
  | 0 => fun t => iblk m c 0 t | 1 => fun t => iblk m c 1 t | 2 => fun t => iblk m c 2 t | 3 => fun t => iblk m c 3 t
  | 4 => fun t => iblk m c 4 t | 5 => fun t => iblk m c 5 t | 6 => fun t => iblk m c 6 t | 7 => fun t => iblk m c 7 t
  | 8 => fun t => of_row4 (p11 (inAt m c t)) | 9 => fun t => of_row4 (p12 (inAt m c t))
  | 10 => fun t => of_row4 (p13 (inAt m c t) (t.val % 16)) | 11 => fun t => of_row4 (p14 (inAt m c t) (t.val % 16))
  | 12 => fun t => of_row4 (p15 (inAt m c t) (t.val % 16)) | 13 => fun t => of_row4 (p16 (inAt m c t) (t.val % 16))
  | 14 => fun t => of_head5 (p17 (inAt m c t) (t.val % 16))
  | 15 => fun t => k0_pay3 (of_cols2 (accK m c (t.val + 1)))
  | 16 => fun t => k0_pay4 (of_cols2 (accV m c (t.val + 1)))
  | ⟨_ + 17, h⟩ => absurd h (Nat.not_lt.2 (Nat.le_add_left _ _))

/-- The proof data of the call. -/
def dats : (p : Fin 1) → (c : Dev nD) → Dat τ (Elt F) Unit ℕ (UR sig nD τ) ℕ (cfgs p) c := fun _ c =>
  { A := fun w => V m c (Pipeline.arrRef spec0 w)
    after := left m c
    Φ := fun t => carried m c t.val
    q := fun _ => fullShare
    owed := fun _ => 0 }

theorem before_0 (c : Dev nD) (t : Fin cfg0.N) (d) : (dats m 0 c).before 0 t d = iblk m c 0 t := before0_0_of m (dats m 0 c) rfl (fun _ => rfl) t d
theorem before_1 (c : Dev nD) (t : Fin cfg0.N) (d) : (dats m 0 c).before 1 t d = iblk m c 1 t := before0_1_of m (dats m 0 c) rfl (fun _ => rfl) t d
theorem before_2 (c : Dev nD) (t : Fin cfg0.N) (d) : (dats m 0 c).before 2 t d = iblk m c 2 t := before0_2_of m (dats m 0 c) rfl (fun _ => rfl) t d
theorem before_3 (c : Dev nD) (t : Fin cfg0.N) (d) : (dats m 0 c).before 3 t d = iblk m c 3 t := before0_3_of m (dats m 0 c) rfl (fun _ => rfl) t d
theorem before_4 (c : Dev nD) (t : Fin cfg0.N) (d) : (dats m 0 c).before 4 t d = iblk m c 4 t := before0_4_of m (dats m 0 c) rfl (fun _ => rfl) t d
theorem before_5 (c : Dev nD) (t : Fin cfg0.N) (d) : (dats m 0 c).before 5 t d = iblk m c 5 t := before0_5_of m (dats m 0 c) rfl (fun _ => rfl) t d
theorem before_6 (c : Dev nD) (t : Fin cfg0.N) (d) : (dats m 0 c).before 6 t d = iblk m c 6 t := before0_6_of m (dats m 0 c) rfl (fun _ => rfl) t d
theorem before_7 (c : Dev nD) (t : Fin cfg0.N) (d) : (dats m 0 c).before 7 t d = iblk m c 7 t := before0_7_of m (dats m 0 c) rfl (fun _ => rfl) t d

theorem after_0 (c : Dev nD) (t : Fin cfg0.N) : (dats m 0 c).after 0 t = iblk m c 0 t := by dsimp only [dats, left]
theorem after_1 (c : Dev nD) (t : Fin cfg0.N) : (dats m 0 c).after 1 t = iblk m c 1 t := by dsimp only [dats, left]
theorem after_2 (c : Dev nD) (t : Fin cfg0.N) : (dats m 0 c).after 2 t = iblk m c 2 t := by dsimp only [dats, left]
theorem after_3 (c : Dev nD) (t : Fin cfg0.N) : (dats m 0 c).after 3 t = iblk m c 3 t := by dsimp only [dats, left]
theorem after_4 (c : Dev nD) (t : Fin cfg0.N) : (dats m 0 c).after 4 t = iblk m c 4 t := by dsimp only [dats, left]
theorem after_5 (c : Dev nD) (t : Fin cfg0.N) : (dats m 0 c).after 5 t = iblk m c 5 t := by dsimp only [dats, left]
theorem after_6 (c : Dev nD) (t : Fin cfg0.N) : (dats m 0 c).after 6 t = iblk m c 6 t := by dsimp only [dats, left]
theorem after_7 (c : Dev nD) (t : Fin cfg0.N) : (dats m 0 c).after 7 t = iblk m c 7 t := by dsimp only [dats, left]
theorem after_8 (c : Dev nD) (t : Fin cfg0.N) : (dats m 0 c).after 8 t = of_row4 (p11 (inAt m c t)) := by dsimp only [dats, left]
theorem after_9 (c : Dev nD) (t : Fin cfg0.N) : (dats m 0 c).after 9 t = of_row4 (p12 (inAt m c t)) := by dsimp only [dats, left]
theorem after_10 (c : Dev nD) (t : Fin cfg0.N) : (dats m 0 c).after 10 t = of_row4 (p13 (inAt m c t) (t.val % 16)) := by dsimp only [dats, left]
theorem after_11 (c : Dev nD) (t : Fin cfg0.N) : (dats m 0 c).after 11 t = of_row4 (p14 (inAt m c t) (t.val % 16)) := by dsimp only [dats, left]
theorem after_12 (c : Dev nD) (t : Fin cfg0.N) : (dats m 0 c).after 12 t = of_row4 (p15 (inAt m c t) (t.val % 16)) := by dsimp only [dats, left]
theorem after_13 (c : Dev nD) (t : Fin cfg0.N) : (dats m 0 c).after 13 t = of_row4 (p16 (inAt m c t) (t.val % 16)) := by dsimp only [dats, left]
theorem after_14 (c : Dev nD) (t : Fin cfg0.N) : (dats m 0 c).after 14 t = of_head5 (p17 (inAt m c t) (t.val % 16)) := by dsimp only [dats, left]
theorem after_15 (c : Dev nD) (t : Fin cfg0.N) :
    (dats m 0 c).after 15 t = k0_pay3 (of_cols2 (dkA (inAt m c t) (t.val % 16) (inK m c t.val) 5)) := by
  rw [← accK_succ]; dsimp only [dats, left]
theorem after_16 (c : Dev nD) (t : Fin cfg0.N) :
    (dats m 0 c).after 16 t = k0_pay4 (of_cols2 (dvA (inAt m c t) (t.val % 16) (inV m c t.val) 5)) := by
  rw [← accV_succ]; dsimp only [dats, left]

theorem idle_lt (w : Fin cfg0.W) (h : w.val < 15) (i : grid0.Coords) : cfg0.idle w i = false := by
  obtain ⟨w, hw⟩ := w
  dsimp only at h
  interval_cases w <;> rfl
theorem idle_last (i : grid0.Coords) (h : (i 2).val = 15) : idle0 15 i = false ∧ idle0 16 i = false := by
  have := (last_iff i).mpr h
  constructor <;> (show (!(k0_cond2 i == 1#1)) = false) <;> rw [this] <;> rfl
theorem idle_notLast (i : grid0.Coords) (h : (i 2).val ≠ 15) : idle0 15 i = true ∧ idle0 16 i = true := by
  have := mt (last_iff i).mp h
  constructor <;> (show (!(k0_cond2 i == 1#1)) = true) <;> rw [beq_eq_false_iff_ne.mpr this] <;> rfl

/-- The body takes the carried sums and the operands' blocks to the results' blocks and the next point's sums. -/
theorem body_obligation (c : Dev nD) : BodyObligation (dats m 0 c) (defs₀ (F := F)) 𝒱₀ () Set.univ := fun t => by
  have hc := coords2 t
  rw [bigSep_W0, bigSep_W0]
  dsimp only
  simp only [before_0, before_1, before_2, before_3, before_4, before_5, before_6, before_7, after_0, after_1, after_2, after_3, after_4, after_5,
    after_6, after_7, after_8, after_9, after_10, after_11, after_12, after_13, after_14, after_15, after_16]
  rw [show (dats m 0 c).Φ t.castSucc = carried m c t.val from rfl, show (dats m 0 c).Φ t.succ = carried m c (t.val + 1) from rfl]
  unfold carried
  iintro ⟨⟨H20, ⟨%x21, H21, %h21⟩, ⟨%x22, H22, %h22⟩, HR⟩, HO, ⟨%d0, H0⟩, ⟨%d1, H1⟩, ⟨%d2, H2⟩, ⟨%d3, H3⟩, ⟨%d4, H4⟩, ⟨%d5, H5⟩, ⟨%d6, H6⟩, ⟨%d7, H7⟩,
    ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (wp_wand_r Idealize.ShloMosaic.frame (wpE (defs₀ (F := F)) 𝒱₀ (c : Thread nD τ) none) Set.univ)
  isplitr [HO HR]
  · iapply (body_own c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (Memref.whole cc0_scratch0) (Memref.isWhole_whole _) (Memref.whole cc0_scratch1) (Memref.isWhole_whole _) (Memref.whole cc0_scratch2) (Memref.isWhole_whole _)
      (inAt m c t) (inK m c t.val) (inV m c t.val) ((dats m 0 c).before 15 t d15) ((dats m 0 c).before 16 t d16)
      (fun h _ _ => by rw [hc] at h; unfold inK; rw [if_pos h]) (fun h _ _ => by rw [hc] at h; unfold inV; rw [if_pos h]))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexact H15
    isplitl [H16]; · iexact H16
    isplitl [H20]; · iexact H20
    isplitl [H21]
    · iexists x21; isplitl [H21]; · iexact H21
      ipureintro; intro h j hj; rw [hc] at h; unfold inK; rw [if_neg h]; exact h21 h j hj
    iexists x22; isplitl [H22]; · iexact H22
    ipureintro; intro h j hj; rw [hc] at h; unfold inV; rw [if_neg h]; exact h22 h j hj
  iintro %r ⟨H0, H1, H2, H3, H4, H5, H6, H7, H8, H9, H10, H11, H12, H13, H14, H15, H16, H20, ⟨%f21, H21, %g21⟩, ⟨%f22, H22, %g22⟩⟩
  isplitl [H20 H21 H22 HR]
  · isplitl [H20]; · iexact H20
    isplitl [H21]
    · iexists f21; isplitl [H21]; · iexact H21
      ipureintro; intro _ j hj; rw [accK_succ, g21 j hj, hc]
    isplitl [H22]
    · iexists f22; isplitl [H22]; · iexact H22
      ipureintro; intro _ j hj; rw [accV_succ, g22 j hj, hc]
    iexact HR
  isplitl [HO]; · iexact HO
  rw [hc]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  by_cases hl : t.val % 16 = 15
  · rw [(idle_last _ (hc.trans hl)).1, if_pos hl, if_pos hl]
    dsimp only
    isplitl [H15]
    · iexact H15
    iexact H16
  · rw [(idle_notLast _ (fun h => hl (hc.symm.trans h))).1, if_neg hl, if_neg hl,
      show (win0 15).flush t = false from Bool.eq_false_iff.mpr (mt (flush0_15 t).mp hl),
      show (win0 16).flush t = false from Bool.eq_false_iff.mpr (mt (flush0_16 t).mp hl)]
    dsimp only
    isplitl [H15]; · iexists d15; iexact H15
    iexists d16; iexact H16

theorem hin (c : Dev nD) : Pipeline.ΦA (U := UR sig nD τ) spec0 c ⊢ (dats m 0 c).Φ 0 := by
  rw [show (dats m 0 c).Φ 0 = carried m c 0 from rfl]
  unfold Pipeline.ΦA carried; rw [scopedRest0_eq]
  iintro ⟨⟨H0, ⟨%f1, H1⟩, ⟨%f2, H2⟩⟩, HR⟩
  isplitl [H0]; · iexact H0
  isplitl [H1]; · iexists f1; isplitl [H1]; (· iexact H1); ipureintro; intro h; exact absurd rfl h
  isplitl [H2]; · iexists f2; isplitl [H2]; (· iexact H2); ipureintro; intro h; exact absurd rfl h
  iexact HR

theorem hout (c : Dev nD) : (dats m 0 c).Φ (Fin.last cfg0.N) ⊢ Pipeline.ΦA (U := UR sig nD τ) spec0 c := by
  rw [show (dats m 0 c).Φ (Fin.last cfg0.N) = carried m c cfg0.N from rfl]
  unfold Pipeline.ΦA carried; rw [scopedRest0_eq]
  iintro ⟨H0, ⟨%f1, H1, -⟩, ⟨%f2, H2, -⟩, HR⟩
  isplitr [HR]
  · isplitl [H0]; · iexact H0
    isplitl [H1]; · iexists f1; iexact H1
    iexists f2; iexact H2
  iexact HR

set_option backward.isDefEq.respectTransparency.types false in
/-- The whole program runs to the end; every array then holds what the call's proof data say, and every semaphore counter is zero. -/
theorem run : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ 𝒱₀ m ρ main
    (fun c => (body_obligation m c).loose) (fun c => (dats m 0 c).share_full fun _ => rfl) (fun _ _ => rfl) (V := V m) (hmain := hmain m 𝒱₀) (fun _ _ => rfl)
    (hin m) (hout m)

end Cert.KernelIdeal.Body

end
-- ==== Proof.KnBody.lean ====
/-
  The attention body's blocks of work, one part at a time: what each part of the body leaves in the arrays it stores to and what
  it returns, as plain recursions over key blocks and query heads. Nothing here depends on what a float is.
-/
module

public import proofs.«01_k».proof.Proof.Gen.Kernel.Skeleton
public import proofs.«01_k».proof.Proof.Gen.Kernel.Frame
public import proofs.«01_k».proof.Proof.Blk
public import Idealize.ShloMosaic.Lib.Exec
public import Idealize.ShloMosaic.Lib.Tactic
public import Idealize.ShloMosaic.Lib.LoopRemainder
public import Idealize.ShloMosaic.Lib.Pipeline.Kit

@[expose] public section

set_option maxRecDepth 16384
set_option maxHeartbeats 4000000

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Attn

variable {F : FTy → Type} [FloatOps F]

local notation "𝕄" => MT nD τ sig Unit (Elt F) ℕ (UR sig nD τ) ℕ

/-- The contents type of memref `M`'s buffer on core `c`, -/
abbrev Bf (c : Dev nD) {sp : Space} {S : Shape} {e : EltTy} (M : Memref sig .tc sp S e) : Type := Buf (Elt F) (M.view.loc (c : Thread nD τ))
/-- and that buffer held whole at contents `f`. -/
abbrev pt (c : Dev nD) {sp : Space} {S : Shape} {e : EltTy} (M : Memref sig .tc sp S e) (f : Bf (F := F) c M) : sProp 𝕄 :=
  M.view.loc (c : Thread nD τ) ↦{fullShare} f
/-- A buffer held whole at some contents whose reading through `M` satisfies `P`. -/
abbrev hp (c : Dev nD) {sp : Space} {S : Shape} {e : EltTy} (M : Memref sig .tc sp S e) (P : (S.Idx → Elt F e) → Prop) : sProp 𝕄 :=
  iprop(∃ f : Bf (F := F) c M, pt c M f ∗ ⌜P (M.view.read (Elt F) f)⌝)

/-- The kernel has no variants. -/
abbrev 𝒱₀ : Variants := Variants.none

/-! ## Offsets and trip counts -/

theorem iv256 : ∀ k < 17, (Scalar.indexCast (Scalar.muli (Scf.iv 0#32 1#32 k) 256#32)).toNat = k * 256 := by decide +kernel
theorem iv1 : ∀ k < 5, (Scalar.indexCast (Scalar.addi 0#32 (Scalar.muli (Scf.iv 0#32 1#32 k) 1#32))).toNat = k := by decide +kernel
theorem qb256 : ∀ k < 16, (Scalar.indexCast (Scalar.muli (BitVec.ofNat 32 k) 256#32)).toNat = k * 256 := by decide +kernel

theorem trips1 : k0_t1_loop.trips = 5 := by decide +kernel
theorem trips2_aux : ∀ k < 16, (Scf.Loop.mk 0#32 (Scalar.addi 0#32 (Scalar.muli (Scalar.divsi (Scalar.subi (BitVec.ofNat 32 k) 0#32) 1#32) 1#32)) 1#32).trips = k := by decide +kernel
theorem trips4_aux : ∀ k < 16, (Scf.Loop.mk 0#32 (Scalar.addi 0#32 (Scalar.muli (Scalar.divsi (Scalar.subi (Scalar.addi (BitVec.ofNat 32 k) 1#32) 0#32) 1#32) 1#32)) 1#32).trips = k + 1 := by decide +kernel
theorem i2_lt (i : grid0.Coords) : (i 2).val < 16 := (i 2).isLt
theorem trips2 (i : grid0.Coords) : (k0_t2_loop i).trips = (i 2).val := trips2_aux _ (i2_lt i)
theorem trips4 (i : grid0.Coords) : (k0_t4_loop i).trips = (i 2).val + 1 := trips4_aux _ (i2_lt i)
theorem trips6 (i : grid0.Coords) : (k0_t6_loop i).trips = (i 2).val + 1 := trips4_aux _ (i2_lt i)

theorem lt2 {i : grid0.Coords} (k : Fin (k0_t2_loop i).trips) : k.val < (i 2).val := (trips2 i) ▸ k.isLt
theorem lt4 {i : grid0.Coords} (k : Fin (k0_t4_loop i).trips) : k.val < (i 2).val + 1 := (trips4 i) ▸ k.isLt
theorem lt6 {i : grid0.Coords} (k : Fin (k0_t6_loop i).trips) : k.val < (i 2).val + 1 := (trips6 i) ▸ k.isLt
theorem lt1 (k : Fin k0_t1_loop.trips) : k.val < 5 := trips1 ▸ k.isLt

theorem off1 (k : Fin k0_t1_loop.trips) : k0_off1 k = ![0, 0, k.val, 0, 0] := by
  show ![0, 0, (Scalar.indexCast (Scalar.addi 0#32 (Scalar.muli (Scf.iv 0#32 1#32 k.val) 1#32))).toNat, 0, 0] = _
  rw [iv1 _ (lt1 k)]
theorem off2 (k : Fin k0_t1_loop.trips) : k0_off2 k = ![0, 0, k.val, 0] := by
  show ![0, 0, (Scalar.indexCast (Scalar.addi 0#32 (Scalar.muli (Scf.iv 0#32 1#32 k.val) 1#32))).toNat, 0] = _
  rw [iv1 _ (lt1 k)]
theorem off3 (i : grid0.Coords) (k : Fin (k0_t2_loop i).trips) : k0_off3 i k = ![0, 0, k.val * 256, 0] := by
  show ![0, 0, (Scalar.indexCast (Scalar.muli (Scf.iv 0#32 1#32 k.val) 256#32)).toNat, 0] = _
  rw [iv256 _ (by have := lt2 k; have := i2_lt i; omega)]
theorem off4 (i : grid0.Coords) (k : Fin (k0_t2_loop i).trips) : k0_off4 i k = ![k.val * 256, 0] := by
  show ![(Scalar.indexCast (Scalar.muli (Scf.iv 0#32 1#32 k.val) 256#32)).toNat, 0] = _
  rw [iv256 _ (by have := lt2 k; have := i2_lt i; omega)]
theorem off7 (i : grid0.Coords) : k0_off7 i = ![0, 0, (i 2).val * 256, 0] := by
  show ![0, 0, (Scalar.indexCast (Scalar.muli (BitVec.ofNat 32 (i 2).val) 256#32)).toNat, 0] = _
  rw [qb256 _ (i2_lt i)]
theorem off8 (i : grid0.Coords) : k0_off8 i = ![(i 2).val * 256, 0] := by
  show ![(Scalar.indexCast (Scalar.muli (BitVec.ofNat 32 (i 2).val) 256#32)).toNat, 0] = _
  rw [qb256 _ (i2_lt i)]
theorem off9 (i : grid0.Coords) (k : Fin (k0_t4_loop i).trips) : k0_off9 i k = ![k.val * 256, 0] := by
  show ![(Scalar.indexCast (Scalar.muli (Scf.iv 0#32 1#32 k.val) 256#32)).toNat, 0] = _
  rw [iv256 _ (by have := lt4 k; have := i2_lt i; omega)]
theorem off10 (i : grid0.Coords) (k : Fin (k0_t4_loop i).trips) : k0_off10 i k = ![0, 0, 0, k.val * 256] := by
  show ![0, 0, 0, (Scalar.indexCast (Scalar.muli (Scf.iv 0#32 1#32 k.val) 256#32)).toNat] = _
  rw [iv256 _ (by have := lt4 k; have := i2_lt i; omega)]
theorem off13 (i : grid0.Coords) (k : Fin (k0_t6_loop i).trips) : k0_off13 i k = ![k.val * 256, 0] := by
  show ![(Scalar.indexCast (Scalar.muli (Scf.iv 0#32 1#32 k.val) 256#32)).toNat, 0] = _
  rw [iv256 _ (by have := lt6 k; have := i2_lt i; omega)]
theorem off14 (i : grid0.Coords) (k : Fin (k0_t6_loop i).trips) : k0_off14 i k = ![0, 0, k.val * 256, 0] := by
  show ![0, 0, (Scalar.indexCast (Scalar.muli (Scf.iv 0#32 1#32 k.val) 256#32)).toNat, 0] = _
  rw [iv256 _ (by have := lt6 k; have := i2_lt i; omega)]
theorem off15 (i : grid0.Coords) (k : Fin (k0_t6_loop i).trips) : k0_off15 i k = ![0, 0, 0, k.val * 256] := by
  show ![0, 0, 0, (Scalar.indexCast (Scalar.muli (Scf.iv 0#32 1#32 k.val) 256#32)).toNat] = _
  rw [iv256 _ (by have := lt6 k; have := i2_lt i; omega)]
theorem off16 (i : grid0.Coords) (k : Fin (k0_t6_loop i).trips) : k0_off16 i k = ![0, k.val * 256] := by
  show ![0, (Scalar.indexCast (Scalar.muli (Scf.iv 0#32 1#32 k.val) 256#32)).toNat] = _
  rw [iv256 _ (by have := lt6 k; have := i2_lt i; omega)]

/-! ## The recursions over key blocks -/

/-- The running maximum of the scores over the first key blocks, -/
def mxR (v27 : FVec F S128x256 .bf16) (kr : Vec F S1x1x4096x128 .bf16) : ℕ → FVec F S8x256 .f32
  | 0 => k0_pay22
  | k + 1 => k0_pay26 v27 (mxR v27 kr k) (rows4 kr k)
/-- and of their negations; -/
def mnR (v27 : FVec F S128x256 .bf16) (kr : Vec F S1x1x4096x128 .bf16) : ℕ → FVec F S8x256 .f32
  | 0 => k0_pay23
  | k + 1 => k0_pay27 v27 (mnR v27 kr k) (rows4 kr k)
/-- the scores of key block `j`, the last one masked. -/
def sB (v27 : FVec F S128x256 .bf16) (kr : Vec F S1x1x4096x128 .bf16) (qb j : ℕ) : FVec F S256x256 .f32 :=
  if j < qb then k0_pay25 v27 (rows4 kr j) else k0_pay36 v27 (rows4 kr qb)
/-- The running sum of exponentials, -/
def lR (a : FVec F S8x256 .f32) (z : FVec F S32x8x256 .f32) (s : ℕ → FVec F S256x256 .f32) : ℕ → FVec F S8x256 .f32
  | 0 => k0_pay41
  | k + 1 => k0_pay45 a z (lR a z s k) (s k)
/-- and of the exponentials against the values. -/
def oR (a : FVec F S8x256 .f32) (z : FVec F S32x8x256 .f32) (s : ℕ → FVec F S256x256 .f32) (vt : Vec F S1x1x128x4096 .bf16) :
    ℕ → FVec F S128x256 .f32
  | 0 => k0_pay42
  | k + 1 => k0_pay46 a z (oR a z s vt k) (s k) (cols4 vt k)
/-- The running maximum of the score gradients' magnitudes, -/
def dsR (v30 : FVec F S128x256 .bf16) (v111 v128 : FVec F S1x256 .f32) (e : ℕ → FVec F S256x256 .f32) (vr : Vec F S1x1x4096x128 .bf16) :
    ℕ → FVec F S8x256 .f32
  | 0 => k0_pay56
  | k + 1 => k0_pay7 v30 v111 v128 (dsR v30 v111 v128 e vr k) (e k) (rows4 vr k)
/-- and the running sum of the query gradient. -/
def dqR (v30 : FVec F S128x256 .bf16) (v111 v128 : FVec F S1x256 .f32) (e : ℕ → FVec F S256x256 .f32) (vr : Vec F S1x1x4096x128 .bf16)
    (kt : Vec F S1x1x128x4096 .bf16) : ℕ → FVec F S128x256 .f32
  | 0 => k0_pay57
  | k + 1 => k0_pay9 v30 v111 v128 (dqR v30 v111 v128 e vr kt k) (e k) (rows4 vr k) (cols4 kt k)
/-- What one head adds to the key gradient's block, -/
def dkU (v27 v30 : FVec F S128x256 .bf16) (v111 v128 : FVec F S1x256 .f32) (e : FVec F S256x256 .f32) (vb : Vec F S1x1x256x128 .bf16)
    (old : Vec F S128x256 .f32) : Vec F S128x256 .f32 :=
  k0_pay58 v27 (k0_pay8 v30 v111 v128 e vb) old
/-- and to the value gradient's. -/
def dvU (v30 : FVec F S128x256 .bf16) (v111 : FVec F S1x256 .f32) (e : FVec F S256x256 .f32) (old : Vec F S128x256 .f32) : Vec F S128x256 .f32 :=
  k0_pay10 v30 v111 e old

section parts
variable (c : Dev nD) (i : grid0.Coords) (arg3 : Memref sig .tc .vmem S1x1x5x128x256 .bf16) (harg3 : arg3.IsWhole) (arg4 : Memref sig .tc .vmem S1x1x5x128x256 .bf16) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x1x4096x128 .bf16) (harg7 : arg7.IsWhole) (arg8 : Memref sig .tc .vmem S1x1x128x4096 .bf16) (harg8 : arg8.IsWhole) (arg9 : Memref sig .tc .vmem S1x1x4096x128 .bf16) (harg9 : arg9.IsWhole) (arg10 : Memref sig .tc .vmem S1x1x128x4096 .bf16) (harg10 : arg10.IsWhole) (arg11 : Memref sig .tc .vmem S1x1x5x256 .f32) (harg11 : arg11.IsWhole) (arg12 : Memref sig .tc .vmem S1x1x5x256 .f32) (harg12 : arg12.IsWhole) (arg13 : Memref sig .tc .vmem S1x1x5x256 .f32) (harg13 : arg13.IsWhole) (arg14 : Memref sig .tc .vmem S1x1x5x256 .f32) (harg14 : arg14.IsWhole) (arg15 : Memref sig .tc .vmem S1x1x5x256 .f32) (harg15 : arg15.IsWhole) (arg16 : Memref sig .tc .vmem S1x1x5x256 .f32) (harg16 : arg16.IsWhole) (arg17 : Memref sig .tc .vmem S1x1x5x128x256 .f32) (harg17 : arg17.IsWhole) (arg18 : Memref sig .tc .vmem S1x1x1x4096 .f32) (harg18 : arg18.IsWhole) (arg19 : Memref sig .tc .vmem S1x1x1x4096 .f32) (harg19 : arg19.IsWhole) (arg20 : Memref sig .tc .vmem S4096x256 .f32) (harg20 : arg20.IsWhole) (arg21 : Memref sig .tc .vmem S128x4096 .f32) (harg21 : arg21.IsWhole) (arg22 : Memref sig .tc .vmem S128x4096 .f32) (harg22 : arg22.IsWhole)

/-! ## The scores -/

/-- One key block's scores: the invariant is kept. -/
theorem t2_run (x7 : Bf (F := F) c arg7) (arg2 : BitVec 32) (k1 : Fin k0_t1_loop.trips) (v8 : BitVec 32) (v27 : FVec F S128x256 .bf16) (v42 : FVec F S1x256 .f32)
    (k : Fin (k0_t2_loop i).trips) (acc : FVec F S8x256 .f32 × FVec F S8x256 .f32) :
    iprop(pt c arg7 x7 ∗ hp c arg20 (fun A => ∀ j < k.val, rows2 A j = k0_pay25 v27 (rows4 (arg7.view.read (Elt F) x7) j))
        ∗ ⌜acc = (mxR v27 (arg7.view.read (Elt F) x7) k.val, mnR v27 (arg7.view.read (Elt F) x7) k.val)⌝)
      ⊢ wp frame (wpE (defs₀ (F := F)) 𝒱₀ (c : Thread nD τ) none) Set.univ (k0_t2_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 k1 v8 v27 v42 k acc)
        (fun acc' => iprop(pt c arg7 x7 ∗ hp c arg20 (fun A => ∀ j < k.val + 1, rows2 A j = k0_pay25 v27 (rows4 (arg7.view.read (Elt F) x7) j))
        ∗ ⌜acc' = (mxR v27 (arg7.view.read (Elt F) x7) (k.val + 1), mnR v27 (arg7.view.read (Elt F) x7) (k.val + 1))⌝)) := by
  iintro ⟨H7, ⟨%f20, H20, %h20⟩, %hacc⟩
  subst hacc
  unfold k0_t2_body
  sl_exec
  sl_step
  have hk := lt2 k
  have hi := i2_lt i
  rw [readAt_rows4 (k := k.val) arg7.view x7 (k0_off3_inb i k) (by omega) (off3 i k)]
  isplitl [H7]; · iexact H7
  isplitl [H20]
  · iexists _; isplitl [H20]; · iexact H20
    ipureintro
    intro j hj
    rw [rows2_writes arg20.view f20 (k0_off4_inb i k) _ (k := k.val) (by omega) (by omega) (off4 i k)]
    split
    · subst j; rfl
    · exact h20 j (by omega)
  · ipureintro; rfl

/-- The fourth part: the scores of every key block written, their maxima returned, and the incoming gradient's row stored. -/
theorem part4_run (x7 : Bf (F := F) c arg7) (k1 : Fin k0_t1_loop.trips) (v8 : BitVec 32) (v27 : FVec F S128x256 .bf16)
    (v42 : FVec F S1x256 .f32) (x12 : Bf (F := F) c arg12) (P12 : ℕ → S1x1x1x256.Idx → Elt F .f32)
    (h12 : ∀ h < k1.val, row4 (arg12.view.read (Elt F) x12) h = P12 h) (hP : P12 k1.val = k0_pay21 v42) :
    iprop(pt c arg7 x7 ∗ pt c arg12 x12 ∗ (∃ f, pt c arg20 f))
      ⊢ wp frame (wpE (defs₀ (F := F)) 𝒱₀ (c : Thread nD τ) none) Set.univ (k0_part4 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 2).val) k1 v8 v27 v42)
        (fun r => iprop(⌜r = ⟨mxR v27 (arg7.view.read (Elt F) x7) (i 2).val, k0_pay34 v27 (mnR v27 (arg7.view.read (Elt F) x7) (i 2).val) (rows4 (arg7.view.read (Elt F) x7) (i 2).val),
              k0_pay37 v27 (rows4 (arg7.view.read (Elt F) x7) (i 2).val)⟩⌝
          ∗ pt c arg7 x7 ∗ hp c arg12 (fun A => ∀ h < k1.val + 1, row4 A h = P12 h)
          ∗ hp c arg20 (fun A => ∀ j < (i 2).val + 1, rows2 A j = sB v27 (arg7.view.read (Elt F) x7) (i 2).val j))) := by
  iintro ⟨H7, H12, ⟨%f20, H20⟩⟩
  rw [k0_part4_eq_skeleton]
  unfold k0_part4_skel
  have hi := i2_lt i
  have hk1 := lt1 k1
  sl_exec
  sl_for (fun k acc => iprop(pt c arg7 x7 ∗ hp c arg20 (fun A => ∀ j < k, rows2 A j = k0_pay25 v27 (rows4 (arg7.view.read (Elt F) x7) j))
        ∗ ⌜acc = (mxR v27 (arg7.view.read (Elt F) x7) k, mnR v27 (arg7.view.read (Elt F) x7) k)⌝)) $$ [H7 H20]
  case region => intro k acc; exact t2_run c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x7 _ k1 v8 v27 v42 k acc
  · isplitl [H7]; · iexact H7
    isplitl [H20]
    · iexists f20; isplitl [H20]; · iexact H20
      ipureintro; intro j hj; exact absurd hj (Nat.not_lt_zero _)
    · ipureintro; rfl
  iintro %acc ⟨H7, ⟨%g20, H20, %h20⟩, %hacc⟩
  rw [show Scf.trips (k0_t2_loop i).lb (k0_t2_loop i).ub (k0_t2_loop i).st = (i 2).val from trips2 i] at h20 hacc
  subst hacc
  sl_exec
  sl_step
  rw [readAt_rows4 (k := (i 2).val) arg7.view x7 (k0_off7_inb i) (by omega) (off7 i)]
  isplitr; · ipureintro; rfl
  isplitl [H7]; · iexact H7
  isplitl [H12]
  · iexists _; isplitl [H12]; · iexact H12
    ipureintro
    intro h hh
    rw [row4_writes arg12.view x12 (k0_off2_inb k1) _ (k := k1.val) (by omega) (by omega) (off2 k1)]
    split
    · subst h; exact hP.symm
    · exact h12 h (by omega)
  · iexists _; isplitl [H20]; · iexact H20
    ipureintro
    intro j hj
    rw [rows2_writes arg20.view g20 (k0_off8_inb i) _ (k := (i 2).val) (by omega) (by omega) (off8 i)]
    unfold sB
    split
    · rw [if_neg (by omega)]
    · rw [if_pos (by omega)]; exact h20 j (by omega)

/-! ## The softmax and the output -/

/-- One key block's exponentials: the invariant is kept. -/
theorem t4_run (x10 : Bf (F := F) c arg10) (arg2 : BitVec 32) (k1 : Fin k0_t1_loop.trips) (v8 : BitVec 32) (a v71 : FVec F S8x256 .f32)
    (z : FVec F S32x8x256 .f32) (s : ℕ → FVec F S256x256 .f32)
    (k : Fin (k0_t4_loop i).trips) (acc : FVec F S8x256 .f32 × FVec F S128x256 .f32) :
    iprop(pt c arg10 x10 ∗ hp c arg20 (fun A => ∀ j < (i 2).val + 1, rows2 A j = if j < k.val then k0_pay44 a z (s j) else s j)
        ∗ ⌜acc = (lR a z s k.val, oR a z s (arg10.view.read (Elt F) x10) k.val)⌝)
      ⊢ wp frame (wpE (defs₀ (F := F)) 𝒱₀ (c : Thread nD τ) none) Set.univ (k0_t4_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 k1 v8 a v71 z k acc)
        (fun acc' => iprop(pt c arg10 x10 ∗ hp c arg20 (fun A => ∀ j < (i 2).val + 1, rows2 A j = if j < k.val + 1 then k0_pay44 a z (s j) else s j)
        ∗ ⌜acc' = (lR a z s (k.val + 1), oR a z s (arg10.view.read (Elt F) x10) (k.val + 1))⌝)) := by
  iintro ⟨H10, ⟨%f20, H20, %h20⟩, %hacc⟩
  subst hacc
  unfold k0_t4_body
  sl_exec
  sl_step
  have hk := lt4 k
  have hi := i2_lt i
  have e : rows2 (arg20.view.read (Elt F) f20) k.val = s k.val := by rw [h20 _ hk, if_neg (by omega)]
  rw [readAt_cols4 (k := k.val) arg10.view x10 (k0_off10_inb i k) (by omega) (off10 i k),
    readAt_rows2 (k := k.val) arg20.view f20 (k0_off9_inb i k) (by omega) (off9 i k), e]
  isplitl [H10]; · iexact H10
  isplitl [H20]
  · iexists _; isplitl [H20]; · iexact H20
    ipureintro
    intro j hj
    rw [rows2_writes arg20.view f20 (k0_off9_inb i k) _ (k := k.val) (by omega) (by omega) (off9 i k)]
    split
    · subst j; rw [if_pos (by omega)]
    · rw [h20 j hj]
      by_cases hjk : j < k.val
      · rw [if_pos hjk, if_pos (by omega)]
      · rw [if_neg hjk, if_neg (by omega)]
  · ipureintro; rfl

/-- The fifth part: the score row and the output's head stored, the exponentials left in the score array, the inverse denominator and
    the output returned. -/
theorem part5_run (x10 : Bf (F := F) c arg10) (k1 : Fin k0_t1_loop.trips) (v8 : BitVec 32) (a v71 : FVec F S8x256 .f32)
    (z : FVec F S32x8x256 .f32) (s : ℕ → FVec F S256x256 .f32) (x13 : Bf (F := F) c arg13) (x17 : Bf (F := F) c arg17)
    (P13 : ℕ → S1x1x1x256.Idx → Elt F .f32) (h13 : ∀ h < k1.val, row4 (arg13.view.read (Elt F) x13) h = P13 h) (hP : P13 k1.val = k0_pay39 a v71 z)
    (P17 : ℕ → S1x1x1x128x256.Idx → Elt F .f32) (h17 : ∀ h < k1.val, head5 (arg17.view.read (Elt F) x17) h = P17 h)
    (hP' : P17 k1.val = k0_pay53 (lR a z s ((i 2).val + 1)) (oR a z s (arg10.view.read (Elt F) x10) ((i 2).val + 1))) :
    iprop(pt c arg10 x10 ∗ pt c arg13 x13 ∗ pt c arg17 x17 ∗ hp c arg20 (fun A => ∀ j < (i 2).val + 1, rows2 A j = s j))
      ⊢ wp frame (wpE (defs₀ (F := F)) 𝒱₀ (c : Thread nD τ) none) Set.univ (k0_part5 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 2).val) k1 v8 a v71 z)
        (fun r => iprop(⌜r = ⟨k0_pay51 (lR a z s ((i 2).val + 1)), k0_pay52 (lR a z s ((i 2).val + 1)) (oR a z s (arg10.view.read (Elt F) x10) ((i 2).val + 1))⟩⌝
          ∗ pt c arg10 x10 ∗ hp c arg13 (fun A => ∀ h < k1.val + 1, row4 A h = P13 h) ∗ hp c arg17 (fun A => ∀ h < k1.val + 1, head5 A h = P17 h)
          ∗ hp c arg20 (fun A => ∀ j < (i 2).val + 1, rows2 A j = k0_pay44 a z (s j)))) := by
  iintro ⟨H10, H13, H17, ⟨%f20, H20, %h20⟩⟩
  rw [k0_part5_eq_skeleton]
  unfold k0_part5_skel
  have hi := i2_lt i
  have hk1 := lt1 k1
  sl_exec
  sl_for (fun k acc => iprop(pt c arg10 x10 ∗ hp c arg20 (fun A => ∀ j < (i 2).val + 1, rows2 A j = if j < k then k0_pay44 a z (s j) else s j)
        ∗ ⌜acc = (lR a z s k, oR a z s (arg10.view.read (Elt F) x10) k)⌝)) $$ [H10 H20]
  case region => intro k acc; exact t4_run c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x10 _ k1 v8 a v71 z s k acc
  · isplitl [H10]; · iexact H10
    isplitl [H20]
    · iexists f20; isplitl [H20]; · iexact H20
      ipureintro; intro j hj; rw [if_neg (Nat.not_lt_zero _)]; exact h20 j hj
    · ipureintro; rfl
  iintro %acc ⟨H10, ⟨%g20, H20, %h20'⟩, %hacc⟩
  rw [show Scf.trips (k0_t4_loop i).lb (k0_t4_loop i).ub (k0_t4_loop i).st = (i 2).val + 1 from trips4 i] at h20' hacc
  subst hacc
  sl_exec
  sl_step
  isplitr; · ipureintro; rfl
  isplitl [H10]; · iexact H10
  isplitl [H13]
  · iexists _; isplitl [H13]; · iexact H13
    ipureintro
    intro h hh
    rw [row4_writes arg13.view x13 (k0_off2_inb k1) _ (k := k1.val) (by omega) (by omega) (off2 k1)]
    split
    · subst h; exact hP.symm
    · exact h13 h (by omega)
  isplitl [H17]
  · iexists _; isplitl [H17]; · iexact H17
    ipureintro
    intro h hh
    rw [head5_writes arg17.view x17 (k0_off1_inb k1) _ (k := k1.val) (by omega) (by omega) (off1 k1)]
    split
    · subst h; exact hP'.symm
    · exact h17 h (by omega)
  · iexists _; isplitl [H20]; · iexact H20
    ipureintro
    intro j hj
    rw [h20' j hj, if_pos hj]

/-! ## The gradients -/

/-- One key block's gradients: the invariant is kept. -/
theorem t6_run (x8 : Bf (F := F) c arg8) (x9 : Bf (F := F) c arg9) (arg2 : BitVec 32) (k1 : Fin k0_t1_loop.trips) (v8 : BitVec 32)
    (v27 v30 : FVec F S128x256 .bf16) (v111 : FVec F S1x256 .f32) (v113 : FVec F S128x256 .f32) (e : ℕ → FVec F S256x256 .f32)
    (K W : ℕ → S128x256.Idx → Elt F .f32)
    (k : Fin (k0_t6_loop i).trips) (acc : FVec F S8x256 .f32 × FVec F S128x256 .f32) :
    iprop(pt c arg8 x8 ∗ pt c arg9 x9 ∗ hp c arg20 (fun A => ∀ j < (i 2).val + 1, rows2 A j = e j)
        ∗ hp c arg21 (fun A => ∀ j < 16, cols2 A j = if j < k.val then dkU v27 v30 v111 (k0_pay55 v30 v113) (e j) (rows4 (arg9.view.read (Elt F) x9) j) (K j) else K j)
        ∗ hp c arg22 (fun A => ∀ j < 16, cols2 A j = if j < k.val then dvU v30 v111 (e j) (W j) else W j)
        ∗ ⌜acc = (dsR v30 v111 (k0_pay55 v30 v113) e (arg9.view.read (Elt F) x9) k.val, dqR v30 v111 (k0_pay55 v30 v113) e (arg9.view.read (Elt F) x9) (arg8.view.read (Elt F) x8) k.val)⌝)
      ⊢ wp frame (wpE (defs₀ (F := F)) 𝒱₀ (c : Thread nD τ) none) Set.univ (k0_t6_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg2 k1 v8 v27 v30 v111 v113 k acc)
        (fun acc' => iprop(pt c arg8 x8 ∗ pt c arg9 x9 ∗ hp c arg20 (fun A => ∀ j < (i 2).val + 1, rows2 A j = e j)
        ∗ hp c arg21 (fun A => ∀ j < 16, cols2 A j = if j < k.val + 1 then dkU v27 v30 v111 (k0_pay55 v30 v113) (e j) (rows4 (arg9.view.read (Elt F) x9) j) (K j) else K j)
        ∗ hp c arg22 (fun A => ∀ j < 16, cols2 A j = if j < k.val + 1 then dvU v30 v111 (e j) (W j) else W j)
        ∗ ⌜acc' = (dsR v30 v111 (k0_pay55 v30 v113) e (arg9.view.read (Elt F) x9) (k.val + 1), dqR v30 v111 (k0_pay55 v30 v113) e (arg9.view.read (Elt F) x9) (arg8.view.read (Elt F) x8) (k.val + 1))⌝)) := by
  iintro ⟨H8, H9, ⟨%f20, H20, %h20⟩, ⟨%f21, H21, %h21⟩, ⟨%f22, H22, %h22⟩, %hacc⟩
  subst hacc
  unfold k0_t6_body
  dsimp only
  rw [k0_part1_eq_skeleton]
  unfold k0_part1_skel
  sl_exec
  sl_step
  have hk := lt6 k
  have hi := i2_lt i
  have e20 : rows2 (arg20.view.read (Elt F) f20) k.val = e k.val := h20 _ hk
  have e21 : cols2 (arg21.view.read (Elt F) f21) k.val = K k.val := by rw [h21 _ (by omega), if_neg (by omega)]
  have e22 : cols2 (arg22.view.read (Elt F) f22) k.val = W k.val := by rw [h22 _ (by omega), if_neg (by omega)]
  rw [readAt_rows2 (k := k.val) arg20.view f20 (k0_off13_inb i k) (by omega) (off13 i k), e20,
    readAt_rows4 (k := k.val) arg9.view x9 (k0_off14_inb i k) (by omega) (off14 i k),
    readAt_cols4 (k := k.val) arg8.view x8 (k0_off15_inb i k) (by omega) (off15 i k),
    readAt_cols2 (k := k.val) arg21.view f21 (k0_off16_inb i k) (by omega) (off16 i k), e21,
    readAt_cols2 (k := k.val) arg22.view f22 (k0_off16_inb i k) (by omega) (off16 i k), e22]
  isplitl [H8]; · iexact H8
  isplitl [H9]; · iexact H9
  isplitl [H20]
  · iexists _; isplitl [H20]; · iexact H20
    ipureintro; exact h20
  isplitl [H21]
  · iexists _; isplitl [H21]; · iexact H21
    ipureintro
    intro j hj
    rw [cols2_writes arg21.view f21 (k0_off16_inb i k) _ (k := k.val) (by omega) (by omega) (off16 i k)]
    split
    · subst j; rw [if_pos (by omega)]; rfl
    · rw [h21 j hj]
      by_cases hjk : j < k.val
      · rw [if_pos hjk, if_pos (by omega)]
      · rw [if_neg hjk, if_neg (by omega)]
  isplitl [H22]
  · iexists _; isplitl [H22]; · iexact H22
    ipureintro
    intro j hj
    rw [cols2_writes arg22.view f22 (k0_off16_inb i k) _ (k := k.val) (by omega) (by omega) (off16 i k)]
    split
    · subst j; rw [if_pos (by omega)]; rfl
    · rw [h22 j hj]
      by_cases hjk : j < k.val
      · rw [if_pos hjk, if_pos (by omega)]
      · rw [if_neg hjk, if_neg (by omega)]
  · ipureintro; rfl

/-- The sixth part: three rows stored, and one head's share added to the key and value gradients. -/
theorem part6_run (x8 : Bf (F := F) c arg8) (x9 : Bf (F := F) c arg9) (k1 : Fin k0_t1_loop.trips) (v8 : BitVec 32)
    (v27 v30 : FVec F S128x256 .bf16) (v111 : FVec F S1x256 .f32) (v113 : FVec F S128x256 .f32) (e : ℕ → FVec F S256x256 .f32)
    (K W : ℕ → S128x256.Idx → Elt F .f32) (x14 : Bf (F := F) c arg14) (x15 : Bf (F := F) c arg15) (x16 : Bf (F := F) c arg16)
    (P14 P15 P16 : ℕ → S1x1x1x256.Idx → Elt F .f32)
    (h14 : ∀ h < k1.val, row4 (arg14.view.read (Elt F) x14) h = P14 h) (hP14 : P14 k1.val = k0_pay54 v113)
    (h15 : ∀ h < k1.val, row4 (arg15.view.read (Elt F) x15) h = P15 h)
    (hP15 : P15 k1.val = k0_pay60 (dsR v30 v111 (k0_pay55 v30 v113) e (arg9.view.read (Elt F) x9) ((i 2).val + 1)))
    (h16 : ∀ h < k1.val, row4 (arg16.view.read (Elt F) x16) h = P16 h)
    (hP16 : P16 k1.val = k0_pay61 (dqR v30 v111 (k0_pay55 v30 v113) e (arg9.view.read (Elt F) x9) (arg8.view.read (Elt F) x8) ((i 2).val + 1))) :
    iprop(pt c arg8 x8 ∗ pt c arg9 x9 ∗ pt c arg14 x14 ∗ pt c arg15 x15 ∗ pt c arg16 x16 ∗ hp c arg20 (fun A => ∀ j < (i 2).val + 1, rows2 A j = e j)
        ∗ hp c arg21 (fun A => ∀ j < 16, cols2 A j = K j) ∗ hp c arg22 (fun A => ∀ j < 16, cols2 A j = W j))
      ⊢ wp frame (wpE (defs₀ (F := F)) 𝒱₀ (c : Thread nD τ) none) Set.univ (k0_part6 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 2).val) k1 v8 v27 v30 v111 v113)
        (fun _ => iprop(pt c arg8 x8 ∗ pt c arg9 x9 ∗ hp c arg14 (fun A => ∀ h < k1.val + 1, row4 A h = P14 h)
          ∗ hp c arg15 (fun A => ∀ h < k1.val + 1, row4 A h = P15 h) ∗ hp c arg16 (fun A => ∀ h < k1.val + 1, row4 A h = P16 h) ∗ (∃ f, pt c arg20 f)
          ∗ hp c arg21 (fun A => ∀ j < 16, cols2 A j = if j < (i 2).val + 1 then dkU v27 v30 v111 (k0_pay55 v30 v113) (e j) (rows4 (arg9.view.read (Elt F) x9) j) (K j) else K j)
          ∗ hp c arg22 (fun A => ∀ j < 16, cols2 A j = if j < (i 2).val + 1 then dvU v30 v111 (e j) (W j) else W j))) := by
  iintro ⟨H8, H9, H14, H15, H16, ⟨%f20, H20, %h20⟩, ⟨%f21, H21, %h21⟩, ⟨%f22, H22, %h22⟩⟩
  rw [k0_part6_eq_skeleton]
  unfold k0_part6_skel
  have hi := i2_lt i
  have hk1 := lt1 k1
  sl_exec
  sl_for (fun k acc => iprop(pt c arg8 x8 ∗ pt c arg9 x9 ∗ hp c arg20 (fun A => ∀ j < (i 2).val + 1, rows2 A j = e j)
        ∗ hp c arg21 (fun A => ∀ j < 16, cols2 A j = if j < k then dkU v27 v30 v111 (k0_pay55 v30 v113) (e j) (rows4 (arg9.view.read (Elt F) x9) j) (K j) else K j)
        ∗ hp c arg22 (fun A => ∀ j < 16, cols2 A j = if j < k then dvU v30 v111 (e j) (W j) else W j)
        ∗ ⌜acc = (dsR v30 v111 (k0_pay55 v30 v113) e (arg9.view.read (Elt F) x9) k, dqR v30 v111 (k0_pay55 v30 v113) e (arg9.view.read (Elt F) x9) (arg8.view.read (Elt F) x8) k)⌝)) $$ [H8 H9 H20 H21 H22]
  case region => intro k acc; exact t6_run c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x8 x9 _ k1 v8 v27 v30 v111 v113 e K W k acc
  · isplitl [H8]; · iexact H8
    isplitl [H9]; · iexact H9
    isplitl [H20]
    · iexists f20; isplitl [H20]; · iexact H20
      ipureintro; exact h20
    isplitl [H21]
    · iexists f21; isplitl [H21]; · iexact H21
      ipureintro; intro j hj; rw [if_neg (Nat.not_lt_zero _)]; exact h21 j hj
    isplitl [H22]
    · iexists f22; isplitl [H22]; · iexact H22
      ipureintro; intro j hj; rw [if_neg (Nat.not_lt_zero _)]; exact h22 j hj
    · ipureintro; rfl
  iintro %acc ⟨H8, H9, ⟨%g20, H20, %h20'⟩, ⟨%g21, H21, %h21'⟩, ⟨%g22, H22, %h22'⟩, %hacc⟩
  rw [show Scf.trips (k0_t6_loop i).lb (k0_t6_loop i).ub (k0_t6_loop i).st = (i 2).val + 1 from trips6 i] at h21' h22' hacc
  subst hacc
  sl_exec
  sl_step
  isplitl [H8]; · iexact H8
  isplitl [H9]; · iexact H9
  isplitl [H14]
  · iexists _; isplitl [H14]; · iexact H14
    ipureintro
    intro h hh
    rw [row4_writes arg14.view x14 (k0_off2_inb k1) _ (k := k1.val) (by omega) (by omega) (off2 k1)]
    split
    · subst h; exact hP14.symm
    · exact h14 h (by omega)
  isplitl [H15]
  · iexists _; isplitl [H15]; · iexact H15
    ipureintro
    intro h hh
    rw [row4_writes arg15.view x15 (k0_off2_inb k1) _ (k := k1.val) (by omega) (by omega) (off2 k1)]
    split
    · subst h; exact hP15.symm
    · exact h15 h (by omega)
  isplitl [H16]
  · iexists _; isplitl [H16]; · iexact H16
    ipureintro
    intro h hh
    rw [row4_writes arg16.view x16 (k0_off2_inb k1) _ (k := k1.val) (by omega) (by omega) (off2 k1)]
    split
    · subst h; exact hP16.symm
    · exact h16 h (by omega)
  isplitl [H20]; · iexists g20; iexact H20
  isplitl [H21]
  · iexists _; isplitl [H21]; · iexact H21
    ipureintro; exact h21'
  · iexists _; isplitl [H22]; · iexact H22
    ipureintro; exact h22'

/-- The third part: the query's row stored, the rotated query and the incoming gradient's head returned. -/
theorem part3_run (x3 : Bf (F := F) c arg3) (x4 : Bf (F := F) c arg4) (x5 : Bf (F := F) c arg5) (x6 : Bf (F := F) c arg6) (k1 : Fin k0_t1_loop.trips)
    (x11 : Bf (F := F) c arg11) (P11 : ℕ → S1x1x1x256.Idx → Elt F .f32)
    (h11 : ∀ h < k1.val, row4 (arg11.view.read (Elt F) x11) h = P11 h)
    (hP : P11 k1.val = k0_pay19 (head5 (arg3.view.read (Elt F) x3) k1.val) (arg5.view.read (Elt F) x5) (arg6.view.read (Elt F) x6)) :
    iprop(pt c arg3 x3 ∗ pt c arg4 x4 ∗ pt c arg5 x5 ∗ pt c arg6 x6 ∗ pt c arg11 x11)
      ⊢ wp frame (wpE (defs₀ (F := F)) 𝒱₀ (c : Thread nD τ) none) Set.univ (k0_part3 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 0#32 1#32 k1)
        (fun r => iprop(⌜r.2 = ⟨k0_pay17 (head5 (arg3.view.read (Elt F) x3) k1.val) (arg5.view.read (Elt F) x5) (arg6.view.read (Elt F) x6),
              k0_pay18 (head5 (arg4.view.read (Elt F) x4) k1.val), k0_pay20 (head5 (arg4.view.read (Elt F) x4) k1.val)⟩⌝
          ∗ pt c arg3 x3 ∗ pt c arg4 x4 ∗ pt c arg5 x5 ∗ pt c arg6 x6 ∗ hp c arg11 (fun A => ∀ h < k1.val + 1, row4 A h = P11 h))) := by
  iintro ⟨H3, H4, H5, H6, H11⟩
  rw [k0_part3_eq_skeleton]
  unfold k0_part3_skel
  have hk1 := lt1 k1
  sl_exec
  sl_step
  rw [readAt_head5 (k := k1.val) arg3.view x3 (k0_off1_inb k1) (by omega) (off1 k1),
    readAt_head5 (k := k1.val) arg4.view x4 (k0_off1_inb k1) (by omega) (off1 k1),
    View.readAt_full arg5.view x5, View.readAt_full arg6.view x6]
  isplitr; · ipureintro; rfl
  isplitl [H3]; · iexact H3
  isplitl [H4]; · iexact H4
  isplitl [H5]; · iexact H5
  isplitl [H6]; · iexact H6
  iexists _; isplitl [H11]; · iexact H11
  ipureintro
  intro h hh
  rw [row4_writes arg11.view x11 (k0_off2_inb k1) _ (k := k1.val) (by omega) (by omega) (off2 k1)]
  split
  · subst h; exact hP.symm
  · exact h11 h (by omega)

end parts

end Cert.Kernel.Body

end
-- ==== Proof.KnHead.lean ====
/-
  One grid point of the attention body: five query heads one after another, then the whole body. The arrays it leaves are named
  as functions of the operand blocks it is given.
-/
module

public import proofs.«01_k».proof.Proof.KnBody

@[expose] public section

set_option maxRecDepth 16384
set_option maxHeartbeats 4000000

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Attn

variable {F : FTy → Type} [FloatOps F]

local notation "𝕄" => MT nD τ sig Unit (Elt F) ℕ (UR sig nD τ) ℕ

/-- The operand blocks of one grid point: the query and incoming-gradient heads, the two rotation tables, and the keys and values, by
    rows and by columns. -/
structure In (F : FTy → Type) where
  q : Vec F S1x1x5x128x256 .bf16
  d : Vec F S1x1x5x128x256 .bf16
  cs : Vec F S1x64x256 .f32
  sn : Vec F S1x64x256 .f32
  kr : Vec F S1x1x4096x128 .bf16
  kt : Vec F S1x1x128x4096 .bf16
  vr : Vec F S1x1x4096x128 .bf16
  vt : Vec F S1x1x128x4096 .bf16

variable (I : In F) (qb : ℕ)

/-- Head `h`'s rotated query, -/
def qH (h : ℕ) : FVec F S128x256 .bf16 := k0_pay17 (head5 I.q h) I.cs I.sn
/-- its incoming gradient, -/
def doH (h : ℕ) : FVec F S128x256 .bf16 := k0_pay18 (head5 I.d h)
/-- the maximum of its unmasked scores, -/
def mxH (h : ℕ) : FVec F S8x256 .f32 := mxR (qH I h) I.kr qb
/-- the maximum of its negated visible scores, -/
def mnH (h : ℕ) : FVec F S8x256 .f32 := k0_pay34 (qH I h) (mnR (qH I h) I.kr qb) (rows4 I.kr qb)
/-- its masked last block of scores, -/
def zH (h : ℕ) : FVec F S32x8x256 .f32 := k0_pay37 (qH I h) (rows4 I.kr qb)
/-- its scores, -/
def sH (h j : ℕ) : FVec F S256x256 .f32 := sB (qH I h) I.kr qb j
/-- their exponentials, -/
def eH (h j : ℕ) : FVec F S256x256 .f32 := k0_pay44 (mxH I qb h) (zH I qb h) (sH I qb h j)
/-- the exponentials' sums, -/
def lH (h : ℕ) : FVec F S8x256 .f32 := lR (mxH I qb h) (zH I qb h) (sH I qb h) (qb + 1)
/-- their sum against the values, -/
def oH (h : ℕ) : FVec F S128x256 .f32 := oR (mxH I qb h) (zH I qb h) (sH I qb h) I.vt (qb + 1)
/-- the inverse denominator, -/
def ivH (h : ℕ) : FVec F S1x256 .f32 := k0_pay51 (lH I qb h)
/-- the output, -/
def outH (h : ℕ) : FVec F S128x256 .f32 := k0_pay52 (lH I qb h) (oH I qb h)
/-- and the row sums of the output against the incoming gradient. -/
def dlH (h : ℕ) : FVec F S1x256 .f32 := k0_pay55 (doH I h) (outH I qb h)

/-- The rows and the head that head `h` stores. -/
def p11 (h : ℕ) : S1x1x1x256.Idx → Elt F .f32 := k0_pay19 (head5 I.q h) I.cs I.sn
def p12 (h : ℕ) : S1x1x1x256.Idx → Elt F .f32 := k0_pay21 (k0_pay20 (head5 I.d h))
def p13 (h : ℕ) : S1x1x1x256.Idx → Elt F .f32 := k0_pay39 (mxH I qb h) (mnH I qb h) (zH I qb h)
def p14 (h : ℕ) : S1x1x1x256.Idx → Elt F .f32 := k0_pay54 (outH I qb h)
def p15 (h : ℕ) : S1x1x1x256.Idx → Elt F .f32 :=
  k0_pay60 (dsR (doH I h) (ivH I qb h) (dlH I qb h) (eH I qb h) I.vr (qb + 1))
def p16 (h : ℕ) : S1x1x1x256.Idx → Elt F .f32 :=
  k0_pay61 (dqR (doH I h) (ivH I qb h) (dlH I qb h) (eH I qb h) I.vr I.kt (qb + 1))
def p17 (h : ℕ) : S1x1x1x128x256.Idx → Elt F .f32 := k0_pay53 (lH I qb h) (oH I qb h)

/-- The key gradient's blocks after the first `h` heads, from `K`, -/
def dkA (K : ℕ → S128x256.Idx → Elt F .f32) : ℕ → ℕ → S128x256.Idx → Elt F .f32
  | 0, j => K j
  | h + 1, j => if j < qb + 1 then dkU (qH I h) (doH I h) (ivH I qb h) (dlH I qb h) (eH I qb h j) (rows4 I.vr j) (dkA K h j) else dkA K h j
/-- and the value gradient's, from `W`. -/
def dvA (W : ℕ → S128x256.Idx → Elt F .f32) : ℕ → ℕ → S128x256.Idx → Elt F .f32
  | 0, j => W j
  | h + 1, j => if j < qb + 1 then dvU (doH I h) (ivH I qb h) (eH I qb h j) (dvA W h j) else dvA W h j

/-- The key gradient at a grid point's start, where it is zeroed, -/
def K0 (j : ℕ) : S128x256.Idx → Elt F .f32 := cols2 (k0_pay1 (F := F)) j
/-- and the value gradient. -/
def W0 (j : ℕ) : S128x256.Idx → Elt F .f32 := cols2 (k0_pay2 (F := F)) j

section parts
variable (c : Dev nD) (i : grid0.Coords) (arg3 : Memref sig .tc .vmem S1x1x5x128x256 .bf16) (harg3 : arg3.IsWhole) (arg4 : Memref sig .tc .vmem S1x1x5x128x256 .bf16) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x1x4096x128 .bf16) (harg7 : arg7.IsWhole) (arg8 : Memref sig .tc .vmem S1x1x128x4096 .bf16) (harg8 : arg8.IsWhole) (arg9 : Memref sig .tc .vmem S1x1x4096x128 .bf16) (harg9 : arg9.IsWhole) (arg10 : Memref sig .tc .vmem S1x1x128x4096 .bf16) (harg10 : arg10.IsWhole) (arg11 : Memref sig .tc .vmem S1x1x5x256 .f32) (harg11 : arg11.IsWhole) (arg12 : Memref sig .tc .vmem S1x1x5x256 .f32) (harg12 : arg12.IsWhole) (arg13 : Memref sig .tc .vmem S1x1x5x256 .f32) (harg13 : arg13.IsWhole) (arg14 : Memref sig .tc .vmem S1x1x5x256 .f32) (harg14 : arg14.IsWhole) (arg15 : Memref sig .tc .vmem S1x1x5x256 .f32) (harg15 : arg15.IsWhole) (arg16 : Memref sig .tc .vmem S1x1x5x256 .f32) (harg16 : arg16.IsWhole) (arg17 : Memref sig .tc .vmem S1x1x5x128x256 .f32) (harg17 : arg17.IsWhole) (arg18 : Memref sig .tc .vmem S1x1x1x4096 .f32) (harg18 : arg18.IsWhole) (arg19 : Memref sig .tc .vmem S1x1x1x4096 .f32) (harg19 : arg19.IsWhole) (arg20 : Memref sig .tc .vmem S4096x256 .f32) (harg20 : arg20.IsWhole) (arg21 : Memref sig .tc .vmem S128x4096 .f32) (harg21 : arg21.IsWhole) (arg22 : Memref sig .tc .vmem S128x4096 .f32) (harg22 : arg22.IsWhole)
  (x3 : Bf (F := F) c arg3) (x4 : Bf (F := F) c arg4) (x5 : Bf (F := F) c arg5) (x6 : Bf (F := F) c arg6)
  (x7 : Bf (F := F) c arg7) (x8 : Bf (F := F) c arg8) (x9 : Bf (F := F) c arg9) (x10 : Bf (F := F) c arg10)

/-- The operand blocks as the eight staging buffers hold them. -/
def inOf : In F := ⟨arg3.view.read (Elt F) x3, arg4.view.read (Elt F) x4, arg5.view.read (Elt F) x5, arg6.view.read (Elt F) x6,
  arg7.view.read (Elt F) x7, arg8.view.read (Elt F) x8, arg9.view.read (Elt F) x9, arg10.view.read (Elt F) x10⟩

local notation "I₀" => inOf c arg3 arg4 arg5 arg6 arg7 arg8 arg9 arg10 x3 x4 x5 x6 x7 x8 x9 x10

/-- What holds before head `n`: the operands as found, the first `n` rows of every result stored, the gradients with `n` heads added. -/
abbrev headInv (K W : ℕ → S128x256.Idx → Elt F .f32) (n : ℕ) : sProp 𝕄 :=
  iprop(pt c arg3 x3 ∗ pt c arg4 x4 ∗ pt c arg5 x5 ∗ pt c arg6 x6 ∗ pt c arg7 x7 ∗ pt c arg8 x8 ∗ pt c arg9 x9 ∗ pt c arg10 x10
    ∗ hp c arg11 (fun A => ∀ h < n, row4 A h = p11 I₀ h)
    ∗ hp c arg12 (fun A => ∀ h < n, row4 A h = p12 I₀ h)
    ∗ hp c arg13 (fun A => ∀ h < n, row4 A h = p13 I₀ (i 2).val h)
    ∗ hp c arg14 (fun A => ∀ h < n, row4 A h = p14 I₀ (i 2).val h)
    ∗ hp c arg15 (fun A => ∀ h < n, row4 A h = p15 I₀ (i 2).val h)
    ∗ hp c arg16 (fun A => ∀ h < n, row4 A h = p16 I₀ (i 2).val h)
    ∗ hp c arg17 (fun A => ∀ h < n, head5 A h = p17 I₀ (i 2).val h)
    ∗ (∃ f, pt c arg20 f)
    ∗ hp c arg21 (fun A => ∀ j < 16, cols2 A j = dkA I₀ (i 2).val K n j)
    ∗ hp c arg22 (fun A => ∀ j < 16, cols2 A j = dvA I₀ (i 2).val W n j))

/-- One head. -/
theorem t1_run (K W : ℕ → S128x256.Idx → Elt F .f32) (k1 : Fin k0_t1_loop.trips) (u : Unit) :
    headInv c i arg3 arg4 arg5 arg6 arg7 arg8 arg9 arg10 arg11 arg12 arg13 arg14 arg15 arg16 arg17 arg20 arg21 arg22 x3 x4 x5 x6 x7 x8 x9 x10 K W k1.val
      ⊢ wp frame (wpE (defs₀ (F := F)) 𝒱₀ (c : Thread nD τ) none) Set.univ (k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 2).val) k1 u)
        (fun _ => headInv c i arg3 arg4 arg5 arg6 arg7 arg8 arg9 arg10 arg11 arg12 arg13 arg14 arg15 arg16 arg17 arg20 arg21 arg22 x3 x4 x5 x6 x7 x8 x9 x10 K W (k1.val + 1)) := by
  iintro ⟨H3, H4, H5, H6, H7, H8, H9, H10, ⟨%f11, H11, %h11⟩, ⟨%f12, H12, %h12⟩, ⟨%f13, H13, %h13⟩, ⟨%f14, H14, %h14⟩, ⟨%f15, H15, %h15⟩,
    ⟨%f16, H16, %h16⟩, ⟨%f17, H17, %h17⟩, H20, H21, H22⟩
  unfold k0_t1_body
  dsimp only
  rw [wp_bind]
  iapply (wp_wand_r Idealize.ShloMosaic.frame (wpE (defs₀ (F := F)) 𝒱₀ (c : Thread nD τ) none) Set.univ)
  isplitl [H3 H4 H5 H6 H11]
  · iapply (part3_run c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x3 x4 x5 x6 k1 f11 (fun h => p11 I₀ h) h11 rfl)
    isplitl [H3]; · iexact H3
    isplitl [H4]; · iexact H4
    isplitl [H5]; · iexact H5
    isplitl [H6]; · iexact H6
    iexact H11
  iintro %r ⟨%hr, H3, H4, H5, H6, H11⟩
  obtain ⟨v8, v27, v30, v42⟩ := r
  obtain ⟨rfl, h2⟩ := PSigma.mk.inj hr
  obtain ⟨rfl, h3⟩ := PSigma.mk.inj (eq_of_heq h2)
  have h3 := eq_of_heq h3
  subst h3
  dsimp only
  rw [wp_bind]
  iapply (wp_wand_r Idealize.ShloMosaic.frame (wpE (defs₀ (F := F)) 𝒱₀ (c : Thread nD τ) none) Set.univ)
  isplitl [H7 H12 H20]
  · iapply (part4_run c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x7 k1 v8 (qH I₀ k1.val) (k0_pay20 (head5 (arg4.view.read (Elt F) x4) k1.val)) f12 (fun h => p12 I₀ h) h12 rfl)
    isplitl [H7]; · iexact H7
    isplitl [H12]; · iexact H12
    iexact H20
  iintro %r ⟨%hr, H7, H12, H20⟩
  subst hr
  dsimp only
  rw [wp_bind]
  iapply (wp_wand_r Idealize.ShloMosaic.frame (wpE (defs₀ (F := F)) 𝒱₀ (c : Thread nD τ) none) Set.univ)
  isplitl [H10 H13 H17 H20]
  · iapply (part5_run c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x10 k1 v8 (mxH I₀ (i 2).val k1.val) (mnH I₀ (i 2).val k1.val) (zH I₀ (i 2).val k1.val) (sH I₀ (i 2).val k1.val) f13 f17
      (fun h => p13 I₀ (i 2).val h) h13 rfl (fun h => p17 I₀ (i 2).val h) h17 rfl)
    isplitl [H10]; · iexact H10
    isplitl [H13]; · iexact H13
    isplitl [H17]; · iexact H17
    iexact H20
  iintro %r ⟨%hr, H10, H13, H17, H20⟩
  subst hr
  dsimp only
  rw [wp_bind]
  iapply (wp_wand_r Idealize.ShloMosaic.frame (wpE (defs₀ (F := F)) 𝒱₀ (c : Thread nD τ) none) Set.univ)
  isplitl [H8 H9 H14 H15 H16 H20 H21 H22]
  · iapply (part6_run c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x8 x9 k1 v8 (qH I₀ k1.val) (doH I₀ k1.val) (ivH I₀ (i 2).val k1.val) (outH I₀ (i 2).val k1.val) (eH I₀ (i 2).val k1.val)
      (dkA I₀ (i 2).val K k1.val) (dvA I₀ (i 2).val W k1.val) f14 f15 f16
      (fun h => p14 I₀ (i 2).val h) (fun h => p15 I₀ (i 2).val h) (fun h => p16 I₀ (i 2).val h) h14 rfl h15 rfl h16 rfl)
    isplitl [H8]; · iexact H8
    isplitl [H9]; · iexact H9
    isplitl [H14]; · iexact H14
    isplitl [H15]; · iexact H15
    isplitl [H16]; · iexact H16
    isplitl [H20]; · iexact H20
    isplitl [H21]; · iexact H21
    iexact H22
  iintro %r ⟨H8, H9, H14, H15, H16, H20, H21, H22⟩
  sl_step
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H20]; · iexact H20
  isplitl [H21]; · iexact H21
  iexact H22

/-- What the body leaves at a grid point: the operands as found, the results' blocks whole, the gradients with five heads added, and at
    the last query block the gradients' column maxima. -/
abbrev bodyPost (K W : ℕ → S128x256.Idx → Elt F .f32) (x18 : Bf (F := F) c arg18) (x19 : Bf (F := F) c arg19) : sProp 𝕄 :=
  iprop(pt c arg3 x3 ∗ pt c arg4 x4 ∗ pt c arg5 x5 ∗ pt c arg6 x6 ∗ pt c arg7 x7 ∗ pt c arg8 x8 ∗ pt c arg9 x9 ∗ pt c arg10 x10
    ∗ hp c arg11 (fun A => A = of_row4 (p11 I₀))
    ∗ hp c arg12 (fun A => A = of_row4 (p12 I₀))
    ∗ hp c arg13 (fun A => A = of_row4 (p13 I₀ (i 2).val))
    ∗ hp c arg14 (fun A => A = of_row4 (p14 I₀ (i 2).val))
    ∗ hp c arg15 (fun A => A = of_row4 (p15 I₀ (i 2).val))
    ∗ hp c arg16 (fun A => A = of_row4 (p16 I₀ (i 2).val))
    ∗ hp c arg17 (fun A => A = of_head5 (p17 I₀ (i 2).val))
    ∗ hp c arg18 (fun A => A = if (i 2).val = 15 then k0_pay3 (of_cols2 (dkA I₀ (i 2).val K 5)) else arg18.view.read (Elt F) x18)
    ∗ hp c arg19 (fun A => A = if (i 2).val = 15 then k0_pay4 (of_cols2 (dvA I₀ (i 2).val W 5)) else arg19.view.read (Elt F) x19)
    ∗ (∃ f, pt c arg20 f)
    ∗ hp c arg21 (fun A => ∀ j < 16, cols2 A j = dkA I₀ (i 2).val K 5 j)
    ∗ hp c arg22 (fun A => ∀ j < 16, cols2 A j = dvA I₀ (i 2).val W 5 j))

theorem first_iff : ∀ k < 16, (Scalar.cmpi .ne (Scalar.extui (Scalar.cmpi .eq (BitVec.ofNat 32 k) 0#32) : BitVec 32) 0#32 = 1#1) ↔ k = 0 := by decide +kernel
theorem last_aux : ∀ k < 16, (Scalar.cmpi .ne (Scalar.extui (Scalar.cmpi .eq (BitVec.ofNat 32 k) 15#32) : BitVec 32) 0#32 = 1#1) ↔ k = 15 := by decide +kernel
theorem last_iff : k0_cond2 i = 1#1 ↔ (i 2).val = 15 := last_aux _ (i2_lt i)

/-- The five heads, then the last query block's two stores. -/
theorem tail_run (K W : ℕ → S128x256.Idx → Elt F .f32) (x11 : Bf (F := F) c arg11) (x12 : Bf (F := F) c arg12) (x13 : Bf (F := F) c arg13)
    (x14 : Bf (F := F) c arg14) (x15 : Bf (F := F) c arg15) (x16 : Bf (F := F) c arg16) (x17 : Bf (F := F) c arg17)
    (x18 : Bf (F := F) c arg18) (x19 : Bf (F := F) c arg19) (x20 : Bf (F := F) c arg20) (x21 : Bf (F := F) c arg21) (x22 : Bf (F := F) c arg22)
    (hK : (i 2).val = 0 → ∀ j < 16, K j = K0 j) (hW : (i 2).val = 0 → ∀ j < 16, W j = W0 j)
    (h21 : (i 2).val ≠ 0 → ∀ j < 16, cols2 (arg21.view.read (Elt F) x21) j = K j)
    (h22 : (i 2).val ≠ 0 → ∀ j < 16, cols2 (arg22.view.read (Elt F) x22) j = W j) :
    iprop(pt c arg3 x3 ∗ pt c arg4 x4 ∗ pt c arg5 x5 ∗ pt c arg6 x6 ∗ pt c arg7 x7 ∗ pt c arg8 x8 ∗ pt c arg9 x9 ∗ pt c arg10 x10
      ∗ pt c arg11 x11 ∗ pt c arg12 x12 ∗ pt c arg13 x13 ∗ pt c arg14 x14 ∗ pt c arg15 x15 ∗ pt c arg16 x16 ∗ pt c arg17 x17
      ∗ pt c arg18 x18 ∗ pt c arg19 x19 ∗ pt c arg20 x20 ∗ pt c arg21 x21 ∗ pt c arg22 x22)
      ⊢ wp frame (wpE (defs₀ (F := F)) 𝒱₀ (c : Thread nD τ) none) Set.univ (cc0_attention i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
        (fun _ => bodyPost c i arg3 arg4 arg5 arg6 arg7 arg8 arg9 arg10 arg11 arg12 arg13 arg14 arg15 arg16 arg17 arg18 arg19 arg20 arg21 arg22 x3 x4 x5 x6 x7 x8 x9 x10 K W x18 x19) := by
  iintro ⟨H3, H4, H5, H6, H7, H8, H9, H10, H11, H12, H13, H14, H15, H16, H17, H18, H19, H20, H21, H22⟩
  rw [cc0_attention_eq_skeleton]
  unfold cc0_attention_skel
  have hi := i2_lt i
  by_cases hf : (i 2).val = 0
  case pos =>
    have hc := (first_iff _ hi).mpr hf
    sl_exec
    sl_for (fun k (_ : Unit) => headInv c i arg3 arg4 arg5 arg6 arg7 arg8 arg9 arg10 arg11 arg12 arg13 arg14 arg15 arg16 arg17 arg20 arg21 arg22 x3 x4 x5 x6 x7 x8 x9 x10 K W k) $$ [H3 H4 H5 H6 H7 H8 H9 H10 H11 H12 H13 H14 H15 H16 H17 H20 H21 H22]
    case region => intro k acc; exact t1_run c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x3 x4 x5 x6 x7 x8 x9 x10 K W k acc
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists x11; isplitl [H11]; (· iexact H11); ipureintro; intro h hh; exact absurd hh (Nat.not_lt_zero _)
      isplitl [H12]; · iexists x12; isplitl [H12]; (· iexact H12); ipureintro; intro h hh; exact absurd hh (Nat.not_lt_zero _)
      isplitl [H13]; · iexists x13; isplitl [H13]; (· iexact H13); ipureintro; intro h hh; exact absurd hh (Nat.not_lt_zero _)
      isplitl [H14]; · iexists x14; isplitl [H14]; (· iexact H14); ipureintro; intro h hh; exact absurd hh (Nat.not_lt_zero _)
      isplitl [H15]; · iexists x15; isplitl [H15]; (· iexact H15); ipureintro; intro h hh; exact absurd hh (Nat.not_lt_zero _)
      isplitl [H16]; · iexists x16; isplitl [H16]; (· iexact H16); ipureintro; intro h hh; exact absurd hh (Nat.not_lt_zero _)
      isplitl [H17]; · iexists x17; isplitl [H17]; (· iexact H17); ipureintro; intro h hh; exact absurd hh (Nat.not_lt_zero _)
      isplitl [H20]; · iexists x20; iexact H20
      isplitl [H21]
      · iexists _; isplitl [H21]; · iexact H21
        ipureintro; intro j hj
        exact (congrArg (fun A => cols2 A j) (View.read_writes_full arg21.view _ inb_S128x4096_S128x4096_0_0 _ [])).trans (hK hf j hj).symm
      · iexists _; isplitl [H22]; · iexact H22
        ipureintro; intro j hj
        exact (congrArg (fun A => cols2 A j) (View.read_writes_full arg22.view _ inb_S128x4096_S128x4096_0_0 _ [])).trans (hW hf j hj).symm
    iintro %acc ⟨H3, H4, H5, H6, H7, H8, H9, H10, ⟨%f11, H11, %h11⟩, ⟨%f12, H12, %h12⟩, ⟨%f13, H13, %h13⟩, ⟨%f14, H14, %h14⟩, ⟨%f15, H15, %h15⟩,
      ⟨%f16, H16, %h16⟩, ⟨%f17, H17, %h17⟩, H20, ⟨%f21, H21, %h21'⟩, ⟨%f22, H22, %h22'⟩⟩
    rw [show Scf.trips k0_t1_loop.lb k0_t1_loop.ub k0_t1_loop.st = 5 from trips1] at h11 h12 h13 h14 h15 h16 h17 h21' h22'
    have e21 := eq_of_cols2 h21'
    have e22 := eq_of_cols2 h22'
    by_cases hl : (i 2).val = 15
    case pos =>
      have hc2 := (last_iff i).mpr hl
      sl_exec
      sl_step
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists f11; isplitl [H11]; (· iexact H11); ipureintro; exact eq_of_row4 h11
      isplitl [H12]; · iexists f12; isplitl [H12]; (· iexact H12); ipureintro; exact eq_of_row4 h12
      isplitl [H13]; · iexists f13; isplitl [H13]; (· iexact H13); ipureintro; exact eq_of_row4 h13
      isplitl [H14]; · iexists f14; isplitl [H14]; (· iexact H14); ipureintro; exact eq_of_row4 h14
      isplitl [H15]; · iexists f15; isplitl [H15]; (· iexact H15); ipureintro; exact eq_of_row4 h15
      isplitl [H16]; · iexists f16; isplitl [H16]; (· iexact H16); ipureintro; exact eq_of_row4 h16
      isplitl [H17]; · iexists f17; isplitl [H17]; (· iexact H17); ipureintro; exact eq_of_head5 h17
      isplitl [H18]
      · iexists _; isplitl [H18]; · iexact H18
        ipureintro
        rw [if_pos hl, View.read_writes_full, View.readAt_full arg21.view f21, e21]
      isplitl [H19]
      · iexists _; isplitl [H19]; · iexact H19
        ipureintro
        rw [if_pos hl, View.read_writes_full, View.readAt_full arg22.view f22, e22]
      isplitl [H20]; · iexact H20
      isplitl [H21]; · iexists f21; isplitl [H21]; (· iexact H21); ipureintro; exact h21'
      iexists f22; isplitl [H22]; (· iexact H22); ipureintro; exact h22'
    case neg =>
      have hc2 := mt (last_iff i).mp hl
      sl_exec
      sl_step
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists f11; isplitl [H11]; (· iexact H11); ipureintro; exact eq_of_row4 h11
      isplitl [H12]; · iexists f12; isplitl [H12]; (· iexact H12); ipureintro; exact eq_of_row4 h12
      isplitl [H13]; · iexists f13; isplitl [H13]; (· iexact H13); ipureintro; exact eq_of_row4 h13
      isplitl [H14]; · iexists f14; isplitl [H14]; (· iexact H14); ipureintro; exact eq_of_row4 h14
      isplitl [H15]; · iexists f15; isplitl [H15]; (· iexact H15); ipureintro; exact eq_of_row4 h15
      isplitl [H16]; · iexists f16; isplitl [H16]; (· iexact H16); ipureintro; exact eq_of_row4 h16
      isplitl [H17]; · iexists f17; isplitl [H17]; (· iexact H17); ipureintro; exact eq_of_head5 h17
      isplitl [H18]
      · iexists x18; isplitl [H18]; · iexact H18
        ipureintro; rw [if_neg hl]
      isplitl [H19]
      · iexists x19; isplitl [H19]; · iexact H19
        ipureintro; rw [if_neg hl]
      isplitl [H20]; · iexact H20
      isplitl [H21]; · iexists f21; isplitl [H21]; (· iexact H21); ipureintro; exact h21'
      iexists f22; isplitl [H22]; (· iexact H22); ipureintro; exact h22'
  case neg =>
    have hc := mt (first_iff _ hi).mp hf
    sl_exec
    sl_for (fun k (_ : Unit) => headInv c i arg3 arg4 arg5 arg6 arg7 arg8 arg9 arg10 arg11 arg12 arg13 arg14 arg15 arg16 arg17 arg20 arg21 arg22 x3 x4 x5 x6 x7 x8 x9 x10 K W k) $$ [H3 H4 H5 H6 H7 H8 H9 H10 H11 H12 H13 H14 H15 H16 H17 H20 H21 H22]
    case region => intro k acc; exact t1_run c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x3 x4 x5 x6 x7 x8 x9 x10 K W k acc
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists x11; isplitl [H11]; (· iexact H11); ipureintro; intro h hh; exact absurd hh (Nat.not_lt_zero _)
      isplitl [H12]; · iexists x12; isplitl [H12]; (· iexact H12); ipureintro; intro h hh; exact absurd hh (Nat.not_lt_zero _)
      isplitl [H13]; · iexists x13; isplitl [H13]; (· iexact H13); ipureintro; intro h hh; exact absurd hh (Nat.not_lt_zero _)
      isplitl [H14]; · iexists x14; isplitl [H14]; (· iexact H14); ipureintro; intro h hh; exact absurd hh (Nat.not_lt_zero _)
      isplitl [H15]; · iexists x15; isplitl [H15]; (· iexact H15); ipureintro; intro h hh; exact absurd hh (Nat.not_lt_zero _)
      isplitl [H16]; · iexists x16; isplitl [H16]; (· iexact H16); ipureintro; intro h hh; exact absurd hh (Nat.not_lt_zero _)
      isplitl [H17]; · iexists x17; isplitl [H17]; (· iexact H17); ipureintro; intro h hh; exact absurd hh (Nat.not_lt_zero _)
      isplitl [H20]; · iexists x20; iexact H20
      isplitl [H21]
      · iexists x21; isplitl [H21]; · iexact H21
        ipureintro; exact h21 hf
      · iexists x22; isplitl [H22]; · iexact H22
        ipureintro; exact h22 hf
    iintro %acc ⟨H3, H4, H5, H6, H7, H8, H9, H10, ⟨%f11, H11, %h11⟩, ⟨%f12, H12, %h12⟩, ⟨%f13, H13, %h13⟩, ⟨%f14, H14, %h14⟩, ⟨%f15, H15, %h15⟩,
      ⟨%f16, H16, %h16⟩, ⟨%f17, H17, %h17⟩, H20, ⟨%f21, H21, %h21'⟩, ⟨%f22, H22, %h22'⟩⟩
    rw [show Scf.trips k0_t1_loop.lb k0_t1_loop.ub k0_t1_loop.st = 5 from trips1] at h11 h12 h13 h14 h15 h16 h17 h21' h22'
    have e21 := eq_of_cols2 h21'
    have e22 := eq_of_cols2 h22'
    by_cases hl : (i 2).val = 15
    case pos =>
      have hc2 := (last_iff i).mpr hl
      sl_exec
      sl_step
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists f11; isplitl [H11]; (· iexact H11); ipureintro; exact eq_of_row4 h11
      isplitl [H12]; · iexists f12; isplitl [H12]; (· iexact H12); ipureintro; exact eq_of_row4 h12
      isplitl [H13]; · iexists f13; isplitl [H13]; (· iexact H13); ipureintro; exact eq_of_row4 h13
      isplitl [H14]; · iexists f14; isplitl [H14]; (· iexact H14); ipureintro; exact eq_of_row4 h14
      isplitl [H15]; · iexists f15; isplitl [H15]; (· iexact H15); ipureintro; exact eq_of_row4 h15
      isplitl [H16]; · iexists f16; isplitl [H16]; (· iexact H16); ipureintro; exact eq_of_row4 h16
      isplitl [H17]; · iexists f17; isplitl [H17]; (· iexact H17); ipureintro; exact eq_of_head5 h17
      isplitl [H18]
      · iexists _; isplitl [H18]; · iexact H18
        ipureintro
        rw [if_pos hl, View.read_writes_full, View.readAt_full arg21.view f21, e21]
      isplitl [H19]
      · iexists _; isplitl [H19]; · iexact H19
        ipureintro
        rw [if_pos hl, View.read_writes_full, View.readAt_full arg22.view f22, e22]
      isplitl [H20]; · iexact H20
      isplitl [H21]; · iexists f21; isplitl [H21]; (· iexact H21); ipureintro; exact h21'
      iexists f22; isplitl [H22]; (· iexact H22); ipureintro; exact h22'
    case neg =>
      have hc2 := mt (last_iff i).mp hl
      sl_exec
      sl_step
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists f11; isplitl [H11]; (· iexact H11); ipureintro; exact eq_of_row4 h11
      isplitl [H12]; · iexists f12; isplitl [H12]; (· iexact H12); ipureintro; exact eq_of_row4 h12
      isplitl [H13]; · iexists f13; isplitl [H13]; (· iexact H13); ipureintro; exact eq_of_row4 h13
      isplitl [H14]; · iexists f14; isplitl [H14]; (· iexact H14); ipureintro; exact eq_of_row4 h14
      isplitl [H15]; · iexists f15; isplitl [H15]; (· iexact H15); ipureintro; exact eq_of_row4 h15
      isplitl [H16]; · iexists f16; isplitl [H16]; (· iexact H16); ipureintro; exact eq_of_row4 h16
      isplitl [H17]; · iexists f17; isplitl [H17]; (· iexact H17); ipureintro; exact eq_of_head5 h17
      isplitl [H18]
      · iexists x18; isplitl [H18]; · iexact H18
        ipureintro; rw [if_neg hl]
      isplitl [H19]
      · iexists x19; isplitl [H19]; · iexact H19
        ipureintro; rw [if_neg hl]
      isplitl [H20]; · iexact H20
      isplitl [H21]; · iexists f21; isplitl [H21]; (· iexact H21); ipureintro; exact h21'
      iexists f22; isplitl [H22]; (· iexact H22); ipureintro; exact h22'

end parts

end Cert.Kernel.Body

end
-- ==== Proof.KnRun.lean ====
/-
  The attention call's grid: what is carried from point to point in the gradient accumulators, the body's step at every point, and the
  run of the whole program.
-/
module

public import proofs.«01_k».proof.Proof.KnHead
public import proofs.«01_k».proof.Proof.Gen.Kernel.Frame
public import Idealize.ShloMosaic.Lib.Pipeline.Frame

@[expose] public section

set_option maxRecDepth 16384
set_option maxHeartbeats 4000000

noncomputable section

namespace Cert.Kernel.Body

open Cert.Kernel Cert.Kernel.Gen
open Idealize.ShloMosaic.Pipeline (Dat BodyObligation)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Attn

variable {F : FTy → Type} [FloatOps F]

local notation "𝕄" => MT nD τ sig Unit (Elt F) ℕ (UR sig nD τ) ℕ

/-- Ownership of a whole buffer at what it reads, as a points-to. -/
theorem own_pt (c : Dev nD) {sp : Space} {s : Shape} {e : EltTy} (M : Memref sig .tc sp s e) (h : M.IsWhole) (X : s.Idx → Elt F e) :
    (owns (c : Thread nD τ) M fullShare X : sProp 𝕄) ⊢ iprop(∃ f, ⌜M.view.read (Elt F) f = X⌝ ∗ (M.view.loc (c : Thread nD τ) ↦{fullShare} f)) := by
  obtain ⟨b, rfl, rfl, rfl, hm⟩ := h
  cases hm
  rw [owns_whole_eq]
  simp only [Memref.view_whole, View.read_whole]
  exact .rfl

/-- A points-to of a whole buffer, as ownership at what it reads. -/
theorem pt_own (c : Dev nD) {sp : Space} {s : Shape} {e : EltTy} (M : Memref sig .tc sp s e) (h : M.IsWhole) (X : s.Idx → Elt F e)
    (f : M.view.ty.Contents (Elt F)) (hf : M.view.read (Elt F) f = X) :
    (M.view.loc (c : Thread nD τ) ↦{fullShare} f : sProp 𝕄) ⊢ owns (c : Thread nD τ) M fullShare X := by
  obtain ⟨b, rfl, rfl, rfl, hm⟩ := h
  cases hm
  rw [owns_whole_eq]
  iintro H
  iexists f
  isplitr
  · ipureintro; simpa only [Memref.view_whole, View.read_whole] using hf
  iexact H

/-- The body at a grid point, from the operands' blocks and what the accumulators hold to the results' blocks and the accumulators
    after the point's five heads. -/
theorem body_own (c : Dev nD) (i : grid0.Coords) (arg3 : Memref sig .tc .vmem S1x1x5x128x256 .bf16) (harg3 : arg3.IsWhole) (arg4 : Memref sig .tc .vmem S1x1x5x128x256 .bf16) (harg4 : arg4.IsWhole) (arg5 : Memref sig .tc .vmem S1x64x256 .f32) (harg5 : arg5.IsWhole) (arg6 : Memref sig .tc .vmem S1x64x256 .f32) (harg6 : arg6.IsWhole) (arg7 : Memref sig .tc .vmem S1x1x4096x128 .bf16) (harg7 : arg7.IsWhole) (arg8 : Memref sig .tc .vmem S1x1x128x4096 .bf16) (harg8 : arg8.IsWhole) (arg9 : Memref sig .tc .vmem S1x1x4096x128 .bf16) (harg9 : arg9.IsWhole) (arg10 : Memref sig .tc .vmem S1x1x128x4096 .bf16) (harg10 : arg10.IsWhole) (arg11 : Memref sig .tc .vmem S1x1x5x256 .f32) (harg11 : arg11.IsWhole) (arg12 : Memref sig .tc .vmem S1x1x5x256 .f32) (harg12 : arg12.IsWhole) (arg13 : Memref sig .tc .vmem S1x1x5x256 .f32) (harg13 : arg13.IsWhole) (arg14 : Memref sig .tc .vmem S1x1x5x256 .f32) (harg14 : arg14.IsWhole) (arg15 : Memref sig .tc .vmem S1x1x5x256 .f32) (harg15 : arg15.IsWhole) (arg16 : Memref sig .tc .vmem S1x1x5x256 .f32) (harg16 : arg16.IsWhole) (arg17 : Memref sig .tc .vmem S1x1x5x128x256 .f32) (harg17 : arg17.IsWhole) (arg18 : Memref sig .tc .vmem S1x1x1x4096 .f32) (harg18 : arg18.IsWhole) (arg19 : Memref sig .tc .vmem S1x1x1x4096 .f32) (harg19 : arg19.IsWhole) (arg20 : Memref sig .tc .vmem S4096x256 .f32) (harg20 : arg20.IsWhole) (arg21 : Memref sig .tc .vmem S128x4096 .f32) (harg21 : arg21.IsWhole) (arg22 : Memref sig .tc .vmem S128x4096 .f32) (harg22 : arg22.IsWhole)
    (I : In F) (K W : ℕ → S128x256.Idx → Elt F .f32) (d18 d19 : S1x1x1x4096.Idx → Elt F .f32)
    (hK : (i 2).val = 0 → ∀ j < 16, K j = K0 j) (hW : (i 2).val = 0 → ∀ j < 16, W j = W0 j) :
    (iprop(owns (c : Thread nD τ) arg3 fullShare I.q ∗ owns (c : Thread nD τ) arg4 fullShare I.d ∗ owns (c : Thread nD τ) arg5 fullShare I.cs ∗ owns (c : Thread nD τ) arg6 fullShare I.sn ∗ owns (c : Thread nD τ) arg7 fullShare I.kr ∗ owns (c : Thread nD τ) arg8 fullShare I.kt ∗ owns (c : Thread nD τ) arg9 fullShare I.vr ∗ owns (c : Thread nD τ) arg10 fullShare I.vt ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare d18 ∗ owns (c : Thread nD τ) arg19 fullShare d19 ∗ (∃ f, pt c arg20 f) ∗ hp c arg21 (fun A => (i 2).val ≠ 0 → ∀ j < 16, cols2 A j = K j) ∗ hp c arg22 (fun A => (i 2).val ≠ 0 → ∀ j < 16, cols2 A j = W j)) : sProp 𝕄)
      ⊢ wp frame (wpE (defs₀ (F := F)) 𝒱₀ (c : Thread nD τ) none) Set.univ (cc0_attention i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
        (fun _ => iprop(owns (c : Thread nD τ) arg3 fullShare I.q ∗ owns (c : Thread nD τ) arg4 fullShare I.d ∗ owns (c : Thread nD τ) arg5 fullShare I.cs ∗ owns (c : Thread nD τ) arg6 fullShare I.sn ∗ owns (c : Thread nD τ) arg7 fullShare I.kr ∗ owns (c : Thread nD τ) arg8 fullShare I.kt ∗ owns (c : Thread nD τ) arg9 fullShare I.vr ∗ owns (c : Thread nD τ) arg10 fullShare I.vt ∗ owns (c : Thread nD τ) arg11 fullShare (of_row4 (p11 I)) ∗ owns (c : Thread nD τ) arg12 fullShare (of_row4 (p12 I)) ∗ owns (c : Thread nD τ) arg13 fullShare (of_row4 (p13 I (i 2).val)) ∗ owns (c : Thread nD τ) arg14 fullShare (of_row4 (p14 I (i 2).val)) ∗ owns (c : Thread nD τ) arg15 fullShare (of_row4 (p15 I (i 2).val)) ∗ owns (c : Thread nD τ) arg16 fullShare (of_row4 (p16 I (i 2).val)) ∗ owns (c : Thread nD τ) arg17 fullShare (of_head5 (p17 I (i 2).val)) ∗ owns (c : Thread nD τ) arg18 fullShare (if (i 2).val = 15 then k0_pay3 (of_cols2 (dkA I (i 2).val K 5)) else d18) ∗ owns (c : Thread nD τ) arg19 fullShare (if (i 2).val = 15 then k0_pay4 (of_cols2 (dvA I (i 2).val W 5)) else d19) ∗ (∃ f, pt c arg20 f) ∗ hp c arg21 (fun A => ∀ j < 16, cols2 A j = dkA I (i 2).val K 5 j) ∗ hp c arg22 (fun A => ∀ j < 16, cols2 A j = dvA I (i 2).val W 5 j))) := by
  obtain ⟨q, d, cs, sn, kr, kt, vr, vt⟩ := I
  dsimp only
  iintro ⟨H3, H4, H5, H6, H7, H8, H9, H10, ⟨%d11, H11⟩, ⟨%d12, H12⟩, ⟨%d13, H13⟩, ⟨%d14, H14⟩, ⟨%d15, H15⟩, ⟨%d16, H16⟩, ⟨%d17, H17⟩, H18, H19, ⟨%x20, H20⟩, ⟨%x21, H21, %h21⟩, ⟨%x22, H22, %h22⟩⟩
  ihave H3' := own_pt c arg3 harg3 _ $$ H3
  icases H3' with ⟨%x3, %hx3, H3⟩
  ihave H4' := own_pt c arg4 harg4 _ $$ H4
  icases H4' with ⟨%x4, %hx4, H4⟩
  ihave H5' := own_pt c arg5 harg5 _ $$ H5
  icases H5' with ⟨%x5, %hx5, H5⟩
  ihave H6' := own_pt c arg6 harg6 _ $$ H6
  icases H6' with ⟨%x6, %hx6, H6⟩
  ihave H7' := own_pt c arg7 harg7 _ $$ H7
  icases H7' with ⟨%x7, %hx7, H7⟩
  ihave H8' := own_pt c arg8 harg8 _ $$ H8
  icases H8' with ⟨%x8, %hx8, H8⟩
  ihave H9' := own_pt c arg9 harg9 _ $$ H9
  icases H9' with ⟨%x9, %hx9, H9⟩
  ihave H10' := own_pt c arg10 harg10 _ $$ H10
  icases H10' with ⟨%x10, %hx10, H10⟩
  ihave H11' := own_pt c arg11 harg11 _ $$ H11
  icases H11' with ⟨%x11, %hx11, H11⟩
  ihave H12' := own_pt c arg12 harg12 _ $$ H12
  icases H12' with ⟨%x12, %hx12, H12⟩
  ihave H13' := own_pt c arg13 harg13 _ $$ H13
  icases H13' with ⟨%x13, %hx13, H13⟩
  ihave H14' := own_pt c arg14 harg14 _ $$ H14
  icases H14' with ⟨%x14, %hx14, H14⟩
  ihave H15' := own_pt c arg15 harg15 _ $$ H15
  icases H15' with ⟨%x15, %hx15, H15⟩
  ihave H16' := own_pt c arg16 harg16 _ $$ H16
  icases H16' with ⟨%x16, %hx16, H16⟩
  ihave H17' := own_pt c arg17 harg17 _ $$ H17
  icases H17' with ⟨%x17, %hx17, H17⟩
  ihave H18' := own_pt c arg18 harg18 _ $$ H18
  icases H18' with ⟨%x18, %hx18, H18⟩
  ihave H19' := own_pt c arg19 harg19 _ $$ H19
  icases H19' with ⟨%x19, %hx19, H19⟩
  subst hx3 hx4 hx5 hx6 hx7 hx8 hx9 hx10
  iapply (wp_wand_r Idealize.ShloMosaic.frame (wpE (defs₀ (F := F)) 𝒱₀ (c : Thread nD τ) none) Set.univ)
  isplitl [H3 H4 H5 H6 H7 H8 H9 H10 H11 H12 H13 H14 H15 H16 H17 H18 H19 H20 H21 H22]
  · iapply (tail_run c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x3 x4 x5 x6 x7 x8 x9 x10 K W x11 x12 x13 x14 x15 x16 x17 x18 x19 x20 x21 x22 hK hW h21 h22)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22
  iintro %r ⟨H3, H4, H5, H6, H7, H8, H9, H10, ⟨%f11, H11, %h11⟩, ⟨%f12, H12, %h12⟩, ⟨%f13, H13, %h13⟩, ⟨%f14, H14, %h14⟩, ⟨%f15, H15, %h15⟩, ⟨%f16, H16, %h16⟩, ⟨%f17, H17, %h17⟩, ⟨%f18, H18, %h18⟩, ⟨%f19, H19, %h19⟩, H20, H21, H22⟩
  isplitl [H3]; · iapply (pt_own c arg3 harg3 _ x3 rfl); iexact H3
  isplitl [H4]; · iapply (pt_own c arg4 harg4 _ x4 rfl); iexact H4
  isplitl [H5]; · iapply (pt_own c arg5 harg5 _ x5 rfl); iexact H5
  isplitl [H6]; · iapply (pt_own c arg6 harg6 _ x6 rfl); iexact H6
  isplitl [H7]; · iapply (pt_own c arg7 harg7 _ x7 rfl); iexact H7
  isplitl [H8]; · iapply (pt_own c arg8 harg8 _ x8 rfl); iexact H8
  isplitl [H9]; · iapply (pt_own c arg9 harg9 _ x9 rfl); iexact H9
  isplitl [H10]; · iapply (pt_own c arg10 harg10 _ x10 rfl); iexact H10
  isplitl [H11]; · iapply (pt_own c arg11 harg11 _ f11 h11); iexact H11
  isplitl [H12]; · iapply (pt_own c arg12 harg12 _ f12 h12); iexact H12
  isplitl [H13]; · iapply (pt_own c arg13 harg13 _ f13 h13); iexact H13
  isplitl [H14]; · iapply (pt_own c arg14 harg14 _ f14 h14); iexact H14
  isplitl [H15]; · iapply (pt_own c arg15 harg15 _ f15 h15); iexact H15
  isplitl [H16]; · iapply (pt_own c arg16 harg16 _ f16 h16); iexact H16
  isplitl [H17]; · iapply (pt_own c arg17 harg17 _ f17 h17); iexact H17
  isplitl [H18]; · iapply (pt_own c arg18 harg18 _ f18 (hx18 ▸ h18)); iexact H18
  isplitl [H19]; · iapply (pt_own c arg19 harg19 _ f19 (hx19 ▸ h19)); iexact H19
  isplitl [H20]; · iexact H20
  isplitl [H21]; · iexact H21
  iexact H22

/-! ## The grid -/

variable (m : (ℓ : Loc nD τ sig) → Buf (Elt F) ℓ) (ρ : Dev nD → PrngReg)

/-- The operand blocks of grid point `t`. -/
def inAt (c : Dev nD) (t : Fin cfg0.N) : In F :=
  ⟨iblk m c 0 t, iblk m c 1 t, iblk m c 2 t, iblk m c 3 t, iblk m c 4 t, iblk m c 5 t, iblk m c 6 t, iblk m c 7 t⟩

/-- The keys' gradient accumulator on entering point `n`, -/
def accK (c : Dev nD) : ℕ → ℕ → S128x256.Idx → Elt F .f32
  | 0 => K0
  | n + 1 => if h : n < cfg0.N then dkA (inAt m c ⟨n, h⟩) (n % 16) (if n % 16 = 0 then K0 else accK c n) 5 else K0
/-- the values', -/
def accV (c : Dev nD) : ℕ → ℕ → S128x256.Idx → Elt F .f32
  | 0 => W0
  | n + 1 => if h : n < cfg0.N then dvA (inAt m c ⟨n, h⟩) (n % 16) (if n % 16 = 0 then W0 else accV c n) 5 else W0

/-- and once the first query block has cleared them. -/
def inK (c : Dev nD) (n : ℕ) : ℕ → S128x256.Idx → Elt F .f32 := if n % 16 = 0 then K0 else accK m c n
/-- The values' gradient accumulator, cleared likewise. -/
def inV (c : Dev nD) (n : ℕ) : ℕ → S128x256.Idx → Elt F .f32 := if n % 16 = 0 then W0 else accV m c n

theorem accK_succ (c : Dev nD) (t : Fin cfg0.N) : accK m c (t.val + 1) = dkA (inAt m c t) (t.val % 16) (inK m c t.val) 5 := by
  rw [accK, dif_pos t.isLt]; rfl
theorem accV_succ (c : Dev nD) (t : Fin cfg0.N) : accV m c (t.val + 1) = dvA (inAt m c t) (t.val % 16) (inV m c t.val) 5 := by
  rw [accV, dif_pos t.isLt]; rfl

/-- The query block of a grid point. -/
theorem coords2 (t : Fin cfg0.N) : (grid0.coords t 2).val = t.val % 16 :=
  (Pipeline.Grid.coords_val t 2 (S := 1) (B := 16) (by decide) rfl).trans (by rw [Nat.div_one])

/-- What the accumulators hold before point `n`: past a first query block, the sums so far. -/
def carried (c : Dev nD) (n : ℕ) : sProp 𝕄 :=
  iprop((∃ f, pt c (Memref.whole cc0_scratch0) f)
    ∗ hp c (Memref.whole cc0_scratch1) (fun A => n % 16 ≠ 0 → ∀ j < 16, cols2 A j = accK m c n j)
    ∗ hp c (Memref.whole cc0_scratch2) (fun A => n % 16 ≠ 0 → ∀ j < 16, cols2 A j = accV m c n j)
    ∗ ∃ r, prngReg c r)

/-- What each window's buffer holds after the body at each point. -/
def left (c : Dev nD) : (w : Fin cfg0.W) → Fin cfg0.N → (cfg0.win w).block.Idx → Elt F (cfg0.win w).elt := fun
  | 0 => fun t => iblk m c 0 t | 1 => fun t => iblk m c 1 t | 2 => fun t => iblk m c 2 t | 3 => fun t => iblk m c 3 t
  | 4 => fun t => iblk m c 4 t | 5 => fun t => iblk m c 5 t | 6 => fun t => iblk m c 6 t | 7 => fun t => iblk m c 7 t
  | 8 => fun t => of_row4 (p11 (inAt m c t)) | 9 => fun t => of_row4 (p12 (inAt m c t))
  | 10 => fun t => of_row4 (p13 (inAt m c t) (t.val % 16)) | 11 => fun t => of_row4 (p14 (inAt m c t) (t.val % 16))
  | 12 => fun t => of_row4 (p15 (inAt m c t) (t.val % 16)) | 13 => fun t => of_row4 (p16 (inAt m c t) (t.val % 16))
  | 14 => fun t => of_head5 (p17 (inAt m c t) (t.val % 16))
  | 15 => fun t => k0_pay3 (of_cols2 (accK m c (t.val + 1)))
  | 16 => fun t => k0_pay4 (of_cols2 (accV m c (t.val + 1)))
  | ⟨_ + 17, h⟩ => absurd h (Nat.not_lt.2 (Nat.le_add_left _ _))

/-- The proof data of the call. -/
def dats : (p : Fin 1) → (c : Dev nD) → Dat τ (Elt F) Unit ℕ (UR sig nD τ) ℕ (cfgs p) c := fun _ c =>
  { A := fun w => V m c (Pipeline.arrRef spec0 w)
    after := left m c
    Φ := fun t => carried m c t.val
    q := fun _ => fullShare
    owed := fun _ => 0 }

theorem before_0 (c : Dev nD) (t : Fin cfg0.N) (d) : (dats m 0 c).before 0 t d = iblk m c 0 t := before0_0_of m (dats m 0 c) rfl (fun _ => rfl) t d
theorem before_1 (c : Dev nD) (t : Fin cfg0.N) (d) : (dats m 0 c).before 1 t d = iblk m c 1 t := before0_1_of m (dats m 0 c) rfl (fun _ => rfl) t d
theorem before_2 (c : Dev nD) (t : Fin cfg0.N) (d) : (dats m 0 c).before 2 t d = iblk m c 2 t := before0_2_of m (dats m 0 c) rfl (fun _ => rfl) t d
theorem before_3 (c : Dev nD) (t : Fin cfg0.N) (d) : (dats m 0 c).before 3 t d = iblk m c 3 t := before0_3_of m (dats m 0 c) rfl (fun _ => rfl) t d
theorem before_4 (c : Dev nD) (t : Fin cfg0.N) (d) : (dats m 0 c).before 4 t d = iblk m c 4 t := before0_4_of m (dats m 0 c) rfl (fun _ => rfl) t d
theorem before_5 (c : Dev nD) (t : Fin cfg0.N) (d) : (dats m 0 c).before 5 t d = iblk m c 5 t := before0_5_of m (dats m 0 c) rfl (fun _ => rfl) t d
theorem before_6 (c : Dev nD) (t : Fin cfg0.N) (d) : (dats m 0 c).before 6 t d = iblk m c 6 t := before0_6_of m (dats m 0 c) rfl (fun _ => rfl) t d
theorem before_7 (c : Dev nD) (t : Fin cfg0.N) (d) : (dats m 0 c).before 7 t d = iblk m c 7 t := before0_7_of m (dats m 0 c) rfl (fun _ => rfl) t d

theorem after_0 (c : Dev nD) (t : Fin cfg0.N) : (dats m 0 c).after 0 t = iblk m c 0 t := by dsimp only [dats, left]
theorem after_1 (c : Dev nD) (t : Fin cfg0.N) : (dats m 0 c).after 1 t = iblk m c 1 t := by dsimp only [dats, left]
theorem after_2 (c : Dev nD) (t : Fin cfg0.N) : (dats m 0 c).after 2 t = iblk m c 2 t := by dsimp only [dats, left]
theorem after_3 (c : Dev nD) (t : Fin cfg0.N) : (dats m 0 c).after 3 t = iblk m c 3 t := by dsimp only [dats, left]
theorem after_4 (c : Dev nD) (t : Fin cfg0.N) : (dats m 0 c).after 4 t = iblk m c 4 t := by dsimp only [dats, left]
theorem after_5 (c : Dev nD) (t : Fin cfg0.N) : (dats m 0 c).after 5 t = iblk m c 5 t := by dsimp only [dats, left]
theorem after_6 (c : Dev nD) (t : Fin cfg0.N) : (dats m 0 c).after 6 t = iblk m c 6 t := by dsimp only [dats, left]
theorem after_7 (c : Dev nD) (t : Fin cfg0.N) : (dats m 0 c).after 7 t = iblk m c 7 t := by dsimp only [dats, left]
theorem after_8 (c : Dev nD) (t : Fin cfg0.N) : (dats m 0 c).after 8 t = of_row4 (p11 (inAt m c t)) := by dsimp only [dats, left]
theorem after_9 (c : Dev nD) (t : Fin cfg0.N) : (dats m 0 c).after 9 t = of_row4 (p12 (inAt m c t)) := by dsimp only [dats, left]
theorem after_10 (c : Dev nD) (t : Fin cfg0.N) : (dats m 0 c).after 10 t = of_row4 (p13 (inAt m c t) (t.val % 16)) := by dsimp only [dats, left]
theorem after_11 (c : Dev nD) (t : Fin cfg0.N) : (dats m 0 c).after 11 t = of_row4 (p14 (inAt m c t) (t.val % 16)) := by dsimp only [dats, left]
theorem after_12 (c : Dev nD) (t : Fin cfg0.N) : (dats m 0 c).after 12 t = of_row4 (p15 (inAt m c t) (t.val % 16)) := by dsimp only [dats, left]
theorem after_13 (c : Dev nD) (t : Fin cfg0.N) : (dats m 0 c).after 13 t = of_row4 (p16 (inAt m c t) (t.val % 16)) := by dsimp only [dats, left]
theorem after_14 (c : Dev nD) (t : Fin cfg0.N) : (dats m 0 c).after 14 t = of_head5 (p17 (inAt m c t) (t.val % 16)) := by dsimp only [dats, left]
theorem after_15 (c : Dev nD) (t : Fin cfg0.N) :
    (dats m 0 c).after 15 t = k0_pay3 (of_cols2 (dkA (inAt m c t) (t.val % 16) (inK m c t.val) 5)) := by
  rw [← accK_succ]; dsimp only [dats, left]
theorem after_16 (c : Dev nD) (t : Fin cfg0.N) :
    (dats m 0 c).after 16 t = k0_pay4 (of_cols2 (dvA (inAt m c t) (t.val % 16) (inV m c t.val) 5)) := by
  rw [← accV_succ]; dsimp only [dats, left]

theorem idle_lt (w : Fin cfg0.W) (h : w.val < 15) (i : grid0.Coords) : cfg0.idle w i = false := by
  obtain ⟨w, hw⟩ := w
  dsimp only at h
  interval_cases w <;> rfl
theorem idle_last (i : grid0.Coords) (h : (i 2).val = 15) : idle0 15 i = false ∧ idle0 16 i = false := by
  have := (last_iff i).mpr h
  constructor <;> (show (!(k0_cond2 i == 1#1)) = false) <;> rw [this] <;> rfl
theorem idle_notLast (i : grid0.Coords) (h : (i 2).val ≠ 15) : idle0 15 i = true ∧ idle0 16 i = true := by
  have := mt (last_iff i).mp h
  constructor <;> (show (!(k0_cond2 i == 1#1)) = true) <;> rw [beq_eq_false_iff_ne.mpr this] <;> rfl

/-- The body takes the carried sums and the operands' blocks to the results' blocks and the next point's sums. -/
theorem body_obligation (c : Dev nD) : BodyObligation (dats m 0 c) (defs₀ (F := F)) 𝒱₀ () Set.univ := fun t => by
  have hc := coords2 t
  rw [bigSep_W0, bigSep_W0]
  dsimp only
  simp only [before_0, before_1, before_2, before_3, before_4, before_5, before_6, before_7, after_0, after_1, after_2, after_3, after_4, after_5,
    after_6, after_7, after_8, after_9, after_10, after_11, after_12, after_13, after_14, after_15, after_16]
  rw [show (dats m 0 c).Φ t.castSucc = carried m c t.val from rfl, show (dats m 0 c).Φ t.succ = carried m c (t.val + 1) from rfl]
  unfold carried
  iintro ⟨⟨H20, ⟨%x21, H21, %h21⟩, ⟨%x22, H22, %h22⟩, HR⟩, HO, ⟨%d0, H0⟩, ⟨%d1, H1⟩, ⟨%d2, H2⟩, ⟨%d3, H3⟩, ⟨%d4, H4⟩, ⟨%d5, H5⟩, ⟨%d6, H6⟩, ⟨%d7, H7⟩,
    ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (wp_wand_r Idealize.ShloMosaic.frame (wpE (defs₀ (F := F)) 𝒱₀ (c : Thread nD τ) none) Set.univ)
  isplitr [HO HR]
  · iapply (body_own c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (Memref.whole cc0_scratch0) (Memref.isWhole_whole _) (Memref.whole cc0_scratch1) (Memref.isWhole_whole _) (Memref.whole cc0_scratch2) (Memref.isWhole_whole _)
      (inAt m c t) (inK m c t.val) (inV m c t.val) ((dats m 0 c).before 15 t d15) ((dats m 0 c).before 16 t d16)
      (fun h _ _ => by rw [hc] at h; unfold inK; rw [if_pos h]) (fun h _ _ => by rw [hc] at h; unfold inV; rw [if_pos h]))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexact H15
    isplitl [H16]; · iexact H16
    isplitl [H20]; · iexact H20
    isplitl [H21]
    · iexists x21; isplitl [H21]; · iexact H21
      ipureintro; intro h j hj; rw [hc] at h; unfold inK; rw [if_neg h]; exact h21 h j hj
    iexists x22; isplitl [H22]; · iexact H22
    ipureintro; intro h j hj; rw [hc] at h; unfold inV; rw [if_neg h]; exact h22 h j hj
  iintro %r ⟨H0, H1, H2, H3, H4, H5, H6, H7, H8, H9, H10, H11, H12, H13, H14, H15, H16, H20, ⟨%f21, H21, %g21⟩, ⟨%f22, H22, %g22⟩⟩
  isplitl [H20 H21 H22 HR]
  · isplitl [H20]; · iexact H20
    isplitl [H21]
    · iexists f21; isplitl [H21]; · iexact H21
      ipureintro; intro _ j hj; rw [accK_succ, g21 j hj, hc]
    isplitl [H22]
    · iexists f22; isplitl [H22]; · iexact H22
      ipureintro; intro _ j hj; rw [accV_succ, g22 j hj, hc]
    iexact HR
  isplitl [HO]; · iexact HO
  rw [hc]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  by_cases hl : t.val % 16 = 15
  · rw [(idle_last _ (hc.trans hl)).1, if_pos hl, if_pos hl]
    dsimp only
    isplitl [H15]
    · iexact H15
    iexact H16
  · rw [(idle_notLast _ (fun h => hl (hc.symm.trans h))).1, if_neg hl, if_neg hl,
      show (win0 15).flush t = false from Bool.eq_false_iff.mpr (mt (flush0_15 t).mp hl),
      show (win0 16).flush t = false from Bool.eq_false_iff.mpr (mt (flush0_16 t).mp hl)]
    dsimp only
    isplitl [H15]; · iexists d15; iexact H15
    iexists d16; iexact H16

theorem hin (c : Dev nD) : Pipeline.ΦA (U := UR sig nD τ) spec0 c ⊢ (dats m 0 c).Φ 0 := by
  rw [show (dats m 0 c).Φ 0 = carried m c 0 from rfl]
  unfold Pipeline.ΦA carried; rw [scopedRest0_eq]
  iintro ⟨⟨H0, ⟨%f1, H1⟩, ⟨%f2, H2⟩⟩, HR⟩
  isplitl [H0]; · iexact H0
  isplitl [H1]; · iexists f1; isplitl [H1]; (· iexact H1); ipureintro; intro h; exact absurd rfl h
  isplitl [H2]; · iexists f2; isplitl [H2]; (· iexact H2); ipureintro; intro h; exact absurd rfl h
  iexact HR

theorem hout (c : Dev nD) : (dats m 0 c).Φ (Fin.last cfg0.N) ⊢ Pipeline.ΦA (U := UR sig nD τ) spec0 c := by
  rw [show (dats m 0 c).Φ (Fin.last cfg0.N) = carried m c cfg0.N from rfl]
  unfold Pipeline.ΦA carried; rw [scopedRest0_eq]
  iintro ⟨H0, ⟨%f1, H1, -⟩, ⟨%f2, H2, -⟩, HR⟩
  isplitr [HR]
  · isplitl [H0]; · iexact H0
    isplitl [H1]; · iexists f1; iexact H1
    iexists f2; iexact H2
  iexact HR

set_option backward.isDefEq.respectTransparency.types false in
/-- The whole program runs to the end; every array then holds what the call's proof data say, and every semaphore counter is zero. -/
theorem run : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ 𝒱₀ m ρ main
    (fun c => (body_obligation m c).loose) (fun c => (dats m 0 c).share_full fun _ => rfl) (fun _ _ => rfl) (V := V m) (hmain := hmain m 𝒱₀) (fun _ _ => rfl)
    (hin m) (hout m)

end Cert.Kernel.Body

end
-- ==== Proof.Spec.lean ====
/-
  Attention and its gradients of one query head against the keys and values it shares, on the extended reals: what each
  quantity is, and the identities that let the same quantities be taken from powers of two of unscaled scores, block by block.
-/
module

public import Idealize.ShloMosaic.PureOps.Ideal
public import Idealize.ShloMosaic.PureOps.Ideal.Laws
public import Idealize.ShloMosaic.Lib.WordCmp

@[expose] public section

noncomputable section

namespace Attn

open Idealize.ShloMosaic

/-! ## Positions, blocks and folds -/

/-- Place `y` of block `j` of a sequence. -/
def pos (j : ℕ) (y : Fin 256) : Fin 4096 := ⟨(j * 256 + y.val) % 4096, Nat.mod_lt _ (by decide)⟩

theorem pos_val {j : ℕ} (hj : j < 16) (y : Fin 256) : (pos j y).val = j * 256 + y.val := by
  have := y.isLt
  show (j * 256 + y.val) % 4096 = _
  omega

/-- Every position is a place of a block. -/
theorem exists_pos (n : Fin 4096) : ∃ j < 16, ∃ y, n = pos j y := by
  have := n.isLt
  refine ⟨n.val / 256, by omega, ⟨n.val % 256, Nat.mod_lt _ (by decide)⟩, Fin.ext ?_⟩
  show n.val = (n.val / 256 * 256 + n.val % 256) % 4096
  omega

theorem forall_pos {P : Fin 4096 → Prop} : (∀ n, P n) ↔ ∀ j < 16, ∀ y, P (pos j y) :=
  ⟨fun h _ _ _ => h _, fun h n => by obtain ⟨j, hj, y, rfl⟩ := exists_pos n; exact h j hj y⟩

/-- A sum over the sequence is the sum over its blocks. -/
theorem sum_blocks (f : Fin 4096 → EReal) : ∑ j ∈ Finset.range 16, ∑ y : Fin 256, f (pos j y) = ∑ n, f n := by
  rw [Finset.sum_range (fun j => ∑ y : Fin 256, f (pos j y)), ← Fintype.sum_prod_type' (fun (j : Fin 16) (y : Fin 256) => f (pos j.val y))]
  refine Fintype.sum_equiv (finProdFinEquiv (m := 16) (n := 256)) _ _ fun p => congrArg f (Fin.ext ?_)
  rw [pos_val p.1.isLt]
  show p.1.val * 256 + p.2.val = p.2.val + 256 * p.1.val
  omega

/-- The last blocks may be left out where the terms vanish. -/
theorem sum_blocks_of_zero (f : Fin 4096 → EReal) {k : ℕ} (hk : k ≤ 16) (h : ∀ n : Fin 4096, k * 256 ≤ n.val → f n = 0) :
    ∑ j ∈ Finset.range k, ∑ y : Fin 256, f (pos j y) = ∑ n, f n := by
  rw [← sum_blocks]
  refine Finset.sum_subset (fun j hj => Finset.mem_range.mpr ((Finset.mem_range.mp hj).trans_le hk)) fun j hj hj' => ?_
  rw [Finset.mem_range] at hj hj'
  refine Finset.sum_eq_zero fun y _ => h _ ?_
  rw [pos_val hj]
  have : k ≤ j := by omega
  have := Nat.mul_le_mul_right 256 this
  omega

/-- Row `8 a + r` of a block of 256. -/
def fld (a : Fin 32) (r : Fin 8) : Fin 256 := ⟨a.val * 8 + r.val, by have := a.isLt; have := r.isLt; omega⟩

theorem sum_fld (f : Fin 256 → EReal) : ∑ r : Fin 8, ∑ a : Fin 32, f (fld a r) = ∑ y, f y := by
  rw [Finset.sum_comm, ← Fintype.sum_prod_type' (fun (a : Fin 32) (r : Fin 8) => f (fld a r))]
  refine Fintype.sum_equiv (finProdFinEquiv (m := 32) (n := 8)) _ _ fun p => congrArg f (Fin.ext ?_)
  show p.1.val * 8 + p.2.val = p.2.val + 8 * p.1.val
  omega

theorem forall_fld {P : Fin 256 → Prop} : (∀ r a, P (fld a r)) ↔ ∀ y, P y :=
  ⟨fun h y => by
    have := h ⟨y.val % 8, Nat.mod_lt _ (by decide)⟩ ⟨y.val / 8, by have := y.isLt; omega⟩
    have e : fld ⟨y.val / 8, by have := y.isLt; omega⟩ ⟨y.val % 8, Nat.mod_lt _ (by decide)⟩ = y := Fin.ext (by show y.val / 8 * 8 + y.val % 8 = y.val; omega)
    rwa [e] at this, fun h _ _ => h _⟩

/-- The greatest of finitely many values. -/
def top {ι : Type} [Fintype ι] (f : ι → EReal) : EReal := Finset.univ.fold max ⊥ f

theorem top_le {ι : Type} [Fintype ι] {f : ι → EReal} {B : EReal} : top f ≤ B ↔ ∀ i, f i ≤ B := by
  simp [top, Finset.fold_max_le]

theorem le_top {ι : Type} [Fintype ι] (f : ι → EReal) (i : ι) : f i ≤ top f := top_le.mp le_rfl i

/-- The magnitude. -/
def mag (x : EReal) : EReal := max x (-x)

theorem mag_nonneg (x : EReal) : 0 ≤ mag x := by
  rcases le_total 0 x with h | h
  · exact le_max_of_le_left h
  · exact le_max_of_le_right (by simpa using EReal.neg_le_neg_iff.mpr h)

theorem mag_zero : mag 0 = 0 := by simp [mag]

/-- The bits of minus infinity denote it. -/
theorem ofBits_bot : Ideal.ofBits .f32 0xFF800000#32 = ⊥ := by simp [Ideal.ofBits, Ideal.ieee]

/-- The scale of the scores: the single nearest `1 / √128`, -/
def κs : ℝ := 11863283 / 134217728

theorem κs_pos : 0 < κs := by norm_num [κs]

/-- as its bits denote it. -/
theorem ofBits_scale : Ideal.ofBits .f32 0x3DB504F3#32 = (κs : EReal) := by
  simp [Ideal.ofBits, Ideal.ieee, κs, -EReal.coe_mul]
  norm_num

/-- A selection by order of two small words. -/
theorem select_sle {α : Type} {a b : ℕ} (ha : a < 4096) (hb : b < 4096) (x y : α) :
    Scalar.select (IntOp.cmpi .sle (BitVec.ofNat 32 a) (BitVec.ofNat 32 b)) x y = if a ≤ b then x else y := by
  rw [WordCmp.cmpi_sle_ofNat (by omega) (by omega), Scalar.select]
  by_cases h : a ≤ b <;> simp [h]

/-! ## Real values -/

/-- A value that is a real. -/
def IsR (x : EReal) : Prop := ∃ r : ℝ, x = r

theorem IsR.add {x y : EReal} : IsR x → IsR y → IsR (x + y) := by rintro ⟨a, rfl⟩ ⟨b, rfl⟩; exact ⟨a + b, by simp⟩
theorem IsR.sub {x y : EReal} : IsR x → IsR y → IsR (x - y) := by rintro ⟨a, rfl⟩ ⟨b, rfl⟩; exact ⟨a - b, by simp⟩
theorem IsR.mul {x y : EReal} : IsR x → IsR y → IsR (x * y) := by rintro ⟨a, rfl⟩ ⟨b, rfl⟩; exact ⟨a * b, by simp⟩
theorem IsR.sum {ι : Type} (s : Finset ι) {f : ι → EReal} (h : ∀ i ∈ s, IsR (f i)) : IsR (∑ i ∈ s, f i) :=
  Finset.sum_induction f IsR (fun _ _ => IsR.add) ⟨0, by simp⟩ h

theorem isR_of {x : EReal} (h1 : x ≠ ⊥) (h2 : x ≠ ⊤) : IsR x := ⟨x.toReal, (EReal.coe_toReal h2 h1).symm⟩

/-- A factor that is neither negative nor infinite goes through a sum. -/
theorem sum_mul_of {ι : Type} (s : Finset ι) (f : ι → EReal) {c : EReal} (h0 : 0 ≤ c) (h1 : c ≠ ⊤) : (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 h1, ih]

/-- A positive real factor goes through a maximum, -/
theorem mul_le_iff {c x B : EReal} (h0 : 0 < c) (h1 : c ≠ ⊤) : c * x ≤ B ↔ x ≤ B / c := by
  rw [EReal.le_div_iff_mul_le h0 h1, mul_comm]

theorem mul_top {ι : Type} [Fintype ι] (f : ι → EReal) {c : EReal} (h0 : 0 < c) (h1 : c ≠ ⊤) : c * top f = top fun i => c * f i :=
  eq_of_forall_ge_iff fun B => by rw [mul_le_iff h0 h1, top_le, top_le]; exact forall_congr' fun i => (mul_le_iff h0 h1).symm

/-- and through a magnitude. -/
theorem mag_mul (x : EReal) {c : EReal} (h0 : 0 < c) (h1 : c ≠ ⊤) : mag (c * x) = c * mag x :=
  eq_of_forall_ge_iff fun B => by
    rw [mul_le_iff h0 h1, mag, mag, max_le_iff, max_le_iff, mul_le_iff h0 h1, ← mul_le_iff h0 h1 (x := -x), mul_neg]

/-! ## Attention -/

/-- The rotary embedding of one vector: its halves turned by the angles of cosine `cs` and sine `sn`. -/
def rot (x : Fin 128 → EReal) (cs sn : Fin 64 → EReal) (d : Fin 128) : EReal :=
  if h : d.val < 64 then x d * cs ⟨d.val, h⟩ - x ⟨64 + d.val, by omega⟩ * sn ⟨d.val, h⟩
  else x d * cs ⟨d.val - 64, by omega⟩ + x ⟨d.val - 64, by omega⟩ * sn ⟨d.val - 64, by omega⟩

section head
variable (c : EReal) (q : Fin 4096 → Fin 128 → EReal) (K V D : Fin 4096 → Fin 128 → EReal)

/-- The scaled score of query `i` against key `j`, -/
def sc (i j : Fin 4096) : EReal := (∑ d, q i d * K j d) * c
/-- masked: a query sees no later key. -/
def msk (i j : Fin 4096) : EReal := if j.val ≤ i.val then sc c q K i j else ⊥
/-- The greatest magnitude of a query's visible scores. -/
def rowS (i : Fin 4096) : EReal := top fun j : Fin 4096 => if j.val ≤ i.val then mag (sc c q K i j) else 0
/-- The softmax: exponentials below the row's maximum, -/
def ex (i j : Fin 4096) : EReal := Ideal.exp (msk c q K i j - top (msk c q K i))
/-- and the probabilities. -/
def pr (i j : Fin 4096) : EReal := Ideal.div (ex c q K i j) (∑ n, ex c q K i n)
/-- The output, -/
def out (i : Fin 4096) (d : Fin 128) : EReal := ∑ j, pr c q K i j * V j d
/-- its product with the incoming gradient, -/
def dl (i : Fin 4096) : EReal := ∑ d, D i d * out c q K V i d
/-- the score gradient, -/
def ds (i j : Fin 4096) : EReal := pr c q K i j * ((∑ d, D i d * V j d) - dl c q K V D i)
/-- the query gradient. -/
def dq (i : Fin 4096) (d : Fin 128) : EReal := c * ∑ j, ds c q K V D i j * K j d

/-- The unscaled score, as the product of the key's row with the query's column. -/
def raw (i j : Fin 4096) : EReal := ∑ d, K j d * q i d
/-- The greatest unscaled visible score. -/
def rawTop (i : Fin 4096) : EReal := top fun j : Fin 4096 => if j.val ≤ i.val then raw q K i j else ⊥
end head

section heads
variable (c : EReal) (Q D : Fin 5 → Fin 4096 → Fin 128 → EReal) (K V : Fin 4096 → Fin 128 → EReal)
/-- The key gradient, over the five query heads that share the keys, -/
def dk (j : Fin 4096) (d : Fin 128) : EReal := c * ∑ r, ∑ i, ds c (Q r) K V (D r) i j * Q r i d
/-- and the value gradient. -/
def dv (j : Fin 4096) (d : Fin 128) : EReal := ∑ r, ∑ i, pr c (Q r) K i j * D r i d
end heads

section laws
variable {κ : ℝ} (hκ : 0 < κ) {q K : Fin 4096 → Fin 128 → EReal} (hr : ∀ i j, IsR (raw q K i j))
include hκ

theorem coe_pos : (0 : EReal) < (κ : EReal) := by exact_mod_cast hκ

omit hκ in
theorem sc_eq (c : EReal) (q K : Fin 4096 → Fin 128 → EReal) (i j : Fin 4096) : sc c q K i j = c * raw q K i j := by
  rw [sc, raw, mul_comm]
  simp only [mul_comm]

/-- The greatest masked score is the scale times the greatest unscaled one. -/
theorem top_msk (i : Fin 4096) : top (msk κ q K i) = κ * rawTop q K i := by
  rw [rawTop, mul_top _ (coe_pos hκ) (EReal.coe_ne_top κ)]
  congr 1
  funext j
  rw [msk]
  split
  · exact sc_eq _ _ _ _ _
  · rw [EReal.coe_mul_bot_of_pos hκ]

include hr

omit hκ in
theorem isR_rawTop (i : Fin 4096) : IsR (rawTop q K i) := by
  refine isR_of ?_ ?_
  · obtain ⟨r, h⟩ := hr i i
    have := le_top (fun j : Fin 4096 => if j.val ≤ i.val then raw q K i j else ⊥) i
    simp only [le_refl, if_true, h] at this
    intro hb
    rw [rawTop] at hb
    rw [hb] at this
    exact absurd (le_bot_iff.mp this) (EReal.coe_ne_bot r)
  · refine ne_of_lt ?_
    rw [rawTop, top, Finset.fold_max_lt]
    refine ⟨bot_lt_top, fun j _ => ?_⟩
    split
    · obtain ⟨r, h⟩ := hr i j; rw [h]; exact EReal.coe_lt_top r
    · exact bot_lt_top

/-- The row of greatest scores from the greatest unscaled score and the greatest negated one. -/
theorem rowS_eq (i : Fin 4096) {A B : EReal} (hA : A = rawTop q K i)
    (hB : ∀ C, B ≤ C ↔ 0 ≤ C ∧ ∀ j : Fin 4096, j.val ≤ i.val → 0 - raw q K i j ≤ C) : (κ : EReal) * max (max A 0) B = rowS κ q K i := by
  have h0 := coe_pos hκ
  have h1 := EReal.coe_ne_top κ
  refine eq_of_forall_ge_iff fun C => ?_
  rw [mul_le_iff h0 h1, max_le_iff, max_le_iff, hB, hA, rawTop, top_le, rowS, top_le]
  constructor
  · rintro ⟨⟨ha, h00⟩, -, hb⟩ j
    split
    · rename_i hj
      have ha := ha j
      rw [if_pos hj] at ha
      have hb := hb j hj
      rw [sc_eq, mag_mul _ h0 h1, mul_le_iff h0 h1, mag, max_le_iff]
      exact ⟨ha, by rwa [zero_sub] at hb⟩
    · have := (mul_le_iff h0 h1).mpr h00
      rwa [mul_zero] at this
  · intro h
    have key : ∀ j : Fin 4096, j.val ≤ i.val → mag (raw q K i j) ≤ C / κ := fun j hj => by
      have := h j
      rwa [if_pos hj, sc_eq, mag_mul _ h0 h1, mul_le_iff h0 h1] at this
    have h00 := (mag_nonneg _).trans (key i le_rfl)
    refine ⟨⟨fun j => ?_, h00⟩, h00, fun j hj => ?_⟩
    · split
      · rename_i hj; exact (le_max_left _ _).trans (key j hj)
      · exact bot_le
    · rw [zero_sub]; exact (le_max_right _ _).trans (key j hj)

/-- The powers of two of unscaled scores are the exponentials of the softmax. -/
theorem ex_eq {c2 : ℝ} (hc : c2 = κ * (Real.log 2)⁻¹) (i j : Fin 4096) :
    Ideal.exp2 ((if j.val ≤ i.val then raw q K i j else ⊥) * (c2 : EReal) - rawTop q K i * (c2 : EReal)) = ex κ q K i j := by
  have hl : 0 < Real.log 2 := Real.log_pos (by norm_num)
  have hc0 : 0 < c2 := by rw [hc]; positivity
  obtain ⟨m, hm⟩ := isR_rawTop hr i
  rw [ex, top_msk hκ, msk, hm]
  split
  · obtain ⟨r, h⟩ := hr i j
    rw [sc_eq, h]
    rw [← EReal.coe_mul, ← EReal.coe_mul, ← EReal.coe_sub, ← EReal.coe_mul, ← EReal.coe_mul, ← EReal.coe_sub, Ideal.exp2_coe, Ideal.exp_coe]
    refine congrArg _ ?_
    show (2 : ℝ) ^ (r * c2 - m * c2) = _
    rw [Real.rpow_def_of_pos (by norm_num)]
    refine congrArg _ ?_
    rw [hc]
    field_simp
  · rw [EReal.bot_mul_coe_of_pos hc0, ← EReal.coe_mul, ← EReal.coe_mul, EReal.bot_sub, EReal.bot_sub]
    rfl

theorem ex_zero {i j : Fin 4096} (h : i.val < j.val) : ex κ q K i j = 0 := by
  obtain ⟨m, hm⟩ := isR_rawTop hr i
  rw [ex, top_msk hκ, msk, if_neg (by omega), EReal.bot_sub]
  rfl

theorem ex_nonneg (i j : Fin 4096) : ∃ r : ℝ, 0 ≤ r ∧ ex κ q K i j = r := by
  by_cases h : j.val ≤ i.val
  · obtain ⟨m, hm⟩ := isR_rawTop hr i
    obtain ⟨r, h'⟩ := hr i j
    rw [ex, top_msk hκ, msk, if_pos h, hm, sc_eq, h', ← EReal.coe_mul, ← EReal.coe_mul, ← EReal.coe_sub, Ideal.exp_coe]
    exact ⟨_, (Real.exp_pos _).le, rfl⟩
  · exact ⟨0, le_rfl, by rw [ex_zero hκ hr (by omega)]; rfl⟩

theorem ex_diag (i : Fin 4096) : 0 < ex κ q K i i := by
  obtain ⟨m, hm⟩ := isR_rawTop hr i
  obtain ⟨r, h'⟩ := hr i i
  rw [ex, top_msk hκ, msk, if_pos le_rfl, hm, sc_eq, h', ← EReal.coe_mul, ← EReal.coe_mul, ← EReal.coe_sub, Ideal.exp_coe]
  exact_mod_cast Real.exp_pos _

/-- The denominator is a positive real. -/
theorem den_pos (i : Fin 4096) : 0 < ∑ n, ex κ q K i n :=
  (ex_diag hκ hr i).trans_le (Finset.single_le_sum (f := fun n => ex κ q K i n) (fun n _ => by
    obtain ⟨r, h0, h⟩ := ex_nonneg hκ hr i n
    rw [h]; exact_mod_cast h0) (Finset.mem_univ i))

theorem den_isR (i : Fin 4096) : IsR (∑ n, ex κ q K i n) :=
  IsR.sum _ fun n _ => by obtain ⟨r, -, h⟩ := ex_nonneg hκ hr i n; exact ⟨r, h⟩

/-- The inverse denominator is neither negative nor infinite, -/
theorem inv_nonneg (i : Fin 4096) : 0 ≤ Ideal.div 1 (∑ n, ex κ q K i n) := by
  rw [Ideal.div, if_neg (den_pos hκ hr i).ne', one_mul]
  exact EReal.inv_nonneg_of_nonneg (den_pos hκ hr i).le

theorem inv_ne_top (i : Fin 4096) : Ideal.div 1 (∑ n, ex κ q K i n) ≠ ⊤ := by
  rw [Ideal.div, if_neg (den_pos hκ hr i).ne', one_mul]
  exact (EReal.inv_lt_top _).ne

/-- and an exponential times it is the probability, -/
theorem pr_eq (i j : Fin 4096) : ex κ q K i j * Ideal.div 1 (∑ n, ex κ q K i n) = pr κ q K i j := by
  rw [pr, Ideal.div, Ideal.div, if_neg (den_pos hκ hr i).ne', if_neg (den_pos hκ hr i).ne', one_mul]

/-- which is zero at a later key. -/
theorem pr_zero {i j : Fin 4096} (h : i.val < j.val) : pr κ q K i j = 0 := by
  rw [← pr_eq hκ hr, ex_zero hκ hr h, zero_mul]

theorem ds_zero (V D : Fin 4096 → Fin 128 → EReal) {i j : Fin 4096} (h : i.val < j.val) : ds κ q K V D i j = 0 := by
  rw [ds, pr_zero hκ hr h, zero_mul]

/-- The output from the exponentials against the values, divided once. -/
theorem out_eq (V : Fin 4096 → Fin 128 → EReal) (i : Fin 4096) (d : Fin 128) :
    (∑ j, V j d * ex κ q K i j) * Ideal.div 1 (∑ n, ex κ q K i n) = out κ q K V i d := by
  rw [sum_mul_of _ _ (inv_nonneg hκ hr i) (inv_ne_top hκ hr i), out]
  refine Finset.sum_congr rfl fun j _ => ?_
  rw [mul_assoc, pr_eq hκ hr, mul_comm]

end laws

end Attn

end
-- ==== Proof.Pre.lean ====
/-
  The precondition, read: the queries, keys, cosines and sines are finite.
-/
module

public import proofs.«01_k».proof.Defs
public import proofs.«01_k».proof.Proof.Gen.Pre_finite
public import proofs.«01_k».proof.Proof.Spec
public import Idealize.ShloMosaic.Lib.Pointwise

@[expose] public section

noncomputable section

namespace Attn

open Idealize.ShloMosaic

theorem andi_one (a b : BitVec 1) : IntOp.andi a b = 1#1 ↔ a = 1#1 ∧ b = 1#1 := by revert a b; decide

/-- A chain of conjunctions that ends in 1 has 1 at every link. -/
theorem foldl_andi {α : Type} (l : List α) (f : α → BitVec 1) (z : BitVec 1)
    (h : l.foldl (fun r n => IntOp.andi r (f n)) z = 1#1) : z = 1#1 ∧ ∀ n ∈ l, f n = 1#1 := by
  induction l generalizing z with
  | nil => exact ⟨h, fun n hn => absurd hn (List.not_mem_nil)⟩
  | cons a l ih =>
    obtain ⟨h1, h2⟩ := ih _ h
    obtain ⟨h3, h4⟩ := (andi_one _ _).1 h1
    exact ⟨h3, fun n hn => by
      rcases List.mem_cons.1 hn with e | e
      · exact e ▸ h4
      · exact h2 n e⟩

/-- An array whose conjunction is 1 is 1 everywhere. -/
theorem reduce_andi {s t u : Shape} {axes : List (Fin s.rank)} (x : IVec s 1) (v : IVec u 1) (h : s.ReducesTo axes t)
    (hu : 0 < u.numel) (ht : ∀ a b : t.Idx, a = b) (j : t.Idx) (e : Host.reduce IntOp.andi x v h hu j = 1#1) (i : s.Idx) : x i = 1#1 := by
  have := (foldl_andi _ (fun n => x (s.rowMajor.symm n)) _ e).2 (s.rowMajor i)
    (List.mem_filter.2 ⟨List.mem_finRange _, decide_eq_true (ht _ _)⟩)
  simpa using this

/-- A magnitude less than infinity is a real number's. -/
theorem real_of_lt {x z : EReal} (hz : z = ⊤) (h : Ideal.cmp .olt (mag x) z = 1#1) : IsR x := by
  have h' := (Ideal.cmp_olt_eq_one _ _).1 h
  rw [hz, mag, max_lt_iff] at h'
  refine ⟨x.toReal, (EReal.coe_toReal h'.1.ne ?_).symm⟩
  rintro rfl
  exact absurd h'.2 (by simp)

theorem inf_bf16 : Ideal.ofBits .bf16 0x7F80#16 = ⊤ := by
  simp [Ideal.ofBits, Ideal.ieee]
theorem inf_f32 : Ideal.ofBits .f32 0x7F800000#32 = ⊤ := by
  simp [Ideal.ofBits, Ideal.ieee]

/-- What the predicate says. -/
theorem finite_of (a0 : FVec Ideal Cert.Pre_finite.S6x4096x40x128 .bf16) (a1 a2 : FVec Ideal Cert.Pre_finite.S6x4096x8x128 .bf16)
    (a3 a4 : FVec Ideal Cert.Pre_finite.S6x64x4096 .f32) (a5 : FVec Ideal Cert.Pre_finite.S6x4096x40x128 .bf16)
    (h : Cert.Pre_finite.fn (F := Ideal) a0 a1 a2 a3 a4 a5 = fun _ => 1#1) :
    (∀ i, IsR (a0 i)) ∧ (∀ i, IsR (a1 i)) ∧ (∀ i, IsR (a3 i)) ∧ ∀ i, IsR (a4 i) := by
  have ht : ∀ a b : Cert.Pre_finite.S_.Idx, a = b := fun a b => funext fun x => x.elim0
  have e := congrFun h (fun x => x.elim0)
  obtain ⟨e, e4⟩ := (andi_one _ _).1 e
  obtain ⟨e, e3⟩ := (andi_one _ _).1 e
  obtain ⟨e0, e1⟩ := (andi_one _ _).1 e
  exact ⟨fun i => real_of_lt inf_bf16 (reduce_andi _ _ _ _ ht _ e0 i), fun i => real_of_lt inf_bf16 (reduce_andi _ _ _ _ ht _ e1 i),
    fun i => real_of_lt inf_f32 (reduce_andi _ _ _ _ ht _ e3 i), fun i => real_of_lt inf_f32 (reduce_andi _ _ _ _ ht _ e4 i)⟩

end Attn

end
-- ==== Proof.KiPay.lean ====
/-
  Each vector expression of the attention kernel read at one place, on the extended reals.
-/
module

public import proofs.«01_k».proof.Proof.KiHead
public import proofs.«01_k».proof.Proof.Spec
public import Idealize.ShloMosaic.Lib.Pointwise

@[expose] public section

set_option maxRecDepth 16384

noncomputable section

namespace Cert.KernelIdeal.Body

open Cert.KernelIdeal Cert.KernelIdeal.Gen
open Idealize.ShloMosaic
open Attn

/-- A minus infinity joined to a greatest value changes nothing. -/
theorem fold_bot {ι : Type} [Fintype ι] (f : ι → EReal) : Finset.fold max (Ideal.ofBits FTy.f32 0xFF800000#32) f Finset.univ = top f := by
  rw [ofBits_bot]; rfl

/-- The scale of the scores' powers of two. -/
def c2 : ℝ := κs * (Real.log 2)⁻¹

theorem named_c2 : Named.named (F := Ideal) Cert.KernelIdeal.κ "scale_log2e" (φ := .f32) 0x3E0293EE#32 = (c2 : EReal) :=
  IdealRules.named_const.ideal_named_scalar _ _ _ _ rfl

variable (q d : FVec Ideal S128x256 .bf16) (a l b : FVec Ideal S8x256 .f32) (z : FVec Ideal S32x8x256 .f32) (s e : FVec Ideal S256x256 .f32)
  (k : Vec Ideal S1x1x256x128 .bf16) (t : Vec Ideal S1x1x128x256 .bf16) (iv dl : FVec Ideal S1x256 .f32) (o : FVec Ideal S128x256 .f32)
  (j x : Fin 256) (r : Fin 8) (y : Fin 128) (f : Fin 32)

theorem pay17_apply (q : Vec Ideal S1x1x1x128x256 .bf16) (cs sn : Vec Ideal S1x64x256 .f32) :
    k0_pay17 (F := Ideal) q cs sn (ix2 y x) = rot (fun y => q (ix5 0 0 0 y x)) (fun y => cs (ix3 0 y x)) (fun y => sn (ix3 0 y x)) y := by
  pointwise [k0_pay17]
  rw [rot]
  refine dite_congr rfl (fun _ => rfl) fun h => ?_
  have e : (⟨64 + (y.val - 64), by omega⟩ : Fin 128) = y := Fin.ext (by show 64 + (y.val - 64) = y.val; omega)
  rw [e]

theorem pay18_apply (q : Vec Ideal S1x1x1x128x256 .bf16) : k0_pay18 (F := Ideal) q (ix2 y x) = q (ix5 0 0 0 y x) := by
  pointwise [k0_pay18]

theorem pay19_apply (q : Vec Ideal S1x1x1x128x256 .bf16) (cs sn : Vec Ideal S1x64x256 .f32) :
    k0_pay19 (F := Ideal) q cs sn (ix4 0 0 0 x) = top fun y => mag (k0_pay17 (F := Ideal) q cs sn (ix2 y x)) := by
  pointwise [k0_pay19]
  exact fold_bot _

theorem pay21_apply (q : Vec Ideal S1x1x1x128x256 .bf16) :
    k0_pay21 (F := Ideal) (k0_pay20 q) (ix4 0 0 0 x) = top fun y => mag (k0_pay18 (F := Ideal) q (ix2 y x)) := by
  pointwise [k0_pay21, k0_pay20]
  exact fold_bot _

theorem pay22_apply : k0_pay22 (F := Ideal) (ix2 r x) = ⊥ := by
  pointwise [k0_pay22]
  exact ofBits_bot

theorem pay23_apply : k0_pay23 (F := Ideal) (ix2 r x) = 0 := by
  pointwise [k0_pay23]

theorem pay24_apply : k0_pay24 (F := Ideal) q k (ix2 j x) = ∑ y : Fin 128, k (ix4 0 0 j y) * q (ix2 y x) := by
  pointwise [k0_pay24]

theorem pay25_apply : k0_pay25 (F := Ideal) q k (ix2 j x) = ∑ y : Fin 128, k (ix4 0 0 j y) * q (ix2 y x) := by
  rw [← pay24_apply]
  pointwise [k0_pay25]

theorem pay26_apply : k0_pay26 (F := Ideal) q a k (ix2 r x) = max (a (ix2 r x)) (top fun f : Fin 32 => k0_pay24 (F := Ideal) q k (ix2 (fld f r) x)) := by
  pointwise [k0_pay26]
  rw [fold_bot]
  rfl

theorem pay27_apply : k0_pay27 (F := Ideal) q a k (ix2 r x) = max (a (ix2 r x)) (top fun f : Fin 32 => 0 - k0_pay24 (F := Ideal) q k (ix2 (fld f r) x)) := by
  pointwise [k0_pay27]
  rw [fold_bot]
  rfl

theorem pay32_apply : k0_pay32 (F := Ideal) q k (ix2 j x) = ∑ y : Fin 128, k (ix4 0 0 j y) * q (ix2 y x) := by
  pointwise [k0_pay32]

theorem pay34_apply : k0_pay34 (F := Ideal) q a k (ix2 r x) =
    max (a (ix2 r x)) (top fun f : Fin 32 => if (fld f r).val ≤ x.val then 0 - k0_pay32 (F := Ideal) q k (ix2 (fld f r) x) else 0) := by
  pointwise [k0_pay34, k0_pay33]
  rw [fold_bot]
  refine congrArg (max _) (congrArg top (funext fun f => ?_))
  exact select_sle (lt_of_lt_of_le (fld f r).isLt (by decide)) (lt_of_lt_of_le x.isLt (by decide)) _ _

theorem pay35_apply : k0_pay35 (F := Ideal) q k (ix2 j x) = if j.val ≤ x.val then k0_pay32 (F := Ideal) q k (ix2 j x) else ⊥ := by
  pointwise [k0_pay35, k0_pay33]
  rw [select_sle (lt_of_lt_of_le j.isLt (by decide)) (lt_of_lt_of_le x.isLt (by decide))]
  refine if_congr Iff.rfl rfl ?_
  exact ofBits_bot

theorem pay36_apply : k0_pay36 (F := Ideal) q k (ix2 j x) = k0_pay35 (F := Ideal) q k (ix2 j x) := by
  pointwise [k0_pay36]

theorem pay37_apply : k0_pay37 (F := Ideal) q k (ix3 f r x) = k0_pay35 (F := Ideal) q k (ix2 (fld f r) x) := by
  pointwise [k0_pay37]
  rfl

theorem pay38_apply : k0_pay38 (F := Ideal) a z (ix2 0 x) = top fun r : Fin 8 => max (a (ix2 r x)) (top fun f : Fin 32 => z (ix3 f r x)) := by
  pointwise [k0_pay38]
  rw [fold_bot]
  exact congrArg top (funext fun r => congrArg (max _) (fold_bot _))

theorem pay39_apply : k0_pay39 (F := Ideal) a b z (ix4 0 0 0 x) = (κs : EReal) * max (max (k0_pay38 (F := Ideal) a z (ix2 0 x)) 0) (top fun r : Fin 8 => b (ix2 r x)) := by
  pointwise [k0_pay39]
  rw [fold_bot, ofBits_scale]

theorem pay40_apply : k0_pay40 (F := Ideal) a z (ix2 0 x) = k0_pay38 (F := Ideal) a z (ix2 0 x) * (c2 : EReal) := by
  pointwise [k0_pay40]
  rw [named_c2]

theorem pay41_apply : k0_pay41 (F := Ideal) (ix2 r x) = 0 := by
  pointwise [k0_pay41]

theorem pay42_apply : k0_pay42 (F := Ideal) (ix2 y x) = 0 := by
  pointwise [k0_pay42]

theorem pay43_apply : k0_pay43 (F := Ideal) a z s (ix2 j x) = Ideal.exp2 (s (ix2 j x) * (c2 : EReal) - k0_pay38 (F := Ideal) a z (ix2 0 x) * (c2 : EReal)) := by
  pointwise [k0_pay43]
  rw [named_c2, pay40_apply]
  rfl

theorem pay44_apply : k0_pay44 (F := Ideal) a z s (ix2 j x) = k0_pay43 (F := Ideal) a z s (ix2 j x) := by
  pointwise [k0_pay44]

theorem pay45_apply : k0_pay45 (F := Ideal) a z l s (ix2 r x) = l (ix2 r x) + ∑ f : Fin 32, k0_pay43 (F := Ideal) a z s (ix2 (fld f r) x) := by
  pointwise [k0_pay45]
  rfl

theorem pay46_apply : k0_pay46 (F := Ideal) a z o s t (ix2 y x) = o (ix2 y x) + ∑ j : Fin 256, t (ix4 0 0 y j) * k0_pay43 (F := Ideal) a z s (ix2 j x) := by
  pointwise [k0_pay46]

theorem pay51_apply : k0_pay51 (F := Ideal) l (ix2 0 x) = Ideal.div 1 (∑ r : Fin 8, l (ix2 r x)) := by
  pointwise [k0_pay51]

theorem pay52_apply : k0_pay52 (F := Ideal) l o (ix2 y x) = o (ix2 y x) * k0_pay51 (F := Ideal) l (ix2 0 x) := by
  pointwise [k0_pay52]

theorem pay53_apply : k0_pay53 (F := Ideal) l o (ix5 0 0 0 y x) = k0_pay52 (F := Ideal) l o (ix2 y x) := by
  pointwise [k0_pay53]

theorem pay54_apply : k0_pay54 (F := Ideal) o (ix4 0 0 0 x) = top fun y : Fin 128 => mag (o (ix2 y x)) := by
  pointwise [k0_pay54]
  exact fold_bot _

theorem pay55_apply : k0_pay55 (F := Ideal) d o (ix2 0 x) = ∑ y : Fin 128, d (ix2 y x) * o (ix2 y x) := by
  pointwise [k0_pay55]

theorem pay5_apply : k0_pay5 (F := Ideal) iv e (ix2 j x) = e (ix2 j x) * iv (ix2 0 x) := by
  pointwise [k0_pay5]

theorem pay6_apply : k0_pay6 (F := Ideal) d iv dl e k (ix2 j x) = e (ix2 j x) * iv (ix2 0 x) * ((∑ y : Fin 128, k (ix4 0 0 j y) * d (ix2 y x)) - dl (ix2 0 x)) := by
  pointwise [k0_pay6, k0_pay5]

theorem pay7_apply : k0_pay7 (F := Ideal) d iv dl a e k (ix2 r x) = max (a (ix2 r x)) (top fun f : Fin 32 => mag (k0_pay6 (F := Ideal) d iv dl e k (ix2 (fld f r) x))) := by
  pointwise [k0_pay7]
  rw [fold_bot]
  rfl

theorem pay8_apply : k0_pay8 (F := Ideal) d iv dl e k (ix2 j x) = k0_pay6 (F := Ideal) d iv dl e k (ix2 j x) := by
  pointwise [k0_pay8]

theorem pay9_apply : k0_pay9 (F := Ideal) d iv dl o e k t (ix2 y x) = o (ix2 y x) + ∑ j : Fin 256, t (ix4 0 0 y j) * k0_pay6 (F := Ideal) d iv dl e k (ix2 j x) := by
  pointwise [k0_pay9, k0_pay8]

theorem pay10_apply : k0_pay10 (F := Ideal) d iv e o (ix2 y j) = o (ix2 y j) + ∑ x : Fin 256, d (ix2 y x) * (e (ix2 j x) * iv (ix2 0 x)) := by
  pointwise [k0_pay10, k0_pay5]

theorem pay56_apply : k0_pay56 (F := Ideal) (ix2 r x) = 0 := by
  pointwise [k0_pay56]

theorem pay57_apply : k0_pay57 (F := Ideal) (ix2 y x) = 0 := by
  pointwise [k0_pay57]

theorem pay58_apply (w : FVec Ideal S256x256 .bf16) : k0_pay58 (F := Ideal) q w o (ix2 y j) = o (ix2 y j) + ∑ x : Fin 256, q (ix2 y x) * w (ix2 j x) := by
  pointwise [k0_pay58]

theorem pay60_apply : k0_pay60 (F := Ideal) a (ix4 0 0 0 x) = top fun r : Fin 8 => a (ix2 r x) := by
  pointwise [k0_pay60]
  exact fold_bot _

theorem pay61_apply : k0_pay61 (F := Ideal) o (ix4 0 0 0 x) = (κs : EReal) * top fun y : Fin 128 => mag (o (ix2 y x)) := by
  pointwise [k0_pay61]
  rw [ofBits_scale, fold_bot]
  rfl

theorem pay1_apply (i : Fin 4096) : k0_pay1 (F := Ideal) (ix2 y i) = 0 := by
  pointwise [k0_pay1]

theorem pay2_apply (i : Fin 4096) : k0_pay2 (F := Ideal) (ix2 y i) = 0 := by
  pointwise [k0_pay2]

theorem pay3_apply (o : Vec Ideal S128x4096 .f32) (i : Fin 4096) : k0_pay3 (F := Ideal) o (ix4 0 0 0 i) = (κs : EReal) * top fun y : Fin 128 => mag (o (ix2 y i)) := by
  pointwise [k0_pay3]
  rw [ofBits_scale, fold_bot]
  rfl

theorem pay4_apply (o : Vec Ideal S128x4096 .f32) (i : Fin 4096) : k0_pay4 (F := Ideal) o (ix4 0 0 0 i) = top fun y : Fin 128 => mag (o (ix2 y i)) := by
  pointwise [k0_pay4]
  exact fold_bot _

end Cert.KernelIdeal.Body

end
-- ==== Proof.KiVal.lean ====
/-
  What one grid point of the attention kernel leaves, as the specification says it: the block of 256 queries against the key blocks up
  to its own, for each of the five query heads, from what its blocks of the arguments hold.
-/
module

public import proofs.«01_k».proof.Proof.KiPay

@[expose] public section

set_option maxRecDepth 16384

noncomputable section

namespace Cert.KernelIdeal.Body

open Cert.KernelIdeal Cert.KernelIdeal.Gen
open Idealize.ShloMosaic
open Attn

/-- The blocks `I` of a grid point hold query block `qb` of the heads `Q` with gradients `D`, and the whole of the keys and the values. -/
structure Ok (I : In Ideal) (qb : ℕ) (Q D : Fin 5 → Fin 4096 → Fin 128 → EReal) (K V : Fin 4096 → Fin 128 → EReal) : Prop where
  lt : qb < 16
  q : ∀ (h : Fin 5) (y : Fin 128) (x : Fin 256), qH I h.val (ix2 y x) = Q h (pos qb x) y
  d : ∀ (h : Fin 5) (y : Fin 128) (x : Fin 256), doH I h.val (ix2 y x) = D h (pos qb x) y
  kr : ∀ (n : Fin 4096) (y : Fin 128), I.kr (ix4 0 0 n y) = K n y
  kt : ∀ (n : Fin 4096) (y : Fin 128), I.kt (ix4 0 0 y n) = K n y
  vr : ∀ (n : Fin 4096) (y : Fin 128), I.vr (ix4 0 0 n y) = V n y
  vt : ∀ (n : Fin 4096) (y : Fin 128), I.vt (ix4 0 0 y n) = V n y
  real : ∀ (h : Fin 5) (i j : Fin 4096), IsR (raw (Q h) K i j)

theorem vis_lt {j qb : ℕ} (hq : qb < 16) (hj : j < qb) (w x : Fin 256) : (pos j w).val ≤ (pos qb x).val := by
  have := w.isLt
  have := Nat.mul_le_mul_right 256 (Nat.succ_le_of_lt hj)
  rw [pos_val (by omega), pos_val hq]
  omega

theorem vis_eq {qb : ℕ} (hq : qb < 16) (w x : Fin 256) : (pos qb w).val ≤ (pos qb x).val ↔ w.val ≤ x.val := by
  rw [pos_val hq, pos_val hq]
  omega

theorem vis_gt {n : ℕ} {qb : ℕ} (hq : qb < 16) (hn : (qb + 1) * 256 ≤ n) (x : Fin 256) : (pos qb x).val < n := by
  have := x.isLt
  rw [pos_val hq]
  omega

theorem vis_gt' {j qb : ℕ} (hq : qb < 16) (hj16 : j < 16) (hj : qb < j) (w x : Fin 256) : (pos qb x).val < (pos j w).val := by
  refine vis_gt hq ?_ x
  have := Nat.mul_le_mul_right 256 (Nat.succ_le_of_lt hj)
  rw [pos_val hj16]
  omega

section
variable {I : In Ideal} {qb : ℕ} {Q D : Fin 5 → Fin 4096 → Fin 128 → EReal} {K V : Fin 4096 → Fin 128 → EReal} (H : Ok I qb Q D K V)
  (h : Fin 5) (x : Fin 256)
include H

/-! ## The scores -/

theorem score (j : ℕ) (w : Fin 256) : (∑ y : Fin 128, rows4 I.kr j (ix4 0 0 w y) * qH I h.val (ix2 y x)) = raw (Q h) K (pos qb x) (pos j w) :=
  Finset.sum_congr rfl fun y _ => congrArg₂ (· * ·) (H.kr (pos j w) y) (H.q h y x)

theorem mx_le (B : EReal) (r : Fin 8) : ∀ n : ℕ, mxR (qH I h.val) I.kr n (ix2 r x) ≤ B ↔ ∀ j < n, ∀ f, raw (Q h) K (pos qb x) (pos j (fld f r)) ≤ B
  | 0 => by rw [mxR, pay22_apply]; simp
  | n + 1 => by
    rw [mxR, pay26_apply, max_le_iff, mx_le B r n, top_le, Nat.forall_lt_succ_right]
    refine and_congr Iff.rfl (forall_congr' fun f => ?_)
    rw [pay24_apply, score H]

theorem mn_le (B : EReal) (r : Fin 8) : ∀ n : ℕ, mnR (qH I h.val) I.kr n (ix2 r x) ≤ B ↔ 0 ≤ B ∧ ∀ j < n, ∀ f, 0 - raw (Q h) K (pos qb x) (pos j (fld f r)) ≤ B
  | 0 => by rw [mnR, pay23_apply]; simp
  | n + 1 => by
    rw [mnR, pay27_apply, max_le_iff, mn_le B r n, top_le, Nat.forall_lt_succ_right, and_assoc]
    refine and_congr Iff.rfl (and_congr Iff.rfl (forall_congr' fun f => ?_))
    rw [pay24_apply, score H]

theorem last (w : Fin 256) : k0_pay35 (F := Ideal) (qH I h.val) (rows4 I.kr qb) (ix2 w x) = if (pos qb w).val ≤ (pos qb x).val then raw (Q h) K (pos qb x) (pos qb w) else ⊥ := by
  rw [pay35_apply, pay32_apply, score H]
  exact if_congr (vis_eq H.lt w x).symm rfl rfl

/-- The maximum of a query's scores. -/
theorem max_eq : k0_pay38 (F := Ideal) (mxH I qb h.val) (zH I qb h.val) (ix2 0 x) = rawTop (Q h) K (pos qb x) := by
  refine eq_of_forall_ge_iff fun B => ?_
  have hz : ∀ r f, zH I qb h.val (ix3 f r x) = if (pos qb (fld f r)).val ≤ (pos qb x).val then raw (Q h) K (pos qb x) (pos qb (fld f r)) else ⊥ :=
    fun r f => by rw [zH, pay37_apply, last H]
  rw [pay38_apply, top_le, rawTop, top_le, forall_pos]
  constructor
  · intro H' j hj
    rw [← forall_fld]
    intro r f
    have h1 := H' r
    rw [max_le_iff, top_le] at h1
    rcases lt_trichotomy j qb with hlt | rfl | hgt
    · rw [if_pos (vis_lt H.lt hlt _ _)]
      exact (mx_le H h x B r qb).mp h1.1 j hlt f
    · have h2 := h1.2 f
      rwa [hz] at h2
    · rw [if_neg (by have := vis_gt' H.lt hj hgt (fld f r) x; omega)]
      exact bot_le
  · intro H' r
    rw [max_le_iff, top_le]
    refine ⟨(mx_le H h x B r qb).mpr fun j hj f => ?_, fun f => ?_⟩
    · have h2 := H' j (hj.trans H.lt) (fld f r)
      rwa [if_pos (vis_lt H.lt hj _ _)] at h2
    · rw [hz]
      exact H' qb H.lt (fld f r)

/-- The greatest magnitude of a query's scores. -/
theorem p13_eq : p13 I qb h.val (ix4 0 0 0 x) = rowS κs (Q h) K (pos qb x) := by
  rw [p13, pay39_apply]
  refine rowS_eq κs_pos (H.real h) _ (max_eq H h x) fun C => ?_
  rw [top_le]
  have e : ∀ r, mnH I qb h.val (ix2 r x) ≤ C ↔ (0 ≤ C ∧ ∀ j < qb, ∀ f, 0 - raw (Q h) K (pos qb x) (pos j (fld f r)) ≤ C) ∧
      ∀ f, (if (pos qb (fld f r)).val ≤ (pos qb x).val then 0 - raw (Q h) K (pos qb x) (pos qb (fld f r)) else 0) ≤ C := fun r => by
    rw [mnH, pay34_apply, max_le_iff, mn_le H, top_le]
    refine and_congr Iff.rfl (forall_congr' fun f => ?_)
    rw [pay32_apply, score H, if_congr (vis_eq H.lt (fld f r) x).symm rfl rfl]
  constructor
  · intro H'
    refine ⟨((e 0).mp (H' 0)).1.1, ?_⟩
    rw [forall_pos]
    intro j hj
    rw [← forall_fld]
    intro r f hv
    have h1 := (e r).mp (H' r)
    rcases lt_trichotomy j qb with hlt | rfl | hgt
    · exact h1.1.2 j hlt f
    · have h2 := h1.2 f
      rwa [if_pos hv] at h2
    · exact absurd hv (by have := vis_gt' H.lt hj hgt (fld f r) x; omega)
  · rintro ⟨h0, H'⟩ r
    refine (e r).mpr ⟨⟨h0, fun j hj f => H' _ (vis_lt H.lt hj _ _)⟩, fun f => ?_⟩
    split
    · rename_i hv
      exact H' _ hv
    · exact h0

theorem s_eq {j : ℕ} (hj : j ≤ qb) (w : Fin 256) :
    sH I qb h.val j (ix2 w x) = if (pos j w).val ≤ (pos qb x).val then raw (Q h) K (pos qb x) (pos j w) else ⊥ := by
  rw [sH, sB]
  split
  · rename_i hlt
    rw [pay25_apply, score H, if_pos (vis_lt H.lt hlt _ _)]
  · have : j = qb := by omega
    subst this
    rw [pay36_apply, last H]

theorem e_eq' {j : ℕ} (hj : j ≤ qb) (w : Fin 256) :
    k0_pay43 (F := Ideal) (mxH I qb h.val) (zH I qb h.val) (sH I qb h.val j) (ix2 w x) = ex κs (Q h) K (pos qb x) (pos j w) := by
  rw [pay43_apply, max_eq H, s_eq H h x hj, ex_eq κs_pos (H.real h) (c2 := c2) rfl]

theorem e_eq {j : ℕ} (hj : j ≤ qb) (w : Fin 256) : eH I qb h.val j (ix2 w x) = ex κs (Q h) K (pos qb x) (pos j w) := by
  rw [eH, pay44_apply, e_eq' H h x hj]

/-! ## The softmax and the output -/

theorem l_eq (r : Fin 8) : ∀ n ≤ qb + 1, lR (mxH I qb h.val) (zH I qb h.val) (sH I qb h.val) n (ix2 r x) =
    ∑ j ∈ Finset.range n, ∑ f : Fin 32, ex κs (Q h) K (pos qb x) (pos j (fld f r))
  | 0, _ => by rw [lR, pay41_apply]; rfl
  | n + 1, hn => by
    rw [lR, pay45_apply, l_eq r n (by omega), Finset.sum_range_succ]
    exact congrArg _ (Finset.sum_congr rfl fun f _ => e_eq' H h x (by omega) _)

theorem den_eq : ∑ r : Fin 8, lH I qb h.val (ix2 r x) = ∑ n, ex κs (Q h) K (pos qb x) n := by
  rw [← sum_blocks_of_zero (fun n => ex κs (Q h) K (pos qb x) n) (k := qb + 1) (by have := H.lt; omega)
    fun n hn => ex_zero κs_pos (H.real h) (vis_gt H.lt hn x)]
  refine (Finset.sum_congr rfl fun r _ => l_eq H h x r (qb + 1) le_rfl).trans ?_
  rw [Finset.sum_comm]
  exact Finset.sum_congr rfl fun j _ => sum_fld fun w => ex κs (Q h) K (pos qb x) (pos j w)

theorem iv_eq : ivH I qb h.val (ix2 0 x) = Ideal.div 1 (∑ n, ex κs (Q h) K (pos qb x) n) := by
  rw [ivH, pay51_apply, den_eq H]

theorem o_eq (y : Fin 128) : ∀ n ≤ qb + 1, oR (mxH I qb h.val) (zH I qb h.val) (sH I qb h.val) I.vt n (ix2 y x) =
    ∑ j ∈ Finset.range n, ∑ w : Fin 256, V (pos j w) y * ex κs (Q h) K (pos qb x) (pos j w)
  | 0, _ => by rw [oR, pay42_apply]; rfl
  | n + 1, hn => by
    rw [oR, pay46_apply, o_eq y n (by omega), Finset.sum_range_succ]
    exact congrArg _ (Finset.sum_congr rfl fun w _ => congrArg₂ (· * ·) (H.vt (pos n w) y) (e_eq' H h x (by omega) w))

theorem out_eq' (y : Fin 128) : outH I qb h.val (ix2 y x) = out κs (Q h) K V (pos qb x) y := by
  rw [outH, pay52_apply, ← Attn.out_eq κs_pos (H.real h), ← iv_eq H h x]
  refine congrArg (· * ivH I qb h.val (ix2 0 x)) ?_
  rw [← sum_blocks_of_zero (fun n => V n y * ex κs (Q h) K (pos qb x) n) (k := qb + 1) (by have := H.lt; omega)
    fun n hn => by rw [ex_zero κs_pos (H.real h) (vis_gt H.lt hn x), mul_zero]]
  exact o_eq H h x y (qb + 1) le_rfl

theorem p11_eq : p11 I h.val (ix4 0 0 0 x) = top fun y => mag (Q h (pos qb x) y) := by
  rw [p11, pay19_apply]
  exact congrArg top (funext fun y => congrArg mag (H.q h y x))

theorem p12_eq : p12 I h.val (ix4 0 0 0 x) = top fun y => mag (D h (pos qb x) y) := by
  rw [p12, pay21_apply]
  exact congrArg top (funext fun y => congrArg mag (H.d h y x))

theorem p14_eq : p14 I qb h.val (ix4 0 0 0 x) = top fun y => mag (out κs (Q h) K V (pos qb x) y) := by
  rw [p14, pay54_apply]
  exact congrArg top (funext fun y => congrArg mag (out_eq' H h x y))

theorem p17_eq (y : Fin 128) : p17 I qb h.val (ix5 0 0 0 y x) = out κs (Q h) K V (pos qb x) y := by
  rw [p17, pay53_apply]
  exact out_eq' H h x y

/-! ## The gradients -/

theorem dl_eq : dlH I qb h.val (ix2 0 x) = dl κs (Q h) K V (D h) (pos qb x) := by
  rw [dlH, pay55_apply]
  exact Finset.sum_congr rfl fun y _ => congrArg₂ (· * ·) (H.d h y x) (out_eq' H h x y)

theorem pr_eq' {j : ℕ} (hj : j ≤ qb) (w : Fin 256) : eH I qb h.val j (ix2 w x) * ivH I qb h.val (ix2 0 x) = pr κs (Q h) K (pos qb x) (pos j w) := by
  rw [e_eq H h x hj, iv_eq H, pr_eq κs_pos (H.real h)]

theorem ds_eq {j : ℕ} (hj : j ≤ qb) (w : Fin 256) :
    k0_pay6 (F := Ideal) (doH I h.val) (ivH I qb h.val) (dlH I qb h.val) (eH I qb h.val j) (rows4 I.vr j) (ix2 w x) =
      ds κs (Q h) K V (D h) (pos qb x) (pos j w) := by
  rw [pay6_apply, pr_eq' H h x hj, dl_eq H, ds]
  refine congrArg (fun t : EReal => pr κs (Q h) K (pos qb x) (pos j w) * (t - dl κs (Q h) K V (D h) (pos qb x))) (Finset.sum_congr rfl fun y _ => ?_)
  rw [mul_comm]
  exact congrArg₂ (· * ·) (H.d h y x) (H.vr (pos j w) y)

theorem dsR_le (B : EReal) (r : Fin 8) : ∀ n ≤ qb + 1,
    (dsR (doH I h.val) (ivH I qb h.val) (dlH I qb h.val) (eH I qb h.val) I.vr n (ix2 r x) ≤ B ↔
      0 ≤ B ∧ ∀ j < n, ∀ f, mag (ds κs (Q h) K V (D h) (pos qb x) (pos j (fld f r))) ≤ B)
  | 0, _ => by rw [dsR, pay56_apply]; simp
  | n + 1, hn => by
    rw [dsR, pay7_apply, max_le_iff, dsR_le B r n (by omega), top_le, Nat.forall_lt_succ_right, and_assoc]
    refine and_congr Iff.rfl (and_congr Iff.rfl (forall_congr' fun f => ?_))
    rw [ds_eq H h x (by omega)]

theorem p15_eq : p15 I qb h.val (ix4 0 0 0 x) = top fun j => mag (ds κs (Q h) K V (D h) (pos qb x) j) := by
  refine eq_of_forall_ge_iff fun B => ?_
  rw [p15, pay60_apply, top_le, top_le, forall_pos]
  constructor
  · intro H' j hj
    rw [← forall_fld]
    intro r f
    have h1 := (dsR_le H h x B r (qb + 1) le_rfl).mp (H' r)
    by_cases hq : j < qb + 1
    · exact h1.2 j hq f
    · rw [ds_zero κs_pos (H.real h) V (D h) (vis_gt' H.lt hj (by omega) (fld f r) x), mag_zero]
      exact h1.1
  · intro H' r
    exact (dsR_le H h x B r (qb + 1) le_rfl).mpr ⟨(mag_nonneg _).trans (H' 0 (by decide) 0), fun j hj f => H' j (by have := H.lt; omega) _⟩

theorem dqR_eq (y : Fin 128) : ∀ n ≤ qb + 1,
    dqR (doH I h.val) (ivH I qb h.val) (dlH I qb h.val) (eH I qb h.val) I.vr I.kt n (ix2 y x) =
      ∑ j ∈ Finset.range n, ∑ w : Fin 256, K (pos j w) y * ds κs (Q h) K V (D h) (pos qb x) (pos j w)
  | 0, _ => by rw [dqR, pay57_apply]; rfl
  | n + 1, hn => by
    rw [dqR, pay9_apply, dqR_eq y n (by omega), Finset.sum_range_succ]
    exact congrArg _ (Finset.sum_congr rfl fun w _ => congrArg₂ (· * ·) (H.kt (pos n w) y) (ds_eq H h x (by omega) w))

theorem p16_eq : p16 I qb h.val (ix4 0 0 0 x) = top fun y => mag (dq κs (Q h) K V (D h) (pos qb x) y) := by
  rw [p16, pay61_apply, mul_top _ (coe_pos κs_pos) (EReal.coe_ne_top κs)]
  refine congrArg top (funext fun y => ?_)
  rw [← mag_mul _ (coe_pos κs_pos) (EReal.coe_ne_top κs), dq]
  refine congrArg (fun t : EReal => mag ((κs : EReal) * t)) ((dqR_eq H h x y (qb + 1) le_rfl).trans ?_)
  rw [sum_blocks_of_zero (fun n => K n y * ds κs (Q h) K V (D h) (pos qb x) n) (k := qb + 1) (by have := H.lt; omega)
    fun n hn => by rw [ds_zero κs_pos (H.real h) V (D h) (vis_gt H.lt hn x), mul_zero]]
  exact Finset.sum_congr rfl fun n _ => mul_comm _ _

end

/-! ## The gradients of the keys and the values -/

section
variable {I : In Ideal} {qb : ℕ} {Q D : Fin 5 → Fin 4096 → Fin 128 → EReal} {K V : Fin 4096 → Fin 128 → EReal} (H : Ok I qb Q D K V)

/-- What query block `qb` of head `h` adds to the key gradient, unscaled, -/
def dkT (Q D : Fin 5 → Fin 4096 → Fin 128 → EReal) (K V : Fin 4096 → Fin 128 → EReal) (qb : ℕ) (n : Fin 4096) (y : Fin 128) (h : ℕ) : EReal :=
  if hh : h < 5 then ∑ x : Fin 256, Q ⟨h, hh⟩ (pos qb x) y * ds κs (Q ⟨h, hh⟩) K V (D ⟨h, hh⟩) (pos qb x) n else 0

/-- and to the value gradient. -/
def dvT (Q D : Fin 5 → Fin 4096 → Fin 128 → EReal) (K : Fin 4096 → Fin 128 → EReal) (qb : ℕ) (n : Fin 4096) (y : Fin 128) (h : ℕ) : EReal :=
  if hh : h < 5 then ∑ x : Fin 256, D ⟨h, hh⟩ (pos qb x) y * pr κs (Q ⟨h, hh⟩) K (pos qb x) n else 0

include H

theorem dkA_eq (P : ℕ → S128x256.Idx → Elt Ideal .f32) {j : ℕ} (hj : j < 16) (w : Fin 256) (y : Fin 128) : ∀ n ≤ 5,
    dkA I qb P n j (ix2 y w) = P j (ix2 y w) + ∑ h ∈ Finset.range n, dkT Q D K V qb (pos j w) y h
  | 0, _ => by rw [dkA]; simp
  | n + 1, hn => by
    rw [dkA, Finset.sum_range_succ, ← add_assoc, ← dkA_eq P hj w y n (by omega), dkT, dif_pos (by omega)]
    split
    · rename_i hq
      rw [dkU, pay58_apply]
      refine congrArg _ (Finset.sum_congr rfl fun x _ => congrArg₂ (· * ·) (H.q ⟨n, by omega⟩ y x) ?_)
      rw [pay8_apply]
      exact ds_eq H ⟨n, by omega⟩ x (by omega) w
    · rename_i hq
      rw [Finset.sum_eq_zero fun x _ => by rw [ds_zero κs_pos (H.real _) V _ (vis_gt' H.lt hj (by omega) w x), mul_zero], add_zero]

theorem dvA_eq (P : ℕ → S128x256.Idx → Elt Ideal .f32) {j : ℕ} (hj : j < 16) (w : Fin 256) (y : Fin 128) : ∀ n ≤ 5,
    dvA I qb P n j (ix2 y w) = P j (ix2 y w) + ∑ h ∈ Finset.range n, dvT Q D K qb (pos j w) y h
  | 0, _ => by rw [dvA]; simp
  | n + 1, hn => by
    rw [dvA, Finset.sum_range_succ, ← add_assoc, ← dvA_eq P hj w y n (by omega), dvT, dif_pos (by omega)]
    split
    · rename_i hq
      rw [dvU, pay10_apply]
      exact congrArg _ (Finset.sum_congr rfl fun x _ => congrArg₂ (· * ·) (H.d ⟨n, by omega⟩ y x) (pr_eq' H ⟨n, by omega⟩ x (by omega) w))
    · rename_i hq
      rw [Finset.sum_eq_zero fun x _ => by rw [pr_zero κs_pos (H.real _) (vis_gt' H.lt hj (by omega) w x), mul_zero], add_zero]

end

/-- The sixteen query blocks together give the key gradient, but for the scale, -/
theorem dk_total (Q D : Fin 5 → Fin 4096 → Fin 128 → EReal) (K V : Fin 4096 → Fin 128 → EReal) (n : Fin 4096) (y : Fin 128) :
    (κs : EReal) * ∑ qb ∈ Finset.range 16, ∑ h ∈ Finset.range 5, dkT Q D K V qb n y h = dk κs Q D K V n y := by
  rw [dk, Finset.sum_comm, Finset.sum_range]
  refine congrArg _ (Finset.sum_congr rfl fun h _ => ?_)
  rw [← sum_blocks]
  refine Finset.sum_congr rfl fun qb _ => ?_
  rw [dkT, dif_pos h.isLt]
  exact Finset.sum_congr rfl fun x _ => mul_comm _ _

/-- and the value gradient. -/
theorem dv_total (Q D : Fin 5 → Fin 4096 → Fin 128 → EReal) (K : Fin 4096 → Fin 128 → EReal) (n : Fin 4096) (y : Fin 128) :
    ∑ qb ∈ Finset.range 16, ∑ h ∈ Finset.range 5, dvT Q D K qb n y h = dv κs Q D K n y := by
  rw [dv, Finset.sum_comm, Finset.sum_range]
  refine Finset.sum_congr rfl fun h _ => ?_
  rw [← sum_blocks]
  refine Finset.sum_congr rfl fun qb _ => ?_
  rw [dvT, dif_pos h.isLt]
  exact Finset.sum_congr rfl fun x _ => mul_comm _ _

end Cert.KernelIdeal.Body

end
-- ==== Proof.Args.lean ====
/-
  The arguments of the attention gradients, on the extended reals, and the nine results as functions of them.
-/
module

public import proofs.«01_k».proof.Proof.Spec
public import Idealize.ShloMosaic.Lib.Pointwise

@[expose] public section

noncomputable section

namespace Attn

open Idealize.ShloMosaic

/-- The six arguments. -/
structure Args where
  /-- The queries of 40 heads, before rotation, -/
  q : (⟨4, ![6, 4096, 40, 128]⟩ : Shape).Idx → EReal
  /-- the keys of 8 heads, -/
  k : (⟨4, ![6, 4096, 8, 128]⟩ : Shape).Idx → EReal
  /-- the values, -/
  v : (⟨4, ![6, 4096, 8, 128]⟩ : Shape).Idx → EReal
  /-- the cosines -/
  cs : (⟨3, ![6, 64, 4096]⟩ : Shape).Idx → EReal
  /-- and sines of the rotation, -/
  sn : (⟨3, ![6, 64, 4096]⟩ : Shape).Idx → EReal
  /-- and the gradient of the output. -/
  d : (⟨4, ![6, 4096, 40, 128]⟩ : Shape).Idx → EReal

namespace Args

variable (A : Args)

/-- The query heads: five of them, `r`, share key head `g`. -/
def Q (b : Fin 6) (g : Fin 8) (r : Fin 5) (i : Fin 4096) : Fin 128 → EReal :=
  rot (fun y => A.q (ix4 b i ⟨g.val * 5 + r.val, by omega⟩ y)) (fun y => A.cs (ix3 b y i)) (fun y => A.sn (ix3 b y i))
/-- The incoming gradient of a query head, -/
def D (b : Fin 6) (g : Fin 8) (r : Fin 5) (i : Fin 4096) (y : Fin 128) : EReal := A.d (ix4 b i ⟨g.val * 5 + r.val, by omega⟩ y)
/-- a key head -/
def K (b : Fin 6) (g : Fin 8) (j : Fin 4096) (y : Fin 128) : EReal := A.k (ix4 b j g y)
/-- and a value head. -/
def V (b : Fin 6) (g : Fin 8) (j : Fin 4096) (y : Fin 128) : EReal := A.v (ix4 b j g y)

/-- The results: of each query, the greatest magnitude of the rotated query, -/
def rowQ : (⟨4, ![6, 8, 5, 4096]⟩ : Shape).Idx → EReal := fun i => top fun y => mag (A.Q (i 0) (i 1) (i 2) (i 3) y)
/-- of its incoming gradient, -/
def rowD : (⟨4, ![6, 8, 5, 4096]⟩ : Shape).Idx → EReal := fun i => top fun y => mag (A.D (i 0) (i 1) (i 2) (i 3) y)
/-- of its visible scores, -/
def rowSc : (⟨4, ![6, 8, 5, 4096]⟩ : Shape).Idx → EReal := fun i => rowS κs (A.Q (i 0) (i 1) (i 2)) (A.K (i 0) (i 1)) (i 3)
/-- of its output, -/
def rowO : (⟨4, ![6, 8, 5, 4096]⟩ : Shape).Idx → EReal :=
  fun i => top fun y => mag (out κs (A.Q (i 0) (i 1) (i 2)) (A.K (i 0) (i 1)) (A.V (i 0) (i 1)) (i 3) y)
/-- of its score gradient -/
def rowDs : (⟨4, ![6, 8, 5, 4096]⟩ : Shape).Idx → EReal :=
  fun i => top fun j => mag (ds κs (A.Q (i 0) (i 1) (i 2)) (A.K (i 0) (i 1)) (A.V (i 0) (i 1)) (A.D (i 0) (i 1) (i 2)) (i 3) j)
/-- and of its query gradient; -/
def rowDq : (⟨4, ![6, 8, 5, 4096]⟩ : Shape).Idx → EReal :=
  fun i => top fun y => mag (dq κs (A.Q (i 0) (i 1) (i 2)) (A.K (i 0) (i 1)) (A.V (i 0) (i 1)) (A.D (i 0) (i 1) (i 2)) (i 3) y)
/-- the outputs; -/
def outT : (⟨5, ![6, 8, 5, 128, 4096]⟩ : Shape).Idx → EReal :=
  fun i => out κs (A.Q (i 0) (i 1) (i 2)) (A.K (i 0) (i 1)) (A.V (i 0) (i 1)) (i 4) (i 3)
/-- of each key, the greatest magnitude of the key gradient -/
def rowDk : (⟨4, ![6, 8, 1, 4096]⟩ : Shape).Idx → EReal :=
  fun i => top fun y => mag (dk κs (A.Q (i 0) (i 1)) (A.D (i 0) (i 1)) (A.K (i 0) (i 1)) (A.V (i 0) (i 1)) (i 3) y)
/-- and of the value gradient. -/
def rowDv : (⟨4, ![6, 8, 1, 4096]⟩ : Shape).Idx → EReal :=
  fun i => top fun y => mag (dv κs (A.Q (i 0) (i 1)) (A.D (i 0) (i 1)) (A.K (i 0) (i 1)) (i 3) y)

/-- Finite queries, keys, cosines and sines have finite scores. -/
theorem real (hq : ∀ i, IsR (A.q i)) (hk : ∀ i, IsR (A.k i)) (hc : ∀ i, IsR (A.cs i)) (hs : ∀ i, IsR (A.sn i))
    (b : Fin 6) (g : Fin 8) (r : Fin 5) (i j : Fin 4096) : IsR (raw (A.Q b g r) (A.K b g) i j) := by
  refine IsR.sum _ fun y _ => (hk _).mul ?_
  rw [Q, rot]
  split
  · exact ((hq _).mul (hc _)).sub ((hq _).mul (hs _))
  · exact ((hq _).mul (hc _)).add ((hq _).mul (hs _))

end Args

end Attn

end
-- ==== Proof.KiIn.lean ====
/-
  What the attention call's windows hold: each operand block, element by element, in the argument arrays.
-/
module

public import proofs.«01_k».proof.Proof.KiRun
public import proofs.«01_k».proof.Proof.KiVal
public import proofs.«01_k».proof.Proof.Args
public import Idealize.ShloMosaic.Lib.Claim
public import Idealize.ShloMosaic.Lib.Pipeline.ValueKit

@[expose] public section

set_option maxRecDepth 16384

noncomputable section

namespace Cert.KernelIdeal.Body

open Cert.KernelIdeal Cert.KernelIdeal.Gen
open Idealize.ShloMosaic Idealize.ShloMosaic.TcCoe
open Attn

variable (m : (ℓ : Loc nD τ sig) → Buf (Elt Ideal) ℓ) (c : Dev nD) (t : Fin cfg0.N)

/-- The arguments in a memory. -/
def args : Args where
  q := m ((c : Thread nD τ).loc main_arg0)
  k := m ((c : Thread nD τ).loc main_arg1)
  v := m ((c : Thread nD τ).loc main_arg2)
  cs := m ((c : Thread nD τ).loc main_arg3)
  sn := m ((c : Thread nD τ).loc main_arg4)
  d := m ((c : Thread nD τ).loc main_arg5)

/-! ## The grid -/

theorem lt_N : t.val < 768 := t.isLt

/-- The batch of a grid point -/
def bO : Fin 6 := ⟨t.val / 128, by have := lt_N t; omega⟩
/-- and its key head. -/
def gO : Fin 8 := ⟨t.val / 16 % 8, by omega⟩

theorem coords0 : (grid0.coords t 0).val = t.val / 128 :=
  (Pipeline.Grid.coords_val t 0 (S := 128) (B := 6) (by decide) rfl).trans (by have := lt_N t; omega)
theorem coords1 : (grid0.coords t 1).val = t.val / 16 % 8 :=
  Pipeline.Grid.coords_val t 1 (S := 16) (B := 8) (by decide) rfl

theorem word0 : (BitVec.ofNat 32 (grid0.coords t 0).val).toNat = (bO t).val := by
  rw [coords0, BitVec.toNat_ofNat, bO]; have := lt_N t; dsimp only; omega
theorem word1 : (BitVec.ofNat 32 (grid0.coords t 1).val).toNat = (gO t).val := by
  rw [coords1, BitVec.toNat_ofNat, gO]; dsimp only; omega
theorem word2 : (BitVec.ofNat 32 (grid0.coords t 2).val).toNat = t.val % 16 := by
  rw [coords2, BitVec.toNat_ofNat]; omega

theorem idx_0 : win0_0.index t = ![(bO t).val, (gO t).val, 0, 0, t.val % 16] := by
  rw [← word0, ← word1, ← word2]; rfl
theorem idx_1 : win0_1.index t = ![(bO t).val, (gO t).val, 0, 0, t.val % 16] := by
  rw [← word0, ← word1, ← word2]; rfl
theorem idx_2 : win0_2.index t = ![(bO t).val, 0, t.val % 16] := by
  rw [← word0, ← word2]; rfl
theorem idx_3 : win0_3.index t = ![(bO t).val, 0, t.val % 16] := by
  rw [← word0, ← word2]; rfl
theorem idx_4 : win0_4.index t = ![(bO t).val, (gO t).val, 0, 0] := by
  rw [← word0, ← word1]; rfl
theorem idx_5 : win0_5.index t = ![(bO t).val, (gO t).val, 0, 0] := by
  rw [← word0, ← word1]; rfl
theorem idx_6 : win0_6.index t = ![(bO t).val, (gO t).val, 0, 0] := by
  rw [← word0, ← word1]; rfl
theorem idx_7 : win0_7.index t = ![(bO t).val, (gO t).val, 0, 0] := by
  rw [← word0, ← word1]; rfl

/-! ## The operands, as the call finds them -/

theorem V_v1 (b : Fin 6) (g : Fin 8) (r : Fin 5) (y : Fin 128) (i : Fin 4096) :
    V m c main_v1 (ix5 b g r y i) = (args m c).q (ix4 b i ⟨g.val * 5 + r.val, by omega⟩ y) := by
  entry_read
  pointwise
  rfl
theorem V_v3 (b : Fin 6) (g : Fin 8) (r : Fin 5) (y : Fin 128) (i : Fin 4096) :
    V m c main_v3 (ix5 b g r y i) = (args m c).d (ix4 b i ⟨g.val * 5 + r.val, by omega⟩ y) := by
  entry_read
  pointwise
  rfl
theorem V_v4 (b : Fin 6) (g : Fin 8) (y : Fin 128) (i : Fin 4096) :
    V m c main_v4 (ix4 b g y i) = (args m c).k (ix4 b i g y) := by
  entry_read
  pointwise
  rfl
theorem V_v5 (b : Fin 6) (g : Fin 8) (y : Fin 128) (i : Fin 4096) :
    V m c main_v5 (ix4 b g y i) = (args m c).v (ix4 b i g y) := by
  entry_read
  pointwise
  rfl
theorem V_v6 (b : Fin 6) (g : Fin 8) (y : Fin 128) (i : Fin 4096) :
    V m c main_v6 (ix4 b g i y) = (args m c).k (ix4 b i g y) := by
  entry_read
  pointwise
  rfl
theorem V_v7 (b : Fin 6) (g : Fin 8) (y : Fin 128) (i : Fin 4096) :
    V m c main_v7 (ix4 b g i y) = (args m c).v (ix4 b i g y) := by
  entry_read
  pointwise
  rfl

/-! ## The operands' blocks -/

theorem blk_0 (r : Fin 5) (y : Fin 128) (x : Fin 256) :
    iblk m c 0 t (ix5 0 0 r y x) = (args m c).q (ix4 (bO t) (pos (t.val % 16) x) ⟨(gO t).val * 5 + r.val, by omega⟩ y) := by
  rw [← V_v1]
  blk_ext [iblk, V, idx_0 t]
  exact (pos_val (by omega) x).symm
theorem blk_1 (r : Fin 5) (y : Fin 128) (x : Fin 256) :
    iblk m c 1 t (ix5 0 0 r y x) = (args m c).d (ix4 (bO t) (pos (t.val % 16) x) ⟨(gO t).val * 5 + r.val, by omega⟩ y) := by
  rw [← V_v3]
  blk_ext [iblk, V, idx_1 t]
  exact (pos_val (by omega) x).symm
theorem blk_2 (y : Fin 64) (x : Fin 256) : iblk m c 2 t (ix3 0 y x) = (args m c).cs (ix3 (bO t) y (pos (t.val % 16) x)) := by
  show _ = m ((c : Thread nD τ).loc main_arg3) (ix3 (bO t) y (pos (t.val % 16) x))
  rw [← V_main_arg3 m c]
  blk_ext [iblk, V, idx_2 t]
  exact (pos_val (by omega) x).symm
theorem blk_3 (y : Fin 64) (x : Fin 256) : iblk m c 3 t (ix3 0 y x) = (args m c).sn (ix3 (bO t) y (pos (t.val % 16) x)) := by
  show _ = m ((c : Thread nD τ).loc main_arg4) (ix3 (bO t) y (pos (t.val % 16) x))
  rw [← V_main_arg4 m c]
  blk_ext [iblk, V, idx_3 t]
  exact (pos_val (by omega) x).symm
theorem blk_4 (n : Fin 4096) (y : Fin 128) : iblk m c 4 t (ix4 0 0 n y) = (args m c).K (bO t) (gO t) n y := by
  rw [Args.K, ← V_v6]
  blk_ext [iblk, V, idx_4 t]
theorem blk_5 (n : Fin 4096) (y : Fin 128) : iblk m c 5 t (ix4 0 0 y n) = (args m c).K (bO t) (gO t) n y := by
  rw [Args.K, ← V_v4]
  blk_ext [iblk, V, idx_5 t]
theorem blk_6 (n : Fin 4096) (y : Fin 128) : iblk m c 6 t (ix4 0 0 n y) = (args m c).V (bO t) (gO t) n y := by
  rw [Args.V, ← V_v7]
  blk_ext [iblk, V, idx_6 t]
theorem blk_7 (n : Fin 4096) (y : Fin 128) : iblk m c 7 t (ix4 0 0 y n) = (args m c).V (bO t) (gO t) n y := by
  rw [Args.V, ← V_v5]
  blk_ext [iblk, V, idx_7 t]

/-- A head of a block of five. -/
theorem head5_at (X : (⟨5, ![1, 1, 5, 128, 256]⟩ : Shape).Idx → EReal) (h : Fin 5) (y : Fin 128) (x : Fin 256) :
    head5 X h.val (ix5 0 0 0 y x) = X (ix5 0 0 h y x) :=
  congrArg (fun r => X (ix5 0 0 r y x)) (Fin.ext (show (h.val * 1 + 0) % 5 = h.val by omega))

variable (hr : ∀ b g r i j, IsR (raw ((args m c).Q b g r) ((args m c).K b g) i j))
include hr

/-- The blocks of a grid point hold its query block of the five heads, and its key head's keys and values. -/
theorem ok : Ok (inAt m c t) (t.val % 16) ((args m c).Q (bO t) (gO t)) ((args m c).D (bO t) (gO t)) ((args m c).K (bO t) (gO t))
    ((args m c).V (bO t) (gO t)) where
  lt := by omega
  q h y x := by
    show k0_pay17 (F := Ideal) (head5 (iblk m c 0 t) h.val) (iblk m c 2 t) (iblk m c 3 t) (ix2 y x) = _
    rw [pay17_apply]
    simp only [head5_at, blk_0, blk_2, blk_3]
    rfl
  d h y x := by
    show k0_pay18 (F := Ideal) (head5 (iblk m c 1 t) h.val) (ix2 y x) = _
    rw [pay18_apply, head5_at, blk_1]
    rfl
  kr n y := blk_4 m c t n y
  kt n y := blk_5 m c t n y
  vr n y := blk_6 m c t n y
  vt n y := blk_7 m c t n y
  real h := hr (bO t) (gO t) h

end Cert.KernelIdeal.Body

end
-- ==== Proof.KiArr.lean ====
/-
  The attention call's result arrays after the run: each is the gradients' result.
-/
module

public import proofs.«01_k».proof.Proof.KiIn
public import Idealize.ShloMosaic.Lib.Pipeline.Covers

@[expose] public section

set_option maxRecDepth 16384

noncomputable section

namespace Cert.KernelIdeal.Body

open Cert.KernelIdeal Cert.KernelIdeal.Gen
open Idealize.ShloMosaic Idealize.ShloMosaic.TcCoe
open Attn

variable (m : (ℓ : Loc nD τ sig) → Buf (Elt Ideal) ℓ) (c : Dev nD)

/-- A grid point by its coordinates' words. -/
theorem point_of {b g q : ℕ} (hb : b < 6) (hg : g < 8) (hq : q < 16) : ∃ i : grid0.Coords, (BitVec.ofNat 32 (i 0).val).toNat = b
    ∧ (BitVec.ofNat 32 (i 1).val).toNat = g ∧ (BitVec.ofNat 32 (i 2).val).toNat = q :=
  ⟨fun | 0 => ⟨b, hb⟩ | 1 => ⟨g, hg⟩ | 2 => ⟨q, hq⟩,
    by show b % 2 ^ 32 = b; omega, by show g % 2 ^ 32 = g; omega, by show q % 2 ^ 32 = q; omega⟩

/-! ## Which point writes an element -/

theorem cov_8 : (cfg0.win 8).Covers :=
  Pipeline.Window.covers_of_indexMap_surj (cfg0.win 8) rfl (by decide) fun β => by
    obtain ⟨i, h0, h1, h2⟩ := point_of (b := (β 0).val) (g := (β 1).val) (q := (β 3).val) (β 0).isLt (β 1).isLt (β 3).isLt
    refine ⟨i, fun a => ?_⟩
    match a with
    | 0 => exact h0
    | 1 => exact h1
    | 2 => exact (Nat.lt_one_iff.mp (show (β 2).val < 1 from (β 2).isLt)).symm
    | 3 => exact h2
theorem cov_9 : (cfg0.win 9).Covers :=
  Pipeline.Window.covers_of_indexMap_surj (cfg0.win 9) rfl (by decide) fun β => by
    obtain ⟨i, h0, h1, h2⟩ := point_of (b := (β 0).val) (g := (β 1).val) (q := (β 3).val) (β 0).isLt (β 1).isLt (β 3).isLt
    refine ⟨i, fun a => ?_⟩
    match a with
    | 0 => exact h0
    | 1 => exact h1
    | 2 => exact (Nat.lt_one_iff.mp (show (β 2).val < 1 from (β 2).isLt)).symm
    | 3 => exact h2
theorem cov_10 : (cfg0.win 10).Covers :=
  Pipeline.Window.covers_of_indexMap_surj (cfg0.win 10) rfl (by decide) fun β => by
    obtain ⟨i, h0, h1, h2⟩ := point_of (b := (β 0).val) (g := (β 1).val) (q := (β 3).val) (β 0).isLt (β 1).isLt (β 3).isLt
    refine ⟨i, fun a => ?_⟩
    match a with
    | 0 => exact h0
    | 1 => exact h1
    | 2 => exact (Nat.lt_one_iff.mp (show (β 2).val < 1 from (β 2).isLt)).symm
    | 3 => exact h2
theorem cov_11 : (cfg0.win 11).Covers :=
  Pipeline.Window.covers_of_indexMap_surj (cfg0.win 11) rfl (by decide) fun β => by
    obtain ⟨i, h0, h1, h2⟩ := point_of (b := (β 0).val) (g := (β 1).val) (q := (β 3).val) (β 0).isLt (β 1).isLt (β 3).isLt
    refine ⟨i, fun a => ?_⟩
    match a with
    | 0 => exact h0
    | 1 => exact h1
    | 2 => exact (Nat.lt_one_iff.mp (show (β 2).val < 1 from (β 2).isLt)).symm
    | 3 => exact h2
theorem cov_12 : (cfg0.win 12).Covers :=
  Pipeline.Window.covers_of_indexMap_surj (cfg0.win 12) rfl (by decide) fun β => by
    obtain ⟨i, h0, h1, h2⟩ := point_of (b := (β 0).val) (g := (β 1).val) (q := (β 3).val) (β 0).isLt (β 1).isLt (β 3).isLt
    refine ⟨i, fun a => ?_⟩
    match a with
    | 0 => exact h0
    | 1 => exact h1
    | 2 => exact (Nat.lt_one_iff.mp (show (β 2).val < 1 from (β 2).isLt)).symm
    | 3 => exact h2
theorem cov_13 : (cfg0.win 13).Covers :=
  Pipeline.Window.covers_of_indexMap_surj (cfg0.win 13) rfl (by decide) fun β => by
    obtain ⟨i, h0, h1, h2⟩ := point_of (b := (β 0).val) (g := (β 1).val) (q := (β 3).val) (β 0).isLt (β 1).isLt (β 3).isLt
    refine ⟨i, fun a => ?_⟩
    match a with
    | 0 => exact h0
    | 1 => exact h1
    | 2 => exact (Nat.lt_one_iff.mp (show (β 2).val < 1 from (β 2).isLt)).symm
    | 3 => exact h2
theorem cov_14 : (cfg0.win 14).Covers :=
  Pipeline.Window.covers_of_indexMap_surj (cfg0.win 14) rfl (by decide) fun β => by
    obtain ⟨i, h0, h1, h2⟩ := point_of (b := (β 0).val) (g := (β 1).val) (q := (β 4).val) (β 0).isLt (β 1).isLt (β 4).isLt
    refine ⟨i, fun a => ?_⟩
    match a with
    | 0 => exact h0
    | 1 => exact h1
    | 2 => exact (Nat.lt_one_iff.mp (show (β 2).val < 1 from (β 2).isLt)).symm
    | 3 => exact (Nat.lt_one_iff.mp (show (β 3).val < 1 from (β 3).isLt)).symm
    | 4 => exact h2
theorem cov_15 : (cfg0.win 15).Covers :=
  Pipeline.Window.covers_of_indexMap_surj (cfg0.win 15) rfl (by decide) fun β => by
    obtain ⟨i, h0, h1, -⟩ := point_of (b := (β 0).val) (g := (β 1).val) (q := 0) (β 0).isLt (β 1).isLt (by decide)
    refine ⟨i, fun a => ?_⟩
    match a with
    | 0 => exact h0
    | 1 => exact h1
    | 2 => exact (Nat.lt_one_iff.mp (show (β 2).val < 1 from (β 2).isLt)).symm
    | 3 => exact (Nat.lt_one_iff.mp (show (β 3).val < 1 from (β 3).isLt)).symm
theorem cov_16 : (cfg0.win 16).Covers :=
  Pipeline.Window.covers_of_indexMap_surj (cfg0.win 16) rfl (by decide) fun β => by
    obtain ⟨i, h0, h1, -⟩ := point_of (b := (β 0).val) (g := (β 1).val) (q := 0) (β 0).isLt (β 1).isLt (by decide)
    refine ⟨i, fun a => ?_⟩
    match a with
    | 0 => exact h0
    | 1 => exact h1
    | 2 => exact (Nat.lt_one_iff.mp (show (β 2).val < 1 from (β 2).isLt)).symm
    | 3 => exact (Nat.lt_one_iff.mp (show (β 3).val < 1 from (β 3).isLt)).symm

section
variable (t : Fin cfg0.N)

theorem idx_8 : win0_8.index t = ![(bO t).val, (gO t).val, 0, t.val % 16] := by
  rw [← word0, ← word1, ← word2]; rfl
theorem idx_9 : win0_9.index t = ![(bO t).val, (gO t).val, 0, t.val % 16] := by
  rw [← word0, ← word1, ← word2]; rfl
theorem idx_10 : win0_10.index t = ![(bO t).val, (gO t).val, 0, t.val % 16] := by
  rw [← word0, ← word1, ← word2]; rfl
theorem idx_11 : win0_11.index t = ![(bO t).val, (gO t).val, 0, t.val % 16] := by
  rw [← word0, ← word1, ← word2]; rfl
theorem idx_12 : win0_12.index t = ![(bO t).val, (gO t).val, 0, t.val % 16] := by
  rw [← word0, ← word1, ← word2]; rfl
theorem idx_13 : win0_13.index t = ![(bO t).val, (gO t).val, 0, t.val % 16] := by
  rw [← word0, ← word1, ← word2]; rfl
theorem idx_14 : win0_14.index t = ![(bO t).val, (gO t).val, 0, 0, t.val % 16] := by
  rw [← word0, ← word1, ← word2]; rfl
theorem idx_15 : win0_15.index t = ![(bO t).val, (gO t).val, 0, 0] := by
  rw [← word0, ← word1]; rfl
theorem idx_16 : win0_16.index t = ![(bO t).val, (gO t).val, 0, 0] := by
  rw [← word0, ← word1]; rfl

theorem emb_8 (G : S6x8x5x4096.Idx → EReal) (r : Fin 5) (x : Fin 256) :
    G ((win0_8.blk t).view.emb (ix4 0 0 r x)) = G (ix4 (bO t) (gO t) r (pos (t.val % 16) x)) := by
  blk_ext [idx_8 t]
  exact (pos_val (by omega) x).symm
theorem emb_9 (G : S6x8x5x4096.Idx → EReal) (r : Fin 5) (x : Fin 256) :
    G ((win0_9.blk t).view.emb (ix4 0 0 r x)) = G (ix4 (bO t) (gO t) r (pos (t.val % 16) x)) := by
  blk_ext [idx_9 t]
  exact (pos_val (by omega) x).symm
theorem emb_10 (G : S6x8x5x4096.Idx → EReal) (r : Fin 5) (x : Fin 256) :
    G ((win0_10.blk t).view.emb (ix4 0 0 r x)) = G (ix4 (bO t) (gO t) r (pos (t.val % 16) x)) := by
  blk_ext [idx_10 t]
  exact (pos_val (by omega) x).symm
theorem emb_11 (G : S6x8x5x4096.Idx → EReal) (r : Fin 5) (x : Fin 256) :
    G ((win0_11.blk t).view.emb (ix4 0 0 r x)) = G (ix4 (bO t) (gO t) r (pos (t.val % 16) x)) := by
  blk_ext [idx_11 t]
  exact (pos_val (by omega) x).symm
theorem emb_12 (G : S6x8x5x4096.Idx → EReal) (r : Fin 5) (x : Fin 256) :
    G ((win0_12.blk t).view.emb (ix4 0 0 r x)) = G (ix4 (bO t) (gO t) r (pos (t.val % 16) x)) := by
  blk_ext [idx_12 t]
  exact (pos_val (by omega) x).symm
theorem emb_13 (G : S6x8x5x4096.Idx → EReal) (r : Fin 5) (x : Fin 256) :
    G ((win0_13.blk t).view.emb (ix4 0 0 r x)) = G (ix4 (bO t) (gO t) r (pos (t.val % 16) x)) := by
  blk_ext [idx_13 t]
  exact (pos_val (by omega) x).symm
theorem emb_14 (G : S6x8x5x128x4096.Idx → EReal) (r : Fin 5) (y : Fin 128) (x : Fin 256) :
    G ((win0_14.blk t).view.emb (ix5 0 0 r y x)) = G (ix5 (bO t) (gO t) r y (pos (t.val % 16) x)) := by
  blk_ext [idx_14 t]
  exact (pos_val (by omega) x).symm
theorem emb_15 (G : S6x8x1x4096.Idx → EReal) (x : Fin 4096) :
    G ((win0_15.blk t).view.emb (ix4 0 0 0 x)) = G (ix4 (bO t) (gO t) 0 x) := by
  blk_ext [idx_15 t]
theorem emb_16 (G : S6x8x1x4096.Idx → EReal) (x : Fin 4096) :
    G ((win0_16.blk t).view.emb (ix4 0 0 0 x)) = G (ix4 (bO t) (gO t) 0 x) := by
  blk_ext [idx_16 t]

end

/-- A row of a block of five, -/
theorem of_row4_at (P : ℕ → (⟨4, ![1, 1, 1, 256]⟩ : Shape).Idx → EReal) (r : Fin 5) (x : Fin 256) :
    of_row4 P (ix4 0 0 r x) = P r.val (ix4 0 0 0 x) := by
  show P (r.val / 1) (ix4 0 0 ⟨r.val % 1, _⟩ x) = _
  rw [Nat.div_one]
  exact congrArg (fun z => P r.val (ix4 0 0 z x)) (Subsingleton.elim _ _)
/-- and a head. -/
theorem of_head5_at (P : ℕ → (⟨5, ![1, 1, 1, 128, 256]⟩ : Shape).Idx → EReal) (r : Fin 5) (y : Fin 128) (x : Fin 256) :
    of_head5 P (ix5 0 0 r y x) = P r.val (ix5 0 0 0 y x) := by
  show P (r.val / 1) (ix5 0 0 ⟨r.val % 1, _⟩ y x) = _
  rw [Nat.div_one]
  exact congrArg (fun z => P r.val (ix5 0 0 z y x)) (Subsingleton.elim _ _)

/-! ## The rows and the output -/

variable (hr : ∀ b g r i j, IsR (raw ((args m c).Q b g r) ((args m c).K b g) i j))
include hr

theorem arr_8 : (dats m 0 c).arrAt 8 cfg0.N = (args m c).rowQ := by
  refine (dats m 0 c).arrAt_eq_of_covers 8 (args m c).rowQ cov_8 fun t hf y => ?_
  rw [after_8]
  idx_vars y
  obtain rfl : y0 = 0 := Subsingleton.elim _ _
  obtain rfl : y1 = 0 := Subsingleton.elim _ _
  blk_simp [idx_8 t]
  rw [emb_8 t (args m c).rowQ y2 y3]
  exact (of_row4_at _ y2 y3).trans (p11_eq (ok m c t hr) y2 y3)
theorem arr_9 : (dats m 0 c).arrAt 9 cfg0.N = (args m c).rowD := by
  refine (dats m 0 c).arrAt_eq_of_covers 9 (args m c).rowD cov_9 fun t hf y => ?_
  rw [after_9]
  idx_vars y
  obtain rfl : y0 = 0 := Subsingleton.elim _ _
  obtain rfl : y1 = 0 := Subsingleton.elim _ _
  blk_simp [idx_9 t]
  rw [emb_9 t (args m c).rowD y2 y3]
  exact (of_row4_at _ y2 y3).trans (p12_eq (ok m c t hr) y2 y3)
theorem arr_10 : (dats m 0 c).arrAt 10 cfg0.N = (args m c).rowSc := by
  refine (dats m 0 c).arrAt_eq_of_covers 10 (args m c).rowSc cov_10 fun t hf y => ?_
  rw [after_10]
  idx_vars y
  obtain rfl : y0 = 0 := Subsingleton.elim _ _
  obtain rfl : y1 = 0 := Subsingleton.elim _ _
  blk_simp [idx_10 t]
  rw [emb_10 t (args m c).rowSc y2 y3]
  exact (of_row4_at _ y2 y3).trans (p13_eq (ok m c t hr) y2 y3)
theorem arr_11 : (dats m 0 c).arrAt 11 cfg0.N = (args m c).rowO := by
  refine (dats m 0 c).arrAt_eq_of_covers 11 (args m c).rowO cov_11 fun t hf y => ?_
  rw [after_11]
  idx_vars y
  obtain rfl : y0 = 0 := Subsingleton.elim _ _
  obtain rfl : y1 = 0 := Subsingleton.elim _ _
  blk_simp [idx_11 t]
  rw [emb_11 t (args m c).rowO y2 y3]
  exact (of_row4_at _ y2 y3).trans (p14_eq (ok m c t hr) y2 y3)
theorem arr_12 : (dats m 0 c).arrAt 12 cfg0.N = (args m c).rowDs := by
  refine (dats m 0 c).arrAt_eq_of_covers 12 (args m c).rowDs cov_12 fun t hf y => ?_
  rw [after_12]
  idx_vars y
  obtain rfl : y0 = 0 := Subsingleton.elim _ _
  obtain rfl : y1 = 0 := Subsingleton.elim _ _
  blk_simp [idx_12 t]
  rw [emb_12 t (args m c).rowDs y2 y3]
  exact (of_row4_at _ y2 y3).trans (p15_eq (ok m c t hr) y2 y3)
theorem arr_13 : (dats m 0 c).arrAt 13 cfg0.N = (args m c).rowDq := by
  refine (dats m 0 c).arrAt_eq_of_covers 13 (args m c).rowDq cov_13 fun t hf y => ?_
  rw [after_13]
  idx_vars y
  obtain rfl : y0 = 0 := Subsingleton.elim _ _
  obtain rfl : y1 = 0 := Subsingleton.elim _ _
  blk_simp [idx_13 t]
  rw [emb_13 t (args m c).rowDq y2 y3]
  exact (of_row4_at _ y2 y3).trans (p16_eq (ok m c t hr) y2 y3)
theorem arr_14 : (dats m 0 c).arrAt 14 cfg0.N = (args m c).outT := by
  refine (dats m 0 c).arrAt_eq_of_covers 14 (args m c).outT cov_14 fun t hf y => ?_
  rw [after_14]
  idx_vars y
  obtain rfl : y0 = 0 := Subsingleton.elim _ _
  obtain rfl : y1 = 0 := Subsingleton.elim _ _
  blk_simp [idx_14 t]
  rw [emb_14 t (args m c).outT y2 y3 y4]
  exact (of_head5_at _ y2 y3 y4).trans (p17_eq (ok m c t hr) y2 y4 y3)

end Cert.KernelIdeal.Body

end
-- ==== Proof.KiAcc.lean ====
/-
  The gradients of the keys and the values: what the accumulators hold after each query block, and the two result arrays.
-/
module

public import proofs.«01_k».proof.Proof.KiArr

@[expose] public section

set_option maxRecDepth 16384

noncomputable section

namespace Cert.KernelIdeal.Body

open Cert.KernelIdeal Cert.KernelIdeal.Gen
open Idealize.ShloMosaic Idealize.ShloMosaic.TcCoe
open Attn

variable (m : (ℓ : Loc nD τ sig) → Buf (Elt Ideal) ℓ) (c : Dev nD)

/-- The point before one whose query block is not its key head's first has the same batch and key head. -/
theorem prev (t : Fin cfg0.N) {n : ℕ} (h : t.val % 16 = n + 1) :
    ∃ s : Fin cfg0.N, s.val + 1 = t.val ∧ s.val % 16 = n ∧ bO s = bO t ∧ gO s = gO t := by
  have ht := t.isLt
  refine ⟨⟨t.val - 1, by omega⟩, ?_, ?_, Fin.ext ?_, Fin.ext ?_⟩
  · show t.val - 1 + 1 = t.val
    omega
  · show (t.val - 1) % 16 = n
    omega
  · show (t.val - 1) / 128 = t.val / 128
    omega
  · show (t.val - 1) / 16 % 8 = t.val / 16 % 8
    omega

theorem K0_apply (j : ℕ) (y : Fin 128) (w : Fin 256) : K0 (F := Ideal) j (ix2 y w) = 0 := by
  show k0_pay1 (F := Ideal) (ix2 y ⟨(j * 256 + w.val) % 4096, Nat.mod_lt _ (by decide)⟩) = 0
  rw [pay1_apply]
theorem W0_apply (j : ℕ) (y : Fin 128) (w : Fin 256) : W0 (F := Ideal) j (ix2 y w) = 0 := by
  show k0_pay2 (F := Ideal) (ix2 y ⟨(j * 256 + w.val) % 4096, Nat.mod_lt _ (by decide)⟩) = 0
  rw [pay2_apply]

/-- An array of column blocks, -/
theorem of_cols2_at (P : ℕ → (⟨2, ![128, 256]⟩ : Shape).Idx → EReal) (y : Fin 128) (i : Fin 4096) :
    of_cols2 P (ix2 y i) = P (i.val / 256) (ix2 y ⟨i.val % 256, Nat.mod_lt _ (by decide)⟩) := rfl
/-- and the column its block is at. -/
theorem pos_div (i : Fin 4096) : pos (i.val / 256) ⟨i.val % 256, Nat.mod_lt _ (by decide)⟩ = i := by
  refine Fin.ext ?_
  rw [pos_val (by omega)]
  dsimp only
  omega

variable (hr : ∀ b g r i j, IsR (raw ((args m c).Q b g r) ((args m c).K b g) i j))
include hr

/-- After query block `n` the accumulator holds the sum of the blocks so far. -/
theorem accK_eq {j : ℕ} (hj : j < 16) (y : Fin 128) (w : Fin 256) : ∀ (n : ℕ) (t : Fin cfg0.N), t.val % 16 = n →
    accK m c (t.val + 1) j (ix2 y w) = ∑ qb ∈ Finset.range (n + 1), ∑ h ∈ Finset.range 5,
      dkT ((args m c).Q (bO t) (gO t)) ((args m c).D (bO t) (gO t)) ((args m c).K (bO t) (gO t)) ((args m c).V (bO t) (gO t)) qb (pos j w) y h
  | 0, t, ht => by
    rw [accK_succ, dkA_eq (ok m c t hr) _ hj w y 5 le_rfl, inK, if_pos ht, K0_apply, zero_add, ht, Finset.sum_range_one]
  | n + 1, t, ht => by
    obtain ⟨s, e, hs, hb, hg⟩ := prev t ht
    rw [accK_succ, dkA_eq (ok m c t hr) _ hj w y 5 le_rfl, inK, if_neg (by omega), ← e, accK_eq hj y w n s hs, hb, hg, e, ht,
      Finset.sum_range_succ _ (n + 1)]

theorem accV_eq {j : ℕ} (hj : j < 16) (y : Fin 128) (w : Fin 256) : ∀ (n : ℕ) (t : Fin cfg0.N), t.val % 16 = n →
    accV m c (t.val + 1) j (ix2 y w) = ∑ qb ∈ Finset.range (n + 1), ∑ h ∈ Finset.range 5,
      dvT ((args m c).Q (bO t) (gO t)) ((args m c).D (bO t) (gO t)) ((args m c).K (bO t) (gO t)) qb (pos j w) y h
  | 0, t, ht => by
    rw [accV_succ, dvA_eq (ok m c t hr) _ hj w y 5 le_rfl, inV, if_pos ht, W0_apply, zero_add, ht, Finset.sum_range_one]
  | n + 1, t, ht => by
    obtain ⟨s, e, hs, hb, hg⟩ := prev t ht
    rw [accV_succ, dvA_eq (ok m c t hr) _ hj w y 5 le_rfl, inV, if_neg (by omega), ← e, accV_eq hj y w n s hs, hb, hg, e, ht,
      Finset.sum_range_succ _ (n + 1)]

theorem arr_15 : (dats m 0 c).arrAt 15 cfg0.N = (args m c).rowDk := by
  refine (dats m 0 c).arrAt_eq_of_covers 15 (args m c).rowDk cov_15 fun t hf y => ?_
  have ht : t.val % 16 = 15 := (flush0_15 t).mp hf
  rw [after_15, ← accK_succ]
  idx_vars y
  obtain rfl : y0 = 0 := Subsingleton.elim _ _
  obtain rfl : y1 = 0 := Subsingleton.elim _ _
  obtain rfl : y2 = 0 := Subsingleton.elim _ _
  blk_simp [idx_15 t]
  rw [emb_15 t (args m c).rowDk y3]
  refine (pay3_apply _ y3).trans ?_
  rw [mul_top _ (coe_pos κs_pos) (EReal.coe_ne_top κs)]
  refine congrArg top (funext fun y => ?_)
  rw [← mag_mul _ (coe_pos κs_pos) (EReal.coe_ne_top κs), of_cols2_at, accK_eq m c hr (by omega) y _ 15 t ht, pos_div, dk_total]
  rfl

theorem arr_16 : (dats m 0 c).arrAt 16 cfg0.N = (args m c).rowDv := by
  refine (dats m 0 c).arrAt_eq_of_covers 16 (args m c).rowDv cov_16 fun t hf y => ?_
  have ht : t.val % 16 = 15 := (flush0_16 t).mp hf
  rw [after_16, ← accV_succ]
  idx_vars y
  obtain rfl : y0 = 0 := Subsingleton.elim _ _
  obtain rfl : y1 = 0 := Subsingleton.elim _ _
  obtain rfl : y2 = 0 := Subsingleton.elim _ _
  blk_simp [idx_16 t]
  rw [emb_16 t (args m c).rowDv y3]
  refine (pay4_apply _ y3).trans ?_
  refine congrArg top (funext fun y => ?_)
  rw [of_cols2_at, accV_eq m c hr (by omega) y _ 15 t ht, pos_div, dv_total]
  rfl

end Cert.KernelIdeal.Body

end
-- ==== Proof.KiOut.lean ====
/-
  The kernel's run: its nine results are the attention gradients' results.
-/
module

public import proofs.«01_k».proof.Proof.KiAcc

@[expose] public section

set_option maxRecDepth 16384

noncomputable section

namespace Cert.KernelIdeal.Body

open Cert.KernelIdeal Cert.KernelIdeal.Gen
open Idealize.ShloMosaic Idealize.ShloMosaic.TcCoe Idealize.SL.Sem
open Attn

variable (m : (ℓ : Loc nD τ sig) → Buf (Elt Ideal) ℓ) (ρ : Dev nD → PrngReg)

/-- Every run of the kernel on finite queries and keys ends with the results at the gradients'. -/
theorem run_args (hr : ∀ c b g r i j, IsR (raw ((args m c).Q b g r) ((args m c).K b g) i j)) :
    θ_run defs (onTc (τ := τ) (main (F := Ideal))) ⟨m, fun _ => 0, ρ⟩ fun r => ∀ c : Dev nD,
      r.2.mem ((c.tc : Thread nD τ).loc main_v8_0) = (args m c).rowQ
      ∧ r.2.mem ((c.tc : Thread nD τ).loc main_v8_1) = (args m c).rowD
      ∧ r.2.mem ((c.tc : Thread nD τ).loc main_v8_2) = (args m c).rowSc
      ∧ r.2.mem ((c.tc : Thread nD τ).loc main_v8_3) = (args m c).rowO
      ∧ r.2.mem ((c.tc : Thread nD τ).loc main_v8_4) = (args m c).rowDs
      ∧ r.2.mem ((c.tc : Thread nD τ).loc main_v8_5) = (args m c).rowDq
      ∧ r.2.mem ((c.tc : Thread nD τ).loc main_v8_6) = (args m c).outT
      ∧ r.2.mem ((c.tc : Thread nD τ).loc main_v8_7) = (args m c).rowDk
      ∧ r.2.mem ((c.tc : Thread nD τ).loc main_v8_8) = (args m c).rowDv :=
  (θ_run defs _ _).mono (fun r h c =>
    ⟨((h.1 c).1 8).trans (arr_8 m c (hr c)), ((h.1 c).1 9).trans (arr_9 m c (hr c)), ((h.1 c).1 10).trans (arr_10 m c (hr c)),
      ((h.1 c).1 11).trans (arr_11 m c (hr c)), ((h.1 c).1 12).trans (arr_12 m c (hr c)), ((h.1 c).1 13).trans (arr_13 m c (hr c)),
      ((h.1 c).1 14).trans (arr_14 m c (hr c)), ((h.1 c).1 15).trans (arr_15 m c (hr c)), ((h.1 c).1 16).trans (arr_16 m c (hr c))⟩)
    (run m ρ)

end Cert.KernelIdeal.Body

end
-- ==== Proof.RefVal.lean ====
/-
  The reference of the attention gradients, cut into its stages, and each stage read at an index: what the specification says.
-/
module

public import proofs.«01_k».proof.Proof.Gen.ReferenceIdeal.Run
public import proofs.«01_k».proof.Proof.Spec
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Attn

/-- The rotated queries, -/
def rQQ (a0 : FVec Ideal S6x4096x40x128 .bf16) (a3 a4 : FVec Ideal S6x64x4096 .f32) : FVec Ideal S6x8x5x4096x128 .bf16 := (transpose S6x8x5x4096x128 [0, 2, 3, 1, 4] (shapeCast _ (truncf .bf16 (concatenate S6x4096x40x128 3 [⟨S6x4096x40x64, (subf (mulf (extf .f32 (extractStridedSlice S6x4096x40x64 ![0, 0, 0, 0] a0 slices_S6x4096x40x128_S6x4096x40x64_0_0_0_0) bitsLt_bf16_f32) (broadcastInDim S6x4096x40x64 ![0, 1, 2, 3] bcast_S6x4096x1x64_S6x4096x40x64_0_1_2_3 (broadcastInDim S6x4096x1x64 ![0, 1, 3] bcast_S6x4096x64_S6x4096x1x64_0_1_3 (transpose S6x4096x64 [0, 2, 1] a3 transposes_S6x64x4096_S6x4096x64_0_2_1)))) (mulf (extf .f32 (extractStridedSlice S6x4096x40x64 ![0, 0, 0, 64] a0 slices_S6x4096x40x128_S6x4096x40x64_0_0_0_64) bitsLt_bf16_f32) (broadcastInDim S6x4096x40x64 ![0, 1, 2, 3] bcast_S6x4096x1x64_S6x4096x40x64_0_1_2_3 (broadcastInDim S6x4096x1x64 ![0, 1, 3] bcast_S6x4096x64_S6x4096x1x64_0_1_3 (transpose S6x4096x64 [0, 2, 1] a4 transposes_S6x64x4096_S6x4096x64_0_2_1)))))⟩, ⟨S6x4096x40x64, (addf (mulf (extf .f32 (extractStridedSlice S6x4096x40x64 ![0, 0, 0, 64] a0 slices_S6x4096x40x128_S6x4096x40x64_0_0_0_64) bitsLt_bf16_f32) (broadcastInDim S6x4096x40x64 ![0, 1, 2, 3] bcast_S6x4096x1x64_S6x4096x40x64_0_1_2_3 (broadcastInDim S6x4096x1x64 ![0, 1, 3] bcast_S6x4096x64_S6x4096x1x64_0_1_3 (transpose S6x4096x64 [0, 2, 1] a3 transposes_S6x64x4096_S6x4096x64_0_2_1)))) (mulf (extf .f32 (extractStridedSlice S6x4096x40x64 ![0, 0, 0, 0] a0 slices_S6x4096x40x128_S6x4096x40x64_0_0_0_0) bitsLt_bf16_f32) (broadcastInDim S6x4096x40x64 ![0, 1, 2, 3] bcast_S6x4096x1x64_S6x4096x40x64_0_1_2_3 (broadcastInDim S6x4096x1x64 ![0, 1, 3] bcast_S6x4096x64_S6x4096x1x64_0_1_3 (transpose S6x4096x64 [0, 2, 1] a4 transposes_S6x64x4096_S6x4096x64_0_2_1)))))⟩] concatenates_S6x4096x40x64_S6x4096x40x64_S6x4096x40x128_d3) bitsLt_bf16_f32) shapeCasts_S6x4096x40x128_S6x4096x8x5x128) transposes_S6x4096x8x5x128_S6x8x5x4096x128_0_2_3_1_4)

/-- the incoming gradient, -/
def rDD (a5 : FVec Ideal S6x4096x40x128 .bf16) : FVec Ideal S6x8x5x4096x128 .bf16 := (transpose S6x8x5x4096x128 [0, 2, 3, 1, 4] (shapeCast _ a5 shapeCasts_S6x4096x40x128_S6x4096x8x5x128) transposes_S6x4096x8x5x128_S6x8x5x4096x128_0_2_3_1_4)

/-- the keys -/
def rKK (a1 : FVec Ideal S6x4096x8x128 .bf16) : FVec Ideal S6x8x4096x128 .bf16 := (transpose S6x8x4096x128 [0, 2, 1, 3] a1 transposes_S6x4096x8x128_S6x8x4096x128_0_2_1_3)

/-- and the values, each head apart. -/
def rVV (a2 : FVec Ideal S6x4096x8x128 .bf16) : FVec Ideal S6x8x4096x128 .bf16 := (transpose S6x8x4096x128 [0, 2, 1, 3] a2 transposes_S6x4096x8x128_S6x8x4096x128_0_2_1_3)

/-- A query sees no later key. -/
def rMASK  : IVec S6x8x5x4096x4096 1 := (broadcastInDim S6x8x5x4096x4096 ![3, 4] bcast_S4096x4096_S6x8x5x4096x4096_3_4 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))

/-- The scaled scores, -/
def rSS (q : FVec Ideal S6x8x5x4096x128 .bf16) (k : FVec Ideal S6x8x4096x128 .bf16) : FVec Ideal S6x8x5x4096x4096 .f32 := (mulf (Host.dotGeneral dot_S6x8x5x4096x128_S6x8x4096x128_S6x8x5x4096x4096_4_3_23_2_01_01 none q k) (broadcastInDim S6x8x5x4096x4096 ![] bcast_S_S6x8x5x4096x4096 (constant S_ .f32 0x3DB504F3#32)))

/-- masked; -/
def rMS (q : FVec Ideal S6x8x5x4096x128 .bf16) (k : FVec Ideal S6x8x4096x128 .bf16) : FVec Ideal S6x8x5x4096x4096 .f32 := (select rMASK (rSS q k) (broadcastInDim S6x8x5x4096x4096 ![] bcast_S_S6x8x5x4096x4096 (id (constant (F := Ideal) S_ .f32 0xFF800000#32))))

/-- each query's greatest score; -/
def rRD (q : FVec Ideal S6x8x5x4096x128 .bf16) (k : FVec Ideal S6x8x4096x128 .bf16) : FVec Ideal S6x8x5x4096 .f32 := (Host.reduce FloatOps.maximumf (rMS q k) (constant S_ .f32 0xFF800000#32) reducesTo_S6x8x5x4096x4096_S6x8x5x4096_d4 h_S_)

def rMX (q : FVec Ideal S6x8x5x4096x128 .bf16) (k : FVec Ideal S6x8x4096x128 .bf16) : FVec Ideal S6x8x5x4096 .f32 := (maximumf (broadcastInDim S6x8x5x4096 ![] bcast_S_S6x8x5x4096 (constant S_ .f32 0xFF800000#32)) (rRD q k))

/-- the softmax's exponentials -/
def rEE (q : FVec Ideal S6x8x5x4096x128 .bf16) (k : FVec Ideal S6x8x4096x128 .bf16) : FVec Ideal S6x8x5x4096x4096 .f32 := (Host.exp (subf (rMS q k) (broadcastInDim S6x8x5x4096x4096 ![0, 1, 2, 3, 4] bcast_S6x8x5x4096x1_S6x8x5x4096x4096_0_1_2_3_4 (broadcastInDim S6x8x5x4096x1 ![0, 1, 2, 3] bcast_S6x8x5x4096_S6x8x5x4096x1_0_1_2_3 (rMX q k)))))

/-- and probabilities; -/
def rPP (q : FVec Ideal S6x8x5x4096x128 .bf16) (k : FVec Ideal S6x8x4096x128 .bf16) : FVec Ideal S6x8x5x4096x4096 .f32 := (Host.divf (rEE q k) (broadcastInDim S6x8x5x4096x4096 ![0, 1, 2, 3, 4] bcast_S6x8x5x4096x1_S6x8x5x4096x4096_0_1_2_3_4 (broadcastInDim S6x8x5x4096x1 ![0, 1, 2, 3] bcast_S6x8x5x4096_S6x8x5x4096x1_0_1_2_3 (Host.reduceAdd (rEE q k) (constant S_ .f32 0x00000000#32) reducesTo_S6x8x5x4096x4096_S6x8x5x4096_d4 h_S_))))

/-- the output; -/
def rOO (q : FVec Ideal S6x8x5x4096x128 .bf16) (k v : FVec Ideal S6x8x4096x128 .bf16) : FVec Ideal S6x8x5x4096x128 .f32 := (Host.dotGeneral dot_S6x8x5x4096x4096_S6x8x4096x128_S6x8x5x4096x128_4_2_23_3_01_01 none (truncf .bf16 (rPP q k) bitsLt_bf16_f32) v)

/-- the score gradient. -/
def rDS (q d : FVec Ideal S6x8x5x4096x128 .bf16) (k v : FVec Ideal S6x8x4096x128 .bf16) : FVec Ideal S6x8x5x4096x4096 .f32 := (mulf (rPP q k) (subf (Host.dotGeneral dot_S6x8x5x4096x128_S6x8x4096x128_S6x8x5x4096x4096_4_3_23_2_01_01 none d v) (broadcastInDim S6x8x5x4096x4096 ![0, 1, 2, 3, 4] bcast_S6x8x5x4096x1_S6x8x5x4096x4096_0_1_2_3_4 (broadcastInDim S6x8x5x4096x1 ![0, 1, 2, 3] bcast_S6x8x5x4096_S6x8x5x4096x1_0_1_2_3 (Host.reduceAdd (mulf (extf .f32 d bitsLt_bf16_f32) (rOO q k v)) (constant S_ .f32 0x00000000#32) reducesTo_S6x8x5x4096x128_S6x8x5x4096_d4 h_S_)))))

/-- The results: each query's greatest magnitude, of the rotated queries, -/
def r28 (q : FVec Ideal S6x8x5x4096x128 .bf16) : FVec Ideal S6x8x5x4096 .f32 := Host.reduce FloatOps.maximumf (Host.absf (extf .f32 q bitsLt_bf16_f32)) (constant S_ .f32 0xFF800000#32) reducesTo_S6x8x5x4096x128_S6x8x5x4096_d4 h_S_

/-- the incoming gradients, -/
def r31 (d : FVec Ideal S6x8x5x4096x128 .bf16) : FVec Ideal S6x8x5x4096 .f32 := Host.reduce FloatOps.maximumf (Host.absf (extf .f32 d bitsLt_bf16_f32)) (constant S_ .f32 0xFF800000#32) reducesTo_S6x8x5x4096x128_S6x8x5x4096_d4 h_S_

/-- the visible scores, -/
def r44 (q : FVec Ideal S6x8x5x4096x128 .bf16) (k : FVec Ideal S6x8x4096x128 .bf16) : FVec Ideal S6x8x5x4096 .f32 := Host.reduce FloatOps.maximumf (select rMASK (Host.absf (rSS q k)) (broadcastInDim S6x8x5x4096x4096 ![] bcast_S_S6x8x5x4096x4096 (id (constant S_ .f32 0x00000000#32)))) (constant S_ .f32 0xFF800000#32) reducesTo_S6x8x5x4096x4096_S6x8x5x4096_d4 h_S_

/-- the outputs, -/
def r76 (q : FVec Ideal S6x8x5x4096x128 .bf16) (k : FVec Ideal S6x8x4096x128 .bf16) (v : FVec Ideal S6x8x4096x128 .bf16) : FVec Ideal S6x8x5x4096 .f32 := Host.reduce FloatOps.maximumf (Host.absf (rOO q k v)) (constant S_ .f32 0xFF800000#32) reducesTo_S6x8x5x4096x128_S6x8x5x4096_d4 h_S_

/-- the score gradients -/
def r78 (q : FVec Ideal S6x8x5x4096x128 .bf16) (d : FVec Ideal S6x8x5x4096x128 .bf16) (k : FVec Ideal S6x8x4096x128 .bf16) (v : FVec Ideal S6x8x4096x128 .bf16) : FVec Ideal S6x8x5x4096 .f32 := Host.reduce FloatOps.maximumf (Host.absf (rDS q d k v)) (constant S_ .f32 0xFF800000#32) reducesTo_S6x8x5x4096x4096_S6x8x5x4096_d4 h_S_

/-- and the query gradients; -/
def r80 (q : FVec Ideal S6x8x5x4096x128 .bf16) (d : FVec Ideal S6x8x5x4096x128 .bf16) (k : FVec Ideal S6x8x4096x128 .bf16) (v : FVec Ideal S6x8x4096x128 .bf16) : FVec Ideal S6x8x5x4096 .f32 := Host.reduce FloatOps.maximumf (Host.absf (mulf (broadcastInDim S6x8x5x4096x128 ![] bcast_S_S6x8x5x4096x128 (constant S_ .f32 0x3DB504F3#32)) (Host.dotGeneral dot_S6x8x5x4096x4096_S6x8x4096x128_S6x8x5x4096x128_4_2_23_3_01_01 none (truncf .bf16 (rDS q d k v) bitsLt_bf16_f32) k))) (constant S_ .f32 0xFF800000#32) reducesTo_S6x8x5x4096x128_S6x8x5x4096_d4 h_S_

/-- the outputs; -/
def r81 (q : FVec Ideal S6x8x5x4096x128 .bf16) (k : FVec Ideal S6x8x4096x128 .bf16) (v : FVec Ideal S6x8x4096x128 .bf16) : FVec Ideal S6x8x5x128x4096 .f32 := transpose S6x8x5x128x4096 [0, 1, 2, 4, 3] (rOO q k v) transposes_S6x8x5x4096x128_S6x8x5x128x4096_0_1_2_4_3

/-- each key's greatest magnitude of its key gradient -/
def r84 (q : FVec Ideal S6x8x5x4096x128 .bf16) (d : FVec Ideal S6x8x5x4096x128 .bf16) (k : FVec Ideal S6x8x4096x128 .bf16) (v : FVec Ideal S6x8x4096x128 .bf16) : FVec Ideal S6x8x1x4096 .f32 := broadcastInDim S6x8x1x4096 ![0, 1, 3] bcast_S6x8x4096_S6x8x1x4096_0_1_3 (Host.reduce FloatOps.maximumf (Host.absf (mulf (broadcastInDim S6x8x4096x128 ![] bcast_S_S6x8x4096x128 (constant S_ .f32 0x3DB504F3#32)) (Host.dotGeneral dot_S6x8x5x4096x4096_S6x8x5x4096x128_S6x8x4096x128_32_32_4_4_01_01 none (truncf .bf16 (rDS q d k v) bitsLt_bf16_f32) q))) (constant S_ .f32 0xFF800000#32) reducesTo_S6x8x4096x128_S6x8x4096_d3 h_S_)

/-- and value gradient. -/
def r87 (q : FVec Ideal S6x8x5x4096x128 .bf16) (k : FVec Ideal S6x8x4096x128 .bf16) (d : FVec Ideal S6x8x5x4096x128 .bf16) : FVec Ideal S6x8x1x4096 .f32 := broadcastInDim S6x8x1x4096 ![0, 1, 3] bcast_S6x8x4096_S6x8x1x4096_0_1_3 (Host.reduce FloatOps.maximumf (Host.absf (Host.dotGeneral dot_S6x8x5x4096x4096_S6x8x5x4096x128_S6x8x4096x128_32_32_4_4_01_01 none (truncf .bf16 (rPP q k) bitsLt_bf16_f32) d)) (constant S_ .f32 0xFF800000#32) reducesTo_S6x8x4096x128_S6x8x4096_d3 h_S_)

/-- One query head of an array of them, -/
abbrev hd (q : FVec Ideal S6x8x5x4096x128 .bf16) (b : Fin 6) (g : Fin 8) (r : Fin 5) : Fin 4096 → Fin 128 → EReal := fun i d => q (ix5 b g r i d)
/-- and one key head. -/
abbrev ky (k : FVec Ideal S6x8x4096x128 .bf16) (b : Fin 6) (g : Fin 8) : Fin 4096 → Fin 128 → EReal := fun j d => k (ix4 b g j d)

variable (q d : FVec Ideal S6x8x5x4096x128 .bf16) (k v : FVec Ideal S6x8x4096x128 .bf16) (b : Fin 6) (g : Fin 8) (r : Fin 5) (i j : Fin 4096) (x : Fin 128)

/-- A minus infinity joined to a greatest value changes nothing. -/
theorem fold_bot {ι : Type} [Fintype ι] (f : ι → EReal) : Finset.fold max (Ideal.ofBits FTy.f32 0xFF800000#32) f Finset.univ = top f := by
  rw [ofBits_bot]; rfl

theorem rQQ_apply (a0 : FVec Ideal S6x4096x40x128 .bf16) (a3 a4 : FVec Ideal S6x64x4096 .f32) :
    rQQ a0 a3 a4 (ix5 b g r i x) = rot (fun y => a0 (ix4 b i ⟨g.val * 5 + r.val, by omega⟩ y)) (fun y => a3 (ix3 b y i)) (fun y => a4 (ix3 b y i)) x := by
  pointwise [rQQ]
  rw [rot]
  refine dite_congr rfl (fun _ => rfl) fun h => ?_
  have e : (⟨64 + (x.val - 64), by omega⟩ : Fin 128) = x := Fin.ext (by show 64 + (x.val - 64) = x.val; omega)
  rw [e]

theorem rDD_apply (a5 : FVec Ideal S6x4096x40x128 .bf16) : rDD a5 (ix5 b g r i x) = a5 (ix4 b i ⟨g.val * 5 + r.val, by omega⟩ x) := by
  pointwise [rDD]

theorem rKK_apply (a1 : FVec Ideal S6x4096x8x128 .bf16) : rKK a1 (ix4 b g i x) = a1 (ix4 b i g x) := by
  pointwise [rKK]

theorem rVV_apply (a2 : FVec Ideal S6x4096x8x128 .bf16) : rVV a2 (ix4 b g i x) = a2 (ix4 b i g x) := by
  pointwise [rVV]

theorem rSS_apply : rSS q k (ix5 b g r i j) = sc κs (hd q b g r) (ky k b g) i j := by
  pointwise [rSS]
  rw [ofBits_scale]
  rfl

theorem rMS_apply : rMS q k (ix5 b g r i j) = msk κs (hd q b g r) (ky k b g) i j := by
  pointwise [rMS, rMASK]
  rw [select_sle j.isLt i.isLt, rSS_apply, msk]
  refine if_congr Iff.rfl rfl ?_
  exact ofBits_bot

theorem rRD_apply : rRD q k (ix4 b g r i) = top (msk κs (hd q b g r) (ky k b g) i) := by
  pointwise [rRD]
  rw [fold_bot]
  exact congrArg top (funext fun j => rMS_apply q k b g r i j)

/-- A maximum with minus infinity changes nothing. -/
theorem max_bot_apply (w : FVec Ideal S6x8x5x4096 .f32) (i : S6x8x5x4096.Idx) :
    maximumf (broadcastInDim S6x8x5x4096 ![] bcast_S_S6x8x5x4096 (constant S_ .f32 0xFF800000#32)) w i = w i := by
  show max (Ideal.ofBits .f32 0xFF800000#32) (w i) = w i
  rw [ofBits_bot]
  exact max_eq_right bot_le

theorem rMX_apply : rMX q k (ix4 b g r i) = top (msk κs (hd q b g r) (ky k b g) i) := by
  unfold rMX
  rw [max_bot_apply, rRD_apply]

theorem rEE_apply : rEE q k (ix5 b g r i j) = ex κs (hd q b g r) (ky k b g) i j := by
  pointwise [rEE]
  rw [rMX_apply, rMS_apply]
  rfl

theorem rPP_apply : rPP q k (ix5 b g r i j) = pr κs (hd q b g r) (ky k b g) i j := by
  pointwise [rPP]
  simp only [rEE_apply]
  rfl

theorem rOO_apply : rOO q k v (ix5 b g r i x) = out κs (hd q b g r) (ky k b g) (ky v b g) i x := by
  pointwise [rOO]
  simp only [rPP_apply]
  rfl

theorem rDS_apply : rDS q d k v (ix5 b g r i j) = ds κs (hd q b g r) (ky k b g) (ky v b g) (hd d b g r) i j := by
  pointwise [rDS]
  simp only [rPP_apply, rOO_apply]
  rfl

theorem r28_apply : r28 q (ix4 b g r i) = top fun x => mag (hd q b g r i x) := by
  pointwise [r28]
  exact fold_bot _

theorem r31_apply : r31 d (ix4 b g r i) = top fun x => mag (hd d b g r i x) := by
  pointwise [r31]
  exact fold_bot _

theorem r44_apply : r44 q k (ix4 b g r i) = rowS κs (hd q b g r) (ky k b g) i := by
  pointwise [r44, rMASK]
  rw [fold_bot, rowS]
  refine congrArg top (funext fun j => ?_)
  rw [select_sle j.isLt i.isLt, rSS_apply]
  refine if_congr Iff.rfl rfl ?_
  exact Ideal.ofBits_zero_f32

theorem r76_apply : r76 q k v (ix4 b g r i) = top fun x => mag (out κs (hd q b g r) (ky k b g) (ky v b g) i x) := by
  pointwise [r76]
  simp only [rOO_apply]
  exact fold_bot _

theorem r78_apply : r78 q d k v (ix4 b g r i) = top fun j => mag (ds κs (hd q b g r) (ky k b g) (ky v b g) (hd d b g r) i j) := by
  pointwise [r78]
  simp only [rDS_apply]
  exact fold_bot _

theorem r80_apply : r80 q d k v (ix4 b g r i) = top fun x => mag (dq κs (hd q b g r) (ky k b g) (ky v b g) (hd d b g r) i x) := by
  pointwise [r80]
  simp only [rDS_apply, ofBits_scale]
  exact fold_bot _

theorem r81_apply : r81 q k v (ix5 b g r x i) = out κs (hd q b g r) (ky k b g) (ky v b g) i x := by
  pointwise [r81]
  exact rOO_apply q k v b g r i x

theorem r84_apply : r84 q d k v (ix4 b g 0 j) = top fun x => mag (dk κs (hd q b g) (hd d b g) (ky k b g) (ky v b g) j x) := by
  pointwise [r84]
  simp only [rDS_apply, ofBits_scale]
  rw [fold_bot]
  refine congrArg top (funext fun y => ?_)
  rw [Finset.sum_comm]
  rfl

theorem r87_apply : r87 q k d (ix4 b g 0 j) = top fun x => mag (dv κs (hd q b g) (hd d b g) (ky k b g) j x) := by
  pointwise [r87]
  simp only [rPP_apply]
  rw [fold_bot]
  refine congrArg top (funext fun y => ?_)
  rw [Finset.sum_comm]
  rfl

end Cert.ReferenceIdeal.Value

end
-- ==== Proof.RefRun.lean ====
/-
  The reference's run: its nine results are the attention gradients' results.
-/
module

public import proofs.«01_k».proof.Proof.RefVal
public import proofs.«01_k».proof.Proof.Args
public import proofs.«01_k».proof.Proof.Gen.ReferenceIdeal.Run

@[expose] public section

set_option maxRecDepth 16384

noncomputable section

namespace Cert.ReferenceIdeal.Value

open Idealize.ShloMosaic Idealize.SL.Sem Attn

variable (A : Args) (m : (ℓ : Loc nD τ sig) → Buf (Elt Ideal) ℓ) (c : Dev nD)

/-- The arguments in a memory. -/
def args : Args where
  q := m ((c.tc : Thread nD τ).loc main_arg0)
  k := m ((c.tc : Thread nD τ).loc main_arg1)
  v := m ((c.tc : Thread nD τ).loc main_arg2)
  cs := m ((c.tc : Thread nD τ).loc main_arg3)
  sn := m ((c.tc : Thread nD τ).loc main_arg4)
  d := m ((c.tc : Thread nD τ).loc main_arg5)

theorem hd_q (b : Fin 6) (g : Fin 8) : hd (rQQ A.q A.cs A.sn) b g = A.Q b g :=
  funext fun _ => funext fun _ => funext fun _ => rQQ_apply ..
theorem hd_d (b : Fin 6) (g : Fin 8) : hd (rDD A.d) b g = A.D b g :=
  funext fun _ => funext fun _ => funext fun _ => rDD_apply ..
theorem ky_k (b : Fin 6) (g : Fin 8) : ky (rKK A.k) b g = A.K b g :=
  funext fun _ => funext fun _ => rKK_apply ..
theorem ky_v (b : Fin 6) (g : Fin 8) : ky (rVV A.v) b g = A.V b g :=
  funext fun _ => funext fun _ => rVV_apply ..

theorem e28 : r28 (rQQ A.q A.cs A.sn) = A.rowQ := by
  funext i
  idx_vars i
  rw [r28_apply, hd_q]
  rfl
theorem e31 : r31 (rDD A.d) = A.rowD := by
  funext i
  idx_vars i
  rw [r31_apply, hd_d]
  rfl
theorem e44 : r44 (rQQ A.q A.cs A.sn) (rKK A.k) = A.rowSc := by
  funext i
  idx_vars i
  rw [r44_apply, hd_q, ky_k]
  rfl
theorem e76 : r76 (rQQ A.q A.cs A.sn) (rKK A.k) (rVV A.v) = A.rowO := by
  funext i
  idx_vars i
  rw [r76_apply, hd_q, ky_k, ky_v]
  rfl
theorem e78 : r78 (rQQ A.q A.cs A.sn) (rDD A.d) (rKK A.k) (rVV A.v) = A.rowDs := by
  funext i
  idx_vars i
  rw [r78_apply, hd_q, hd_d, ky_k, ky_v]
  rfl
theorem e80 : r80 (rQQ A.q A.cs A.sn) (rDD A.d) (rKK A.k) (rVV A.v) = A.rowDq := by
  funext i
  idx_vars i
  rw [r80_apply, hd_q, hd_d, ky_k, ky_v]
  rfl
theorem e81 : r81 (rQQ A.q A.cs A.sn) (rKK A.k) (rVV A.v) = A.outT := by
  funext i
  idx_vars i
  rw [r81_apply, hd_q, ky_k, ky_v]
  rfl
theorem e84 : r84 (rQQ A.q A.cs A.sn) (rDD A.d) (rKK A.k) (rVV A.v) = A.rowDk := by
  funext i
  idx_vars i
  obtain rfl : i2 = 0 := Subsingleton.elim _ _
  rw [r84_apply, hd_q, hd_d, ky_k, ky_v]
  rfl
theorem e87 : r87 (rQQ A.q A.cs A.sn) (rKK A.k) (rDD A.d) = A.rowDv := by
  funext i
  idx_vars i
  obtain rfl : i2 = 0 := Subsingleton.elim _ _
  rw [r87_apply, hd_q, hd_d, ky_k]
  rfl

/-- Every run of the reference ends with the results at the gradients' and the arguments unchanged. -/
theorem run_args (ρ : Dev nD → PrngReg) :
    θ_run defs (onTc (τ := τ) (main (F := Ideal))) ⟨m, fun _ => 0, ρ⟩ fun r => ∀ c : Dev nD,
      r.2.mem ((c.tc : Thread nD τ).loc main_v28) = (args m c).rowQ
      ∧ r.2.mem ((c.tc : Thread nD τ).loc main_v31) = (args m c).rowD
      ∧ r.2.mem ((c.tc : Thread nD τ).loc main_v44) = (args m c).rowSc
      ∧ r.2.mem ((c.tc : Thread nD τ).loc main_v76) = (args m c).rowO
      ∧ r.2.mem ((c.tc : Thread nD τ).loc main_v78) = (args m c).rowDs
      ∧ r.2.mem ((c.tc : Thread nD τ).loc main_v80) = (args m c).rowDq
      ∧ r.2.mem ((c.tc : Thread nD τ).loc main_v81) = (args m c).outT
      ∧ r.2.mem ((c.tc : Thread nD τ).loc main_v84) = (args m c).rowDk
      ∧ r.2.mem ((c.tc : Thread nD τ).loc main_v87) = (args m c).rowDv
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => by
    obtain ⟨h0, h1, h2, h3, h4, h5, h6, h7, h8, ha⟩ := h c
    exact ⟨h0.trans (e28 (args m c)), h1.trans (e31 (args m c)), h2.trans (e44 (args m c)), h3.trans (e76 (args m c)),
      h4.trans (e78 (args m c)), h5.trans (e80 (args m c)), h6.trans (e81 (args m c)), h7.trans (e84 (args m c)),
      h8.trans (e87 (args m c)), ha⟩)
    (run (F := Ideal) m ρ)

end Cert.ReferenceIdeal.Value

end
-- ==== Proof.Keys.lean ====
/-
  The rotated keys and the keys' and values' greatest magnitudes, on the extended reals.
-/
module

public import proofs.«01_k».proof.Proof.Spec
public import Idealize.ShloMosaic.Lib.Pointwise

@[expose] public section

noncomputable section

namespace Keys

open Idealize.ShloMosaic
open Attn

variable (k v : FVec Ideal ⟨4, ![6, 4096, 8, 128]⟩ .bf16) (cs sn : FVec Ideal ⟨3, ![6, 64, 4096]⟩ .f32)

/-- A rotated key. -/
def key (b : Fin 6) (g : Fin 8) (i : Fin 4096) : Fin 128 → EReal :=
  rot (fun y => k (ix4 b i g y)) (fun y => cs (ix3 b y i)) (fun y => sn (ix3 b y i))

/-- The results: the rotated keys with a key's elements before the positions, -/
def keysT : FVec Ideal ⟨4, ![6, 8, 128, 4096]⟩ .bf16 := fun i => key k cs sn (i 0) (i 1) (i 3) (i 2)
/-- the same the other way round, -/
def keys : FVec Ideal ⟨4, ![6, 8, 4096, 128]⟩ .bf16 := fun i => key k cs sn (i 0) (i 1) (i 2) (i 3)
/-- each rotated key's greatest magnitude -/
def rowK : FVec Ideal ⟨4, ![6, 8, 1, 4096]⟩ .f32 := fun i => top fun y => mag (key k cs sn (i 0) (i 1) (i 3) y)
/-- and each value's. -/
def rowV : FVec Ideal ⟨4, ![6, 8, 1, 4096]⟩ .f32 := fun i => top fun y => mag (v (ix4 (i 0) (i 3) (i 1) y))

/-- A minus infinity joined to a greatest value changes nothing. -/
theorem fold_bot {ι : Type} [Fintype ι] (f : ι → EReal) : Finset.fold max (Ideal.ofBits FTy.f32 0xFF800000#32) f Finset.univ = top f := by
  rw [ofBits_bot]; rfl

end Keys

end
-- ==== Proof.PrepVal.lean ====
/-
  The keys' preparation: the rotated keys and greatest magnitudes its run leaves, as functions of its arguments.
-/
module

public import proofs.«01_k».proof.Proof.Gen.PrepIdeal.Frame
public import proofs.«01_k».proof.Proof.Keys
public import Idealize.ShloMosaic.Lib.Claim
public import Idealize.ShloMosaic.Lib.Pipeline.ValueKit
public import Idealize.ShloMosaic.Lib.Pipeline.Covers

@[expose] public section

set_option maxRecDepth 16384

noncomputable section

namespace Cert.PrepIdeal.Body

open Cert.PrepIdeal Cert.PrepIdeal.Gen
open Idealize.ShloMosaic Idealize.ShloMosaic.TcCoe
open Attn

/-! ## The body's values -/

section
variable (x0 : Vec Ideal S1x1x128x1024 .bf16) (x2 x3 : Vec Ideal S1x64x1024 .f32) (y : Fin 128) (x : Fin 1024)

theorem pay3_apply : k0_pay3 (F := Ideal) x0 x2 x3 (ix2 y x)
    = rot (fun y => x0 (ix4 0 0 y x)) (fun y => x2 (ix3 0 y x)) (fun y => x3 (ix3 0 y x)) y := by
  pointwise [k0_pay3]
  rw [rot]
  refine dite_congr rfl (fun _ => rfl) fun h => ?_
  have e : (⟨64 + (y.val - 64), by omega⟩ : Fin 128) = y := Fin.ext (by show 64 + (y.val - 64) = y.val; omega)
  rw [e]
theorem pay4_apply : k0_pay4 (F := Ideal) x0 x2 x3 (ix4 0 0 y x) = k0_pay3 (F := Ideal) x0 x2 x3 (ix2 y x) := by
  pointwise [k0_pay4]
theorem pay5_apply : k0_pay5 (F := Ideal) x0 x2 x3 (ix4 0 0 x y) = k0_pay3 (F := Ideal) x0 x2 x3 (ix2 y x) := by
  pointwise [k0_pay5]
theorem pay6_apply : k0_pay1 (F := Ideal) (k0_pay6 x0 x2 x3) (ix4 0 0 0 x) = top fun y => mag (k0_pay3 (F := Ideal) x0 x2 x3 (ix2 y x)) := by
  pointwise [k0_pay1, k0_pay6]
  exact Keys.fold_bot _
theorem pay2_apply : k0_pay2 (F := Ideal) x0 (ix4 0 0 0 x) = top fun y => mag (x0 (ix4 0 0 y x)) := by
  pointwise [k0_pay2]
  exact Keys.fold_bot _

end

variable (m : (ℓ : Loc nD τ sig) → Buf (Elt Ideal) ℓ) (ρ : Dev nD → PrngReg) (c : Dev nD)

/-- The keys, -/
def k : FVec Ideal S6x4096x8x128 .bf16 := m ((c : Thread nD τ).loc main_arg0)
/-- the values, -/
def v : FVec Ideal S6x4096x8x128 .bf16 := m ((c : Thread nD τ).loc main_arg1)
/-- the cosines -/
def cs : FVec Ideal S6x64x4096 .f32 := m ((c : Thread nD τ).loc main_arg2)
/-- and the sines. -/
def sn : FVec Ideal S6x64x4096 .f32 := m ((c : Thread nD τ).loc main_arg3)

/-! ## The operands, as the call finds them -/

theorem V_v0 (b : Fin 6) (g : Fin 8) (y : Fin 128) (i : Fin 4096) : V m c main_v0 (ix4 b g y i) = k m c (ix4 b i g y) := by
  entry_read
  pointwise
  rfl
theorem V_v1 (b : Fin 6) (g : Fin 8) (y : Fin 128) (i : Fin 4096) : V m c main_v1 (ix4 b g y i) = v m c (ix4 b i g y) := by
  entry_read
  pointwise
  rfl

/-! ## The blocks of a grid point -/

section
variable (t : Fin cfg0.N)

theorem lt_N : t.val < 192 := t.isLt
/-- The batch of a grid point, -/
def bO : Fin 6 := ⟨t.val / 32, by have := lt_N t; omega⟩
/-- its key head -/
def gO : Fin 8 := ⟨t.val / 4 % 8, by omega⟩
/-- and a position of its block. -/
def pos (x : Fin 1024) : Fin 4096 := ⟨t.val % 4 * 1024 + x.val, by omega⟩

theorem word0 : (BitVec.ofNat 32 (grid0.coords t 0).val).toNat = (bO t).val := by
  rw [Pipeline.Grid.coords_val t 0 (S := 32) (B := 6) (by decide) rfl, BitVec.toNat_ofNat, bO]; have := lt_N t; dsimp only; omega
theorem word1 : (BitVec.ofNat 32 (grid0.coords t 1).val).toNat = (gO t).val := by
  rw [Pipeline.Grid.coords_val t 1 (S := 4) (B := 8) (by decide) rfl, BitVec.toNat_ofNat, gO]; dsimp only; omega
theorem word2 : (BitVec.ofNat 32 (grid0.coords t 2).val).toNat = t.val % 4 := by
  rw [Pipeline.Grid.coords_val t 2 (S := 1) (B := 4) (by decide) rfl, BitVec.toNat_ofNat]; omega

theorem idx_0 : win0_0.index t = ![(bO t).val, (gO t).val, 0, t.val % 4] := by
  rw [← word0, ← word1, ← word2]; rfl
theorem idx_1 : win0_1.index t = ![(bO t).val, (gO t).val, 0, t.val % 4] := by
  rw [← word0, ← word1, ← word2]; rfl
theorem idx_2 : win0_2.index t = ![(bO t).val, 0, t.val % 4] := by
  rw [← word0, ← word2]; rfl
theorem idx_3 : win0_3.index t = ![(bO t).val, 0, t.val % 4] := by
  rw [← word0, ← word2]; rfl
theorem idx_4 : win0_4.index t = ![(bO t).val, (gO t).val, 0, t.val % 4] := by
  rw [← word0, ← word1, ← word2]; rfl
theorem idx_5 : win0_5.index t = ![(bO t).val, (gO t).val, t.val % 4, 0] := by
  rw [← word0, ← word1, ← word2]; rfl
theorem idx_6 : win0_6.index t = ![(bO t).val, (gO t).val, 0, t.val % 4] := by
  rw [← word0, ← word1, ← word2]; rfl
theorem idx_7 : win0_7.index t = ![(bO t).val, (gO t).val, 0, t.val % 4] := by
  rw [← word0, ← word1, ← word2]; rfl

theorem blk_0 (y : Fin 128) (x : Fin 1024) : iblk m c 0 t (ix4 0 0 y x) = k m c (ix4 (bO t) (pos t x) (gO t) y) := by
  rw [← V_v0]
  blk_ext [iblk, V, idx_0 t]
  rfl
theorem blk_1 (y : Fin 128) (x : Fin 1024) : iblk m c 1 t (ix4 0 0 y x) = v m c (ix4 (bO t) (pos t x) (gO t) y) := by
  rw [← V_v1]
  blk_ext [iblk, V, idx_1 t]
  rfl
theorem blk_2 (y : Fin 64) (x : Fin 1024) : iblk m c 2 t (ix3 0 y x) = cs m c (ix3 (bO t) y (pos t x)) := by
  show _ = m ((c : Thread nD τ).loc main_arg2) (ix3 (bO t) y (pos t x))
  rw [← V_main_arg2 m c]
  blk_ext [iblk, V, idx_2 t]
  rfl
theorem blk_3 (y : Fin 64) (x : Fin 1024) : iblk m c 3 t (ix3 0 y x) = sn m c (ix3 (bO t) y (pos t x)) := by
  show _ = m ((c : Thread nD τ).loc main_arg3) (ix3 (bO t) y (pos t x))
  rw [← V_main_arg3 m c]
  blk_ext [iblk, V, idx_3 t]
  rfl

theorem emb_4 (G : S6x8x128x4096.Idx → EReal) (y : Fin 128) (x : Fin 1024) :
    G ((win0_4.blk t).view.emb (ix4 0 0 y x)) = G (ix4 (bO t) (gO t) y (pos t x)) := by
  blk_ext [idx_4 t]
  rfl
theorem emb_5 (G : S6x8x4096x128.Idx → EReal) (x : Fin 1024) (y : Fin 128) :
    G ((win0_5.blk t).view.emb (ix4 0 0 x y)) = G (ix4 (bO t) (gO t) (pos t x) y) := by
  blk_ext [idx_5 t]
  rfl
theorem emb_6 (G : S6x8x1x4096.Idx → EReal) (x : Fin 1024) :
    G ((win0_6.blk t).view.emb (ix4 0 0 0 x)) = G (ix4 (bO t) (gO t) 0 (pos t x)) := by
  blk_ext [idx_6 t]
  rfl
theorem emb_7 (G : S6x8x1x4096.Idx → EReal) (x : Fin 1024) :
    G ((win0_7.blk t).view.emb (ix4 0 0 0 x)) = G (ix4 (bO t) (gO t) 0 (pos t x)) := by
  blk_ext [idx_7 t]
  rfl

/-- A point's rotated keys, -/
theorem key_eq (y : Fin 128) (x : Fin 1024) :
    k0_pay3 (F := Ideal) (iblk m c 0 t) (iblk m c 2 t) (iblk m c 3 t) (ix2 y x)
      = Keys.key (k m c) (cs m c) (sn m c) (bO t) (gO t) (pos t x) y := by
  rw [pay3_apply, Keys.key]
  simp only [blk_0, blk_2, blk_3]

/-- and what it writes back. -/
theorem after_4 (y : Fin 128) (x : Fin 1024) :
    (dats m 0 c).after 4 t (ix4 0 0 y x) = Keys.keysT (k m c) (cs m c) (sn m c) (ix4 (bO t) (gO t) y (pos t x)) := by
  rw [after0_4, out0_4, View.canon_cons_unit_lit _ _ _ (by decide), View.ld_unit_lit _ _ (by decide), View.ld_unit_lit _ _ (by decide),
    View.ld_unit_lit _ _ (by decide)]
  exact (pay4_apply _ _ _ y x).trans (key_eq m c t y x)
theorem after_5 (x : Fin 1024) (y : Fin 128) :
    (dats m 0 c).after 5 t (ix4 0 0 x y) = Keys.keys (k m c) (cs m c) (sn m c) (ix4 (bO t) (gO t) (pos t x) y) := by
  rw [after0_5, out0_5, View.canon_cons_unit_lit _ _ _ (by decide), View.ld_unit_lit _ _ (by decide), View.ld_unit_lit _ _ (by decide),
    View.ld_unit_lit _ _ (by decide)]
  exact (pay5_apply _ _ _ y x).trans (key_eq m c t y x)
theorem after_6 (x : Fin 1024) :
    (dats m 0 c).after 6 t (ix4 0 0 0 x) = Keys.rowK (k m c) (cs m c) (sn m c) (ix4 (bO t) (gO t) 0 (pos t x)) := by
  rw [after0_6, out0_6, View.canon_cons_unit_lit _ _ _ (by decide), View.ld_unit_lit _ _ (by decide), View.ld_unit_lit _ _ (by decide),
    View.ld_unit_lit _ _ (by decide)]
  exact (pay6_apply _ _ _ x).trans (congrArg top (funext fun y => congrArg mag (key_eq m c t y x)))
theorem after_7 (x : Fin 1024) :
    (dats m 0 c).after 7 t (ix4 0 0 0 x) = Keys.rowV (v m c) (ix4 (bO t) (gO t) 0 (pos t x)) := by
  rw [after0_7, out0_7, View.canon_cons_unit_lit _ _ _ (by decide), View.ld_unit_lit _ _ (by decide)]
  exact (pay2_apply _ x).trans (congrArg top (funext fun y => congrArg mag (blk_1 m c t y x)))

end

/-! ## The arrays after the run -/

/-- A grid point by its coordinates' words. -/
theorem point_of {b g q : ℕ} (hb : b < 6) (hg : g < 8) (hq : q < 4) : ∃ i : grid0.Coords, (BitVec.ofNat 32 (i 0).val).toNat = b
    ∧ (BitVec.ofNat 32 (i 1).val).toNat = g ∧ (BitVec.ofNat 32 (i 2).val).toNat = q :=
  ⟨fun | 0 => ⟨b, hb⟩ | 1 => ⟨g, hg⟩ | 2 => ⟨q, hq⟩,
    by show b % 2 ^ 32 = b; omega, by show g % 2 ^ 32 = g; omega, by show q % 2 ^ 32 = q; omega⟩

theorem cov_4 : (cfg0.win 4).Covers :=
  Pipeline.Window.covers_of_indexMap_surj (cfg0.win 4) rfl (by decide) fun β => by
    obtain ⟨i, h0, h1, h2⟩ := point_of (b := (β 0).val) (g := (β 1).val) (q := (β 3).val) (β 0).isLt (β 1).isLt (β 3).isLt
    refine ⟨i, fun a => ?_⟩
    match a with
    | 0 => exact h0
    | 1 => exact h1
    | 2 => exact (Nat.lt_one_iff.mp (show (β 2).val < 1 from (β 2).isLt)).symm
    | 3 => exact h2
theorem cov_5 : (cfg0.win 5).Covers :=
  Pipeline.Window.covers_of_indexMap_surj (cfg0.win 5) rfl (by decide) fun β => by
    obtain ⟨i, h0, h1, h2⟩ := point_of (b := (β 0).val) (g := (β 1).val) (q := (β 2).val) (β 0).isLt (β 1).isLt (β 2).isLt
    refine ⟨i, fun a => ?_⟩
    match a with
    | 0 => exact h0
    | 1 => exact h1
    | 2 => exact h2
    | 3 => exact (Nat.lt_one_iff.mp (show (β 3).val < 1 from (β 3).isLt)).symm
theorem cov_6 : (cfg0.win 6).Covers :=
  Pipeline.Window.covers_of_indexMap_surj (cfg0.win 6) rfl (by decide) fun β => by
    obtain ⟨i, h0, h1, h2⟩ := point_of (b := (β 0).val) (g := (β 1).val) (q := (β 3).val) (β 0).isLt (β 1).isLt (β 3).isLt
    refine ⟨i, fun a => ?_⟩
    match a with
    | 0 => exact h0
    | 1 => exact h1
    | 2 => exact (Nat.lt_one_iff.mp (show (β 2).val < 1 from (β 2).isLt)).symm
    | 3 => exact h2
theorem cov_7 : (cfg0.win 7).Covers :=
  Pipeline.Window.covers_of_indexMap_surj (cfg0.win 7) rfl (by decide) fun β => by
    obtain ⟨i, h0, h1, h2⟩ := point_of (b := (β 0).val) (g := (β 1).val) (q := (β 3).val) (β 0).isLt (β 1).isLt (β 3).isLt
    refine ⟨i, fun a => ?_⟩
    match a with
    | 0 => exact h0
    | 1 => exact h1
    | 2 => exact (Nat.lt_one_iff.mp (show (β 2).val < 1 from (β 2).isLt)).symm
    | 3 => exact h2

theorem arr_4 : (dats m 0 c).arrAt 4 cfg0.N = Keys.keysT (k m c) (cs m c) (sn m c) := by
  refine (dats m 0 c).arrAt_eq_of_covers 4 (Keys.keysT (k m c) (cs m c) (sn m c)) cov_4 fun t hf y => ?_
  idx_vars y
  obtain rfl : y0 = 0 := Subsingleton.elim _ _
  obtain rfl : y1 = 0 := Subsingleton.elim _ _
  blk_simp [idx_4 t]
  rw [emb_4 t (Keys.keysT (k m c) (cs m c) (sn m c)) y2 y3]
  exact after_4 m c t y2 y3

theorem arr_5 : (dats m 0 c).arrAt 5 cfg0.N = Keys.keys (k m c) (cs m c) (sn m c) := by
  refine (dats m 0 c).arrAt_eq_of_covers 5 (Keys.keys (k m c) (cs m c) (sn m c)) cov_5 fun t hf y => ?_
  idx_vars y
  obtain rfl : y0 = 0 := Subsingleton.elim _ _
  obtain rfl : y1 = 0 := Subsingleton.elim _ _
  blk_simp [idx_5 t]
  rw [emb_5 t (Keys.keys (k m c) (cs m c) (sn m c)) y2 y3]
  exact after_5 m c t y2 y3

theorem arr_6 : (dats m 0 c).arrAt 6 cfg0.N = Keys.rowK (k m c) (cs m c) (sn m c) := by
  refine (dats m 0 c).arrAt_eq_of_covers 6 (Keys.rowK (k m c) (cs m c) (sn m c)) cov_6 fun t hf y => ?_
  idx_vars y
  obtain rfl : y0 = 0 := Subsingleton.elim _ _
  obtain rfl : y1 = 0 := Subsingleton.elim _ _
  obtain rfl : y2 = 0 := Subsingleton.elim _ _
  blk_simp [idx_6 t]
  rw [emb_6 t (Keys.rowK (k m c) (cs m c) (sn m c)) y3]
  exact after_6 m c t y3

theorem arr_7 : (dats m 0 c).arrAt 7 cfg0.N = Keys.rowV (v m c) := by
  refine (dats m 0 c).arrAt_eq_of_covers 7 (Keys.rowV (v m c)) cov_7 fun t hf y => ?_
  idx_vars y
  obtain rfl : y0 = 0 := Subsingleton.elim _ _
  obtain rfl : y1 = 0 := Subsingleton.elim _ _
  obtain rfl : y2 = 0 := Subsingleton.elim _ _
  blk_simp [idx_7 t]
  rw [emb_7 t (Keys.rowV (v m c)) y3]
  exact after_7 m c t y3

/-- The run: the four results, and the arguments as they were. -/
theorem run : θ_run defs (onTc (τ := τ) (main (F := Ideal))) ⟨m, fun _ => 0, ρ⟩ fun r => ∀ c : Dev nD,
    r.2.mem ((c : Thread nD τ).loc main_v2_0) = Keys.keysT (k m c) (cs m c) (sn m c)
      ∧ r.2.mem ((c : Thread nD τ).loc main_v2_1) = Keys.keys (k m c) (cs m c) (sn m c)
      ∧ r.2.mem ((c : Thread nD τ).loc main_v2_2) = Keys.rowK (k m c) (cs m c) (sn m c)
      ∧ r.2.mem ((c : Thread nD τ).loc main_v2_3) = Keys.rowV (v m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (arr_4 m c), ((h c).1 5).trans (arr_5 m c), ((h c).1 6).trans (arr_6 m c),
      ((h c).1 7).trans (arr_7 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ)

end Cert.PrepIdeal.Body

end
-- ==== Proof.PrepRef.lean ====
/-
  The keys' preparation: what its reference's run leaves, as the same functions.
-/
module

public import proofs.«01_k».proof.Proof.Gen.PrepReferenceIdeal.Run
public import proofs.«01_k».proof.Proof.Keys
public import Idealize.ShloMosaic.Lib.Claim

@[expose] public section

set_option maxRecDepth 16384

noncomputable section

namespace Cert.PrepReferenceIdeal.Body

open Cert.PrepReferenceIdeal Cert.PrepReferenceIdeal.Gen
open Idealize.ShloMosaic Idealize.ShloMosaic.TcCoe Idealize.SL.Sem Idealize.ShloMosaic.StableHlo
open Attn

section
variable (a0 a1 : FVec Ideal S6x4096x8x128 .bf16) (a2 a3 : FVec Ideal S6x64x4096 .f32) (b : Fin 6) (g : Fin 8) (i : Fin 4096) (y : Fin 128)

/-- The rotated keys, positions first, -/
def rot0 : FVec Ideal S6x4096x8x128 .bf16 := (truncf .bf16 (concatenate S6x4096x8x128 3 [⟨S6x4096x8x64, (subf (mulf (extf .f32 (extractStridedSlice S6x4096x8x64 ![0, 0, 0, 0] a0 slices_S6x4096x8x128_S6x4096x8x64_0_0_0_0) bitsLt_bf16_f32) (broadcastInDim S6x4096x8x64 ![0, 1, 2, 3] bcast_S6x4096x1x64_S6x4096x8x64_0_1_2_3 (broadcastInDim S6x4096x1x64 ![0, 1, 3] bcast_S6x4096x64_S6x4096x1x64_0_1_3 (transpose S6x4096x64 [0, 2, 1] a2 transposes_S6x64x4096_S6x4096x64_0_2_1)))) (mulf (extf .f32 (extractStridedSlice S6x4096x8x64 ![0, 0, 0, 64] a0 slices_S6x4096x8x128_S6x4096x8x64_0_0_0_64) bitsLt_bf16_f32) (broadcastInDim S6x4096x8x64 ![0, 1, 2, 3] bcast_S6x4096x1x64_S6x4096x8x64_0_1_2_3 (broadcastInDim S6x4096x1x64 ![0, 1, 3] bcast_S6x4096x64_S6x4096x1x64_0_1_3 (transpose S6x4096x64 [0, 2, 1] a3 transposes_S6x64x4096_S6x4096x64_0_2_1)))))⟩, ⟨S6x4096x8x64, (addf (mulf (extf .f32 (extractStridedSlice S6x4096x8x64 ![0, 0, 0, 64] a0 slices_S6x4096x8x128_S6x4096x8x64_0_0_0_64) bitsLt_bf16_f32) (broadcastInDim S6x4096x8x64 ![0, 1, 2, 3] bcast_S6x4096x1x64_S6x4096x8x64_0_1_2_3 (broadcastInDim S6x4096x1x64 ![0, 1, 3] bcast_S6x4096x64_S6x4096x1x64_0_1_3 (transpose S6x4096x64 [0, 2, 1] a2 transposes_S6x64x4096_S6x4096x64_0_2_1)))) (mulf (extf .f32 (extractStridedSlice S6x4096x8x64 ![0, 0, 0, 0] a0 slices_S6x4096x8x128_S6x4096x8x64_0_0_0_0) bitsLt_bf16_f32) (broadcastInDim S6x4096x8x64 ![0, 1, 2, 3] bcast_S6x4096x1x64_S6x4096x8x64_0_1_2_3 (broadcastInDim S6x4096x1x64 ![0, 1, 3] bcast_S6x4096x64_S6x4096x1x64_0_1_3 (transpose S6x4096x64 [0, 2, 1] a3 transposes_S6x64x4096_S6x4096x64_0_2_1)))))⟩] concatenates_S6x4096x8x64_S6x4096x8x64_S6x4096x8x128_d3) bitsLt_bf16_f32)

/-- and each row's greatest magnitude. -/
def row0 (x : FVec Ideal S6x4096x8x128 .bf16) : FVec Ideal S6x8x1x4096 .f32 :=
  broadcastInDim S6x8x1x4096 ![0, 1, 3] bcast_S6x8x4096_S6x8x1x4096_0_1_3 (transpose S6x8x4096 [0, 2, 1]
    (Host.reduce FloatOps.maximumf (Host.absf (extf .f32 x bitsLt_bf16_f32)) (constant S_ .f32 0xFF800000#32) reducesTo_S6x4096x8x128_S6x4096x8_d3 h_S_)
    transposes_S6x4096x8_S6x8x4096_0_2_1)

theorem rot0_apply : rot0 a0 a2 a3 (ix4 b i g y) = Keys.key a0 a2 a3 b g i y := by
  rw [rot0]
  pointwise
  rw [Keys.key, rot]
  refine dite_congr rfl (fun _ => rfl) fun h => ?_
  have e : (⟨64 + (y.val - 64), by omega⟩ : Fin 128) = y := Fin.ext (by show 64 + (y.val - 64) = y.val; omega)
  rw [e]
theorem row0_apply (x : FVec Ideal S6x4096x8x128 .bf16) : row0 x (ix4 b g 0 i) = top fun y => mag (x (ix4 b i g y)) := by
  rw [row0]
  pointwise
  exact Keys.fold_bot _

theorem keysT_eq : transpose S6x8x128x4096 [0, 2, 3, 1] (rot0 a0 a2 a3) transposes_S6x4096x8x128_S6x8x128x4096_0_2_3_1 = Keys.keysT a0 a2 a3 := by
  funext j
  idx_vars j
  pointwise
  exact rot0_apply a0 a2 a3 _ _ _ _
theorem keys_eq : transpose S6x8x4096x128 [0, 2, 1, 3] (rot0 a0 a2 a3) transposes_S6x4096x8x128_S6x8x4096x128_0_2_1_3 = Keys.keys a0 a2 a3 := by
  funext j
  idx_vars j
  pointwise
  exact rot0_apply a0 a2 a3 _ _ _ _
theorem rowK_eq : row0 (rot0 a0 a2 a3) = Keys.rowK a0 a2 a3 := by
  funext j
  idx_vars j
  obtain rfl : j2 = 0 := Subsingleton.elim _ _
  exact (row0_apply _ _ _ _).trans (congrArg top (funext fun y => congrArg mag (rot0_apply a0 a2 a3 _ _ _ y)))
theorem rowV_eq : row0 a1 = Keys.rowV a1 := by
  funext j
  idx_vars j
  obtain rfl : j2 = 0 := Subsingleton.elim _ _
  exact row0_apply _ _ _ _

end

variable (m : (ℓ : Loc nD τ sig) → Buf (Elt Ideal) ℓ) (ρ : Dev nD → PrngReg) (c : Dev nD)

/-- The keys, -/
def k : FVec Ideal S6x4096x8x128 .bf16 := m ((c : Thread nD τ).loc main_arg0)
/-- the values, -/
def v : FVec Ideal S6x4096x8x128 .bf16 := m ((c : Thread nD τ).loc main_arg1)
/-- the cosines -/
def cs : FVec Ideal S6x64x4096 .f32 := m ((c : Thread nD τ).loc main_arg2)
/-- and the sines. -/
def sn : FVec Ideal S6x64x4096 .f32 := m ((c : Thread nD τ).loc main_arg3)

/-- The run: the four results, and the arguments as they were. -/
theorem run : θ_run defs (onTc (τ := τ) (main (F := Ideal))) ⟨m, fun _ => 0, ρ⟩ fun r => ∀ c : Dev nD,
    r.2.mem ((c : Thread nD τ).loc main_v26) = Keys.keysT (k m c) (cs m c) (sn m c)
      ∧ r.2.mem ((c : Thread nD τ).loc main_v27) = Keys.keys (k m c) (cs m c) (sn m c)
      ∧ r.2.mem ((c : Thread nD τ).loc main_v29) = Keys.rowK (k m c) (cs m c) (sn m c)
      ∧ r.2.mem ((c : Thread nD τ).loc main_v31) = Keys.rowV (v m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (keysT_eq (k m c) (cs m c) (sn m c)), (h c).2.1.trans (keys_eq (k m c) (cs m c) (sn m c)),
      (h c).2.2.1.trans (rowK_eq (k m c) (cs m c) (sn m c)), (h c).2.2.2.1.trans (rowV_eq (v m c)), (h c).2.2.2.2⟩) (Value.run m ρ)

end Cert.PrepReferenceIdeal.Body

end
-- ==== Proof.Codes.lean ====
/-
  A head's scale and the values kept at it, on the extended reals: the greatest magnitude times a constant, and the quotient cut to the
  range the eight-bit type holds.
-/
module

public import proofs.«01_k».proof.Proof.Spec
public import Idealize.ShloMosaic.Lib.Pointwise

@[expose] public section

noncomputable section

namespace Codes

open Idealize.ShloMosaic

/-- The scale for greatest magnitude `a`: a head of zeros keeps 1. -/
def scale (w : BitVec 32) (a : EReal) : EReal := if a = 0 then 1 else a * Ideal.ofBits FTy.f32 w
/-- The scales of the 40 heads, `w` the reciprocal of the range's end. -/
def scales (w : BitVec 32) (a : FVec Ideal ⟨1, ![40]⟩ .f32) : FVec Ideal ⟨1, ![40]⟩ .f32 := fun i => scale w (a i)
/-- A value at scale `s`, cut to `[lo, hi]`. -/
def code (lo hi : BitVec 32) (x s : EReal) : EReal := min (Ideal.ofBits FTy.f32 hi) (max (Ideal.ofBits FTy.f32 lo) (Ideal.div x s))

/-- The output's codes, positions before the head's dimension, of the output the other way round, -/
def ofO (o : FVec Ideal ⟨4, ![6, 40, 128, 4096]⟩ .f32) (s : FVec Ideal ⟨1, ![40]⟩ .f32) : FVec Ideal ⟨4, ![6, 40, 4096, 128]⟩ .fp8e4m3 :=
  fun i => code 0xC3E00000#32 0x43E00000#32 (o (ix4 (i 0) (i 1) (i 3) (i 2))) (s (ix1 (i 1)))
/-- and the codes of its incoming gradient. -/
def ofDo (d : FVec Ideal ⟨4, ![6, 4096, 40, 128]⟩ .bf16) (s : FVec Ideal ⟨1, ![40]⟩ .f32) : FVec Ideal ⟨4, ![6, 4096, 40, 128]⟩ .fp8e5m2 :=
  fun i => code 0xC7600000#32 0x47600000#32 (d i) (s (ix1 (i 2)))

end Codes

end
-- ==== Proof.QuantOVal.lean ====
/-
  The output's quantiser: the codes and scales its run leaves, as functions of the output and its heads' maxima.
-/
module

public import proofs.«01_k».proof.Proof.Gen.QuantOIdeal.Value
public import proofs.«01_k».proof.Proof.Codes
public import Idealize.ShloMosaic.Lib.Claim
public import Idealize.ShloMosaic.Lib.Pipeline.ValueKit
public import Idealize.ShloMosaic.Lib.Pipeline.Covers

@[expose] public section

set_option maxRecDepth 16384

noncomputable section

namespace Cert.QuantOIdeal.Body

open Cert.QuantOIdeal Cert.QuantOIdeal.Gen
open Idealize.ShloMosaic Idealize.ShloMosaic.TcCoe

variable (m : (ℓ : Loc nD τ sig) → Buf (Elt Ideal) ℓ) (ρ : Dev nD → PrngReg) (c : Dev nD)

/-- The output -/
def o : FVec Ideal S6x40x128x4096 .f32 := m ((c : Thread nD τ).loc main_arg0)
/-- and its heads' greatest magnitudes, as the call is given them. -/
def amax : FVec Ideal S40 .f32 := m ((c : Thread nD τ).loc main_arg1)
/-- The heads' scales. -/
def scales : FVec Ideal S40 .f32 := Codes.scales 0x3B124925#32 (amax m c)

/-! ## The operands, as the call finds them -/

theorem scales_eq : select (cmpf .oeq (amax m c) (broadcastInDim S40 ![] bcast_S_S40 (constant S_ .f32 0x00000000#32)))
    (broadcastInDim S40 ![] bcast_S_S40 (constant S_ .f32 0x3F800000#32))
    (mulf (amax m c) (broadcastInDim S40 ![] bcast_S_S40 (constant S_ .f32 0x3B124925#32))) = scales m c := by
  funext i
  idx_vars i
  pointwise
  rfl
theorem V_v4 : V m c main_v4 = scales m c := by
  rw [← scales_eq]
  simp only [V, hostOps0, hostOps0_1, hostOps0_2, List.flatten_cons, List.flatten_nil, List.append_nil, List.cons_append, List.nil_append]
  simp only [StableHlo.after_cons, StableHlo.after_nil]
  after_results_simp
  rfl
theorem V_v5 (h : Fin 40) : V m c main_v5 (ix3 h 0 0) = scales m c (ix1 h) := by
  have e : V m c main_v5 = shapeCast S40x1x1 (scales m c) shapeCasts_S40_S40x1x1 := by
    rw [← scales_eq]
    simp only [V, hostOps0, hostOps0_1, hostOps0_2, List.flatten_cons, List.flatten_nil, List.append_nil, List.cons_append, List.nil_append]
    simp only [StableHlo.after_cons, StableHlo.after_nil]
    after_results_simp
    rfl
  rw [e]
  pointwise

/-! ## The blocks of a grid point -/

section
variable (t : Fin cfg0.N)

theorem lt_N : t.val < 480 := t.isLt
/-- The batch of a grid point, -/
def bO : Fin 6 := ⟨t.val / 80, by have := lt_N t; omega⟩
/-- its head -/
def hO : Fin 40 := ⟨t.val / 2 % 40, by omega⟩
/-- and a position of its block. -/
def pos (x : Fin 2048) : Fin 4096 := ⟨t.val % 2 * 2048 + x.val, by omega⟩

theorem word0 : (BitVec.ofNat 32 (grid0.coords t 0).val).toNat = (bO t).val := by
  rw [Pipeline.Grid.coords_val t 0 (S := 80) (B := 6) (by decide) rfl, BitVec.toNat_ofNat, bO]; have := lt_N t; dsimp only; omega
theorem word1 : (BitVec.ofNat 32 (grid0.coords t 1).val).toNat = (hO t).val := by
  rw [Pipeline.Grid.coords_val t 1 (S := 2) (B := 40) (by decide) rfl, BitVec.toNat_ofNat, hO]; dsimp only; omega
theorem word2 : (BitVec.ofNat 32 (grid0.coords t 2).val).toNat = t.val % 2 := by
  rw [Pipeline.Grid.coords_val t 2 (S := 1) (B := 2) (by decide) rfl, BitVec.toNat_ofNat]; omega

theorem idx_0 : win0_0.index t = ![(bO t).val, (hO t).val, 0, t.val % 2] := by
  rw [← word0, ← word1, ← word2]; rfl
theorem idx_1 : win0_1.index t = ![(hO t).val, 0, 0] := by
  rw [← word1]; rfl
theorem idx_2 : win0_2.index t = ![(bO t).val, (hO t).val, t.val % 2, 0] := by
  rw [← word0, ← word1, ← word2]; rfl

theorem blk_0 (y : Fin 128) (x : Fin 2048) : iblk m c 0 t (ix4 0 0 y x) = o m c (ix4 (bO t) (hO t) y (pos t x)) := by
  show _ = m ((c : Thread nD τ).loc main_arg0) (ix4 (bO t) (hO t) y (pos t x))
  rw [← V_main_arg0 m c]
  blk_ext [iblk, V, idx_0 t]
  rfl
theorem blk_1 : iblk m c 1 t (ix3 0 0 0) = scales m c (ix1 (hO t)) := by
  rw [← V_v5]
  blk_ext [iblk, V, idx_1 t]

theorem emb_2 (G : S6x40x4096x128.Idx → EReal) (x : Fin 2048) (y : Fin 128) :
    G ((win0_2.blk t).view.emb (ix4 0 0 x y)) = G (ix4 (bO t) (hO t) (pos t x) y) := by
  blk_ext [idx_2 t]
  rfl

/-- What a point writes back. -/
theorem after_2 (x : Fin 2048) (y : Fin 128) :
    (dats m 0 c).after 2 t (ix4 0 0 x y) = Codes.ofO (o m c) (scales m c) (ix4 (bO t) (hO t) (pos t x) y) := by
  rw [after0_2, out0_2, Value.canon2_eq, View.ld_unit_lit _ _ (by decide), View.ld_unit_lit _ _ (by decide)]
  refine (congrArg₂ (Codes.code 0xC3E00000#32 0x43E00000#32) (?_ : iblk m c 0 t (Value.ix2_0 (ix4 0 0 x y)) = _)
    (?_ : iblk m c 1 t (Value.ix2_1 (ix4 0 0 x y)) = _)).trans (b := Codes.code _ _ (o m c (ix4 (bO t) (hO t) y (pos t x))) (scales m c (ix1 (hO t)))) rfl
  · rw [← blk_0]; exact congrArg _ (funext fun a => match a with | 0 => rfl | 1 => rfl | 2 => rfl | 3 => rfl)
  · rw [← blk_1]; exact congrArg _ (funext fun a => match a with | 0 => rfl | 1 => rfl | 2 => rfl)

end

theorem cov_2 : (cfg0.win 2).Covers :=
  Pipeline.Window.covers_of_indexMap_surj (cfg0.win 2) rfl (by decide) fun β => by
    have h0 : (β 0).val < 6 := (β 0).isLt
    have h1 : (β 1).val < 40 := (β 1).isLt
    have h2 : (β 2).val < 2 := (β 2).isLt
    refine ⟨fun | 0 => ⟨(β 0).val, h0⟩ | 1 => ⟨(β 1).val, h1⟩ | 2 => ⟨(β 2).val, h2⟩, fun a => ?_⟩
    match a with
    | 0 => show (β 0).val % 2 ^ 32 = (β 0).val; omega
    | 1 => show (β 1).val % 2 ^ 32 = (β 1).val; omega
    | 2 => show (β 2).val % 2 ^ 32 = (β 2).val; omega
    | 3 => exact (Nat.lt_one_iff.mp (show (β 3).val < 1 from (β 3).isLt)).symm

theorem arr_2 : (dats m 0 c).arrAt 2 cfg0.N = Codes.ofO (o m c) (scales m c) := by
  refine (dats m 0 c).arrAt_eq_of_covers 2 (Codes.ofO (o m c) (scales m c)) cov_2 fun t hf y => ?_
  idx_vars y
  obtain rfl : y0 = 0 := Subsingleton.elim _ _
  obtain rfl : y1 = 0 := Subsingleton.elim _ _
  blk_simp [idx_2 t]
  rw [emb_2 t (Codes.ofO (o m c) (scales m c)) y2 y3]
  exact after_2 m c t y2 y3

/-- The run: the codes, the scales, and the arguments as they were. -/
theorem run : θ_run defs (onTc (τ := τ) (main (F := Ideal))) ⟨m, fun _ => 0, ρ⟩ fun r => ∀ c : Dev nD,
    r.2.mem ((c : Thread nD τ).loc main_v6) = Codes.ofO (o m c) (scales m c)
      ∧ r.2.mem ((c : Thread nD τ).loc main_v4) = scales m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(Value.post2 m r h c).trans (arr_2 m c),
      ((h c).2 main_v4 (Pipeline.mem_restRefs_of main_v4 (by decide) (by decide))).trans (V_v4 m c),
      Value.kept_main_arg0 m r h c, Value.kept_main_arg1 m r h c⟩) (run_main m ρ)

end Cert.QuantOIdeal.Body

end
-- ==== Proof.QuantORef.lean ====
/-
  The output's quantiser: the codes and scales its reference's run leaves.
-/
module

public import proofs.«01_k».proof.Proof.Gen.QuantOReferenceIdeal.Run
public import proofs.«01_k».proof.Proof.Codes
public import Idealize.ShloMosaic.Lib.Claim

@[expose] public section

set_option maxRecDepth 16384

noncomputable section

namespace Cert.QuantOReferenceIdeal.Body

open Cert.QuantOReferenceIdeal Cert.QuantOReferenceIdeal.Gen
open Idealize.ShloMosaic Idealize.ShloMosaic.TcCoe Idealize.SL.Sem Idealize.ShloMosaic.StableHlo

section
variable (a0 : FVec Ideal S6x40x128x4096 .f32) (a1 s : FVec Ideal S40 .f32)

theorem scales_eq : select (cmpf .oeq a1 (broadcastInDim S40 ![] bcast_S_S40 (constant S_ .f32 0x00000000#32)))
    (broadcastInDim S40 ![] bcast_S_S40 (id (constant S_ .f32 0x3F800000#32)))
    (mulf a1 (broadcastInDim S40 ![] bcast_S_S40 (constant S_ .f32 0x3B124925#32))) = Codes.scales 0x3B124925#32 a1 := by
  rw [id]
  funext i
  idx_vars i
  pointwise
  rfl
theorem codes_eq : (Host.convertf .fp8e4m3 (minimumf (broadcastInDim S6x40x4096x128 ![] bcast_S_S6x40x4096x128 (id (constant S_ .f32 0x43E00000#32)))
    (maximumf (broadcastInDim S6x40x4096x128 ![] bcast_S_S6x40x4096x128 (id (constant S_ .f32 0xC3E00000#32)))
      (Host.divf (transpose S6x40x4096x128 [0, 1, 3, 2] a0 transposes_S6x40x128x4096_S6x40x4096x128_0_1_3_2)
        (broadcastInDim S6x40x4096x128 ![0, 1, 2, 3] bcast_S1x40x1x1_S6x40x4096x128_0_1_2_3 (broadcastInDim S1x40x1x1 ![1] bcast_S40_S1x40x1x1_1 s)))))
    : FVec Ideal S6x40x4096x128 .fp8e4m3) = Codes.ofO a0 s := by
  rw [id, id]
  funext i
  idx_vars i
  pointwise
  rfl

end

variable (m : (ℓ : Loc nD τ sig) → Buf (Elt Ideal) ℓ) (ρ : Dev nD → PrngReg) (c : Dev nD)

/-- The output -/
def o : FVec Ideal S6x40x128x4096 .f32 := m ((c : Thread nD τ).loc main_arg0)
/-- and its heads' greatest magnitudes, as the call is given them. -/
def amax : FVec Ideal S40 .f32 := m ((c : Thread nD τ).loc main_arg1)
/-- The heads' scales. -/
def scales : FVec Ideal S40 .f32 := Codes.scales 0x3B124925#32 (amax m c)

/-- The run: the codes, the scales, and the arguments as they were. -/
theorem run : θ_run defs (onTc (τ := τ) (main (F := Ideal))) ⟨m, fun _ => 0, ρ⟩ fun r => ∀ c : Dev nD,
    r.2.mem ((c : Thread nD τ).loc main_v10) = Codes.ofO (o m c) (scales m c)
      ∧ r.2.mem ((c : Thread nD τ).loc main_v4) = scales m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((codes_eq (o m c) _).trans (congrArg (Codes.ofO (o m c)) (scales_eq (amax m c)))),
      (h c).2.1.trans (scales_eq (amax m c)), (h c).2.2⟩) (Value.run m ρ)

end Cert.QuantOReferenceIdeal.Body

end
-- ==== Proof.QuantDoVal.lean ====
/-
  The incoming gradient's quantiser: the codes and scales its run leaves, as functions of the gradient and its heads' maxima.
-/
module

public import proofs.«01_k».proof.Proof.Gen.QuantDoIdeal.Value
public import proofs.«01_k».proof.Proof.Codes
public import Idealize.ShloMosaic.Lib.Claim
public import Idealize.ShloMosaic.Lib.Pipeline.ValueKit
public import Idealize.ShloMosaic.Lib.Pipeline.Covers

@[expose] public section

set_option maxRecDepth 16384

noncomputable section

namespace Cert.QuantDoIdeal.Body

open Cert.QuantDoIdeal Cert.QuantDoIdeal.Gen
open Idealize.ShloMosaic Idealize.ShloMosaic.TcCoe

variable (m : (ℓ : Loc nD τ sig) → Buf (Elt Ideal) ℓ) (ρ : Dev nD → PrngReg) (c : Dev nD)

/-- The incoming gradient -/
def d : FVec Ideal S6x4096x40x128 .bf16 := m ((c : Thread nD τ).loc main_arg0)
/-- and its heads' greatest magnitudes, as the call is given them. -/
def amax : FVec Ideal S40 .f32 := m ((c : Thread nD τ).loc main_arg1)
/-- The heads' scales. -/
def scales : FVec Ideal S40 .f32 := Codes.scales 0x37924925#32 (amax m c)

/-! ## The operands, as the call finds them -/

theorem scales_eq : select (cmpf .oeq (amax m c) (broadcastInDim S40 ![] bcast_S_S40 (constant S_ .f32 0x00000000#32)))
    (broadcastInDim S40 ![] bcast_S_S40 (constant S_ .f32 0x3F800000#32))
    (mulf (amax m c) (broadcastInDim S40 ![] bcast_S_S40 (constant S_ .f32 0x37924925#32))) = scales m c := by
  funext i
  idx_vars i
  pointwise
  rfl
theorem V_v4 : V m c main_v4 = scales m c := by
  rw [← scales_eq]
  simp only [V, hostOps0, hostOps0_1, hostOps0_2, List.flatten_cons, List.flatten_nil, List.append_nil, List.cons_append, List.nil_append]
  simp only [StableHlo.after_cons, StableHlo.after_nil]
  after_results_simp
  rfl
theorem V_v5 (h : Fin 40) : V m c main_v5 (ix3 0 h 0) = scales m c (ix1 h) := by
  have e : V m c main_v5 = shapeCast S1x40x1 (scales m c) shapeCasts_S40_S1x40x1 := by
    rw [← scales_eq]
    simp only [V, hostOps0, hostOps0_1, hostOps0_2, List.flatten_cons, List.flatten_nil, List.append_nil, List.cons_append, List.nil_append]
    simp only [StableHlo.after_cons, StableHlo.after_nil]
    after_results_simp
    rfl
  rw [e]
  pointwise

/-! ## The blocks of a grid point -/

section
variable (t : Fin cfg0.N)

theorem lt_N : t.val < 96 := t.isLt
/-- The batch of a grid point -/
def bO : Fin 6 := ⟨t.val / 16, by have := lt_N t; omega⟩
/-- and a position of its block. -/
def pos (x : Fin 256) : Fin 4096 := ⟨t.val % 16 * 256 + x.val, by omega⟩

theorem word0 : (BitVec.ofNat 32 (grid0.coords t 0).val).toNat = (bO t).val := by
  rw [Pipeline.Grid.coords_val t 0 (S := 16) (B := 6) (by decide) rfl, BitVec.toNat_ofNat, bO]; have := lt_N t; dsimp only; omega
theorem word1 : (BitVec.ofNat 32 (grid0.coords t 1).val).toNat = t.val % 16 := by
  rw [Pipeline.Grid.coords_val t 1 (S := 1) (B := 16) (by decide) rfl, BitVec.toNat_ofNat]; omega

theorem idx_0 : win0_0.index t = ![(bO t).val, t.val % 16, 0, 0] := by
  rw [← word0, ← word1]; rfl
theorem idx_1 : win0_1.index t = ![0, 0, 0] := rfl
theorem idx_2 : win0_2.index t = ![(bO t).val, t.val % 16, 0, 0] := by
  rw [← word0, ← word1]; rfl

theorem blk_0 (x : Fin 256) (h : Fin 40) (y : Fin 128) : iblk m c 0 t (ix4 0 x h y) = d m c (ix4 (bO t) (pos t x) h y) := by
  show _ = m ((c : Thread nD τ).loc main_arg0) (ix4 (bO t) (pos t x) h y)
  rw [← V_main_arg0 m c]
  blk_ext [iblk, V, idx_0 t]
  rfl
theorem blk_1 (h : Fin 40) : iblk m c 1 t (ix3 0 h 0) = scales m c (ix1 h) := by
  rw [← V_v5]
  blk_ext [iblk, V, idx_1 t]

theorem emb_2 (G : S6x4096x40x128.Idx → EReal) (x : Fin 256) (h : Fin 40) (y : Fin 128) :
    G ((win0_2.blk t).view.emb (ix4 0 x h y)) = G (ix4 (bO t) (pos t x) h y) := by
  blk_ext [idx_2 t]
  rfl

/-- What a point writes back. -/
theorem after_2 (x : Fin 256) (h : Fin 40) (y : Fin 128) :
    (dats m 0 c).after 2 t (ix4 0 x h y) = Codes.ofDo (d m c) (scales m c) (ix4 (bO t) (pos t x) h y) := by
  rw [after0_2, out0_2, Value.canon2_eq, View.ld_unit_lit _ _ (by decide), View.ld_unit_lit _ _ (by decide)]
  refine (congrArg₂ (Codes.code 0xC7600000#32 0x47600000#32) (?_ : iblk m c 0 t (Value.ix2_0 (ix4 0 x h y)) = _)
    (?_ : iblk m c 1 t (Value.ix2_1 (ix4 0 x h y)) = _)).trans (b := Codes.code _ _ (d m c (ix4 (bO t) (pos t x) h y)) (scales m c (ix1 h))) rfl
  · rw [← blk_0]; exact congrArg _ (funext fun a => match a with | 0 => rfl | 1 => rfl | 2 => rfl | 3 => rfl)
  · rw [← blk_1 m c t]; exact congrArg _ (funext fun a => match a with | 0 => rfl | 1 => rfl | 2 => rfl)

end

theorem cov_2 : (cfg0.win 2).Covers :=
  Pipeline.Window.covers_of_indexMap_surj (cfg0.win 2) rfl (by decide) fun β => by
    have h0 : (β 0).val < 6 := (β 0).isLt
    have h1 : (β 1).val < 16 := (β 1).isLt
    refine ⟨fun | 0 => ⟨(β 0).val, h0⟩ | 1 => ⟨(β 1).val, h1⟩, fun a => ?_⟩
    match a with
    | 0 => show (β 0).val % 2 ^ 32 = (β 0).val; omega
    | 1 => show (β 1).val % 2 ^ 32 = (β 1).val; omega
    | 2 => exact (Nat.lt_one_iff.mp (show (β 2).val < 1 from (β 2).isLt)).symm
    | 3 => exact (Nat.lt_one_iff.mp (show (β 3).val < 1 from (β 3).isLt)).symm

theorem arr_2 : (dats m 0 c).arrAt 2 cfg0.N = Codes.ofDo (d m c) (scales m c) := by
  refine (dats m 0 c).arrAt_eq_of_covers 2 (Codes.ofDo (d m c) (scales m c)) cov_2 fun t hf y => ?_
  idx_vars y
  obtain rfl : y0 = 0 := Subsingleton.elim _ _
  blk_simp [idx_2 t]
  rw [emb_2 t (Codes.ofDo (d m c) (scales m c)) y1 y2 y3]
  exact after_2 m c t y1 y2 y3

/-- The run: the codes, the scales, and the arguments as they were. -/
theorem run : θ_run defs (onTc (τ := τ) (main (F := Ideal))) ⟨m, fun _ => 0, ρ⟩ fun r => ∀ c : Dev nD,
    r.2.mem ((c : Thread nD τ).loc main_v6) = Codes.ofDo (d m c) (scales m c)
      ∧ r.2.mem ((c : Thread nD τ).loc main_v4) = scales m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(Value.post2 m r h c).trans (arr_2 m c),
      ((h c).2 main_v4 (Pipeline.mem_restRefs_of main_v4 (by decide) (by decide))).trans (V_v4 m c),
      Value.kept_main_arg0 m r h c, Value.kept_main_arg1 m r h c⟩) (run_main m ρ)

end Cert.QuantDoIdeal.Body

end
-- ==== Proof.QuantDoRef.lean ====
/-
  The incoming gradient's quantiser: the codes and scales its reference's run leaves.
-/
module

public import proofs.«01_k».proof.Proof.Gen.QuantDoReferenceIdeal.Value
public import proofs.«01_k».proof.Proof.Codes
public import Idealize.ShloMosaic.Lib.Claim
public import Idealize.ShloMosaic.Lib.Pipeline.ValueKit
public import Idealize.ShloMosaic.Lib.Pipeline.Covers

@[expose] public section

set_option maxRecDepth 16384

noncomputable section

namespace Cert.QuantDoReferenceIdeal.Body

open Cert.QuantDoReferenceIdeal Cert.QuantDoReferenceIdeal.Gen
open Idealize.ShloMosaic Idealize.ShloMosaic.TcCoe

variable (m : (ℓ : Loc nD τ sig) → Buf (Elt Ideal) ℓ) (ρ : Dev nD → PrngReg) (c : Dev nD)

/-- The incoming gradient -/
def d : FVec Ideal S6x4096x40x128 .bf16 := m ((c : Thread nD τ).loc main_arg0)
/-- and its heads' greatest magnitudes, as the call is given them. -/
def amax : FVec Ideal S40 .f32 := m ((c : Thread nD τ).loc main_arg1)
/-- The heads' scales. -/
def scales : FVec Ideal S40 .f32 := Codes.scales 0x37924925#32 (amax m c)

/-! ## The operands, as the call finds them -/

theorem scales_eq : select (cmpf .oeq (amax m c) (broadcastInDim S40 ![] bcast_S_S40 (constant S_ .f32 0x00000000#32)))
    (broadcastInDim S40 ![] bcast_S_S40 (constant S_ .f32 0x3F800000#32))
    (mulf (amax m c) (broadcastInDim S40 ![] bcast_S_S40 (constant S_ .f32 0x37924925#32))) = scales m c := by
  funext i
  idx_vars i
  pointwise
  rfl
theorem V_v4 : V m c main_v4 = scales m c := by
  rw [← scales_eq]
  simp only [V, hostOps0, hostOps0_1, hostOps0_2, List.flatten_cons, List.flatten_nil, List.append_nil, List.cons_append, List.nil_append]
  simp only [StableHlo.after_cons, StableHlo.after_nil]
  after_results_simp
  rfl
theorem V_v5 (h : Fin 40) : V m c main_v5 (ix4 0 0 h 0) = scales m c (ix1 h) := by
  have e : V m c main_v5 = broadcastInDim S1x1x40x1 ![2] bcast_S40_S1x1x40x1_2 (scales m c) := by
    rw [← scales_eq]
    simp only [V, hostOps0, hostOps0_1, hostOps0_2, List.flatten_cons, List.flatten_nil, List.append_nil, List.cons_append, List.nil_append]
    simp only [StableHlo.after_cons, StableHlo.after_nil]
    after_results_simp
    rfl
  rw [e]
  pointwise

/-! ## The one block -/

section
variable (t : Fin cfg0.N)

theorem idx_0 : win0_0.index t = ![0, 0, 0, 0] :=
  funext fun a => match a with | 0 => rfl | 1 => rfl | 2 => rfl | 3 => rfl
theorem idx_1 : win0_1.index t = ![0, 0, 0, 0] :=
  funext fun a => match a with | 0 => rfl | 1 => rfl | 2 => rfl | 3 => rfl
theorem idx_2 : win0_2.index t = ![0, 0, 0, 0] :=
  funext fun a => match a with | 0 => rfl | 1 => rfl | 2 => rfl | 3 => rfl

theorem blk_0 (b : Fin 6) (i : Fin 4096) (h : Fin 40) (y : Fin 128) : iblk m c 0 t (ix4 b i h y) = d m c (ix4 b i h y) := by
  show _ = m ((c : Thread nD τ).loc main_arg0) (ix4 b i h y)
  rw [← V_main_arg0 m c]
  blk_ext [iblk, V, idx_0 t]
theorem blk_1 (h : Fin 40) : iblk m c 1 t (ix4 0 0 h 0) = scales m c (ix1 h) := by
  rw [← V_v5]
  blk_ext [iblk, V, idx_1 t]

theorem emb_2 (G : S6x4096x40x128.Idx → EReal) (b : Fin 6) (i : Fin 4096) (h : Fin 40) (y : Fin 128) :
    G ((win0_2.blk t).view.emb (ix4 b i h y)) = G (ix4 b i h y) := by
  blk_ext [idx_2 t]

/-- What it holds after. -/
theorem after_2 (b : Fin 6) (i : Fin 4096) (h : Fin 40) (y : Fin 128) :
    (dats m 0 c).after 2 t (ix4 b i h y) = Codes.ofDo (d m c) (scales m c) (ix4 b i h y) := by
  rw [after0_2, out0_2, Value.canon2_eq, View.ld_unit_lit _ _ (by decide), View.ld_unit_lit _ _ (by decide)]
  refine (congrArg₂ (Codes.code 0xC7600000#32 0x47600000#32) (?_ : iblk m c 0 t (Value.ix2_0 (ix4 b i h y)) = _)
    (?_ : iblk m c 1 t (Value.ix2_1 (ix4 b i h y)) = _)).trans (b := Codes.code _ _ (d m c (ix4 b i h y)) (scales m c (ix1 h))) rfl
  · rw [← blk_0 m c t]; exact congrArg _ (funext fun a => match a with | 0 => rfl | 1 => rfl | 2 => rfl | 3 => rfl)
  · rw [← blk_1 m c t]; exact congrArg _ (funext fun a => match a with | 0 => rfl | 1 => rfl | 2 => rfl | 3 => rfl)

end

theorem cov_2 : (cfg0.win 2).Covers :=
  Pipeline.Window.covers_of_indexMap_surj (cfg0.win 2) rfl (by decide) fun β => by
    refine ⟨(fun a => nomatch a), fun a => ?_⟩
    match a with
    | 0 => exact (Nat.lt_one_iff.mp (show (β 0).val < 1 from (β 0).isLt)).symm
    | 1 => exact (Nat.lt_one_iff.mp (show (β 1).val < 1 from (β 1).isLt)).symm
    | 2 => exact (Nat.lt_one_iff.mp (show (β 2).val < 1 from (β 2).isLt)).symm
    | 3 => exact (Nat.lt_one_iff.mp (show (β 3).val < 1 from (β 3).isLt)).symm

theorem arr_2 : (dats m 0 c).arrAt 2 cfg0.N = Codes.ofDo (d m c) (scales m c) := by
  refine (dats m 0 c).arrAt_eq_of_covers 2 (Codes.ofDo (d m c) (scales m c)) cov_2 fun t hf y => ?_
  idx_vars y
  blk_simp [idx_2 t]
  rw [emb_2 t (Codes.ofDo (d m c) (scales m c)) y0 y1 y2 y3]
  exact after_2 m c t y0 y1 y2 y3

/-- The run: the codes, the scales, and the arguments as they were. -/
theorem run : θ_run defs (onTc (τ := τ) (main (F := Ideal))) ⟨m, fun _ => 0, ρ⟩ fun r => ∀ c : Dev nD,
    r.2.mem ((c : Thread nD τ).loc main_v6) = Codes.ofDo (d m c) (scales m c)
      ∧ r.2.mem ((c : Thread nD τ).loc main_v4) = scales m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(Value.post2 m r h c).trans (arr_2 m c),
      ((h c).2 main_v4 (Pipeline.mem_restRefs_of main_v4 (by decide) (by decide))).trans (V_v4 m c),
      Value.kept_main_arg0 m r h c, Value.kept_main_arg1 m r h c⟩) (run_main m ρ)

end Cert.QuantDoReferenceIdeal.Body

end
-- ==== Proof.lean ====
/-
  The certificate: the frames of the programs, the named constant, and the results' equality for each of the four calls.
-/
module

public import proofs.«01_k».proof.Defs
public import proofs.«01_k».proof.Proof.KiRun
public import proofs.«01_k».proof.Proof.KnRun
public import proofs.«01_k».proof.Proof.Pre
public import proofs.«01_k».proof.Proof.KiOut
public import proofs.«01_k».proof.Proof.RefRun
public import proofs.«01_k».proof.Proof.Gen.Prep.Frame
public import proofs.«01_k».proof.Proof.PrepVal
public import proofs.«01_k».proof.Proof.PrepRef
public import proofs.«01_k».proof.Proof.Gen.QuantO.Frame
public import proofs.«01_k».proof.Proof.QuantOVal
public import proofs.«01_k».proof.Proof.QuantORef
public import proofs.«01_k».proof.Proof.Gen.QuantDo.Frame
public import proofs.«01_k».proof.Proof.QuantDoVal
public import proofs.«01_k».proof.Proof.QuantDoRef
public import Idealize.ShloMosaic.Lib.Claim
public import Idealize.ShloMosaic.Lib.Quiescent

@[expose] public section

noncomputable section

namespace Cert.Proof

open Idealize.ShloMosaic Idealize.SL.Sem Attn

/-- The kernel runs to the end, leaves its arguments unchanged and its semaphores at zero. -/
theorem frame_p : Cert.quiescent_Kernel := fun m ρ _ =>
  θ_run_and (Cert.Kernel.Gen.frame_of m ρ (Cert.Kernel.Body.dats m) (fun _ _ => rfl)
      ((θ_run Cert.Kernel.defs _ _).mono (fun _ h => h.1) (Cert.Kernel.Body.run m ρ)))
    ((θ_run Cert.Kernel.defs _ _).mono (fun _ h => h.2) (Cert.Kernel.Body.run m ρ))

/-- So does its idealization, -/
theorem frame_pi : Cert.quiescent_KernelIdeal := fun m ρ _ =>
  θ_run_and (Cert.KernelIdeal.Gen.frame_of m ρ (Cert.KernelIdeal.Body.dats m) (fun _ _ => rfl)
      ((θ_run Cert.KernelIdeal.defs _ _).mono (fun _ h => h.1) (Cert.KernelIdeal.Body.run m ρ)))
    ((θ_run Cert.KernelIdeal.defs _ _).mono (fun _ h => h.2) (Cert.KernelIdeal.Body.run m ρ))

/-- and the reference. -/
theorem frame_ri : Cert.quiescent_ReferenceIdeal := fun m ρ _ =>
  (θ_run Cert.ReferenceIdeal.defs _ _).mono (fun r h => ⟨fun c => (h c).2.2.2.2.2.2.2.2.2, sem_eq_zero_of_no_sems (by decide) r.2⟩)
    (Cert.ReferenceIdeal.Value.run (F := Ideal) m ρ)

/-- The named constant is the real it names. -/
theorem preserves : Cert.preserves_Kernel_KernelIdeal :=
  IdealRules.named_const.statement Cert.KernelIdeal.κ "scale_log2e" .f32 0x3E0293EE#32 _ rfl

/-- On finite queries, keys, cosines and sines the kernel and the reference end with the same nine results: those of the attention
    gradients on the extended reals. -/
theorem algebraic : Cert.algebraic_KernelIdeal_ReferenceIdeal_pre_finite := fun m ρ m' ρ' hpre hargs => by
  have hr : ∀ c b g r i j, IsR (raw ((Cert.KernelIdeal.Body.args m c).Q b g r) ((Cert.KernelIdeal.Body.args m c).K b g) i j) := fun c => by
    obtain ⟨h0, h1, h3, h4⟩ := finite_of _ _ _ _ _ _ (hpre c)
    exact Args.real _ h0 h1 h3 h4
  have ha : ∀ c, Cert.ReferenceIdeal.Value.args m' c = Cert.KernelIdeal.Body.args m c := fun c => by
    obtain ⟨h0, h1, h2, h3, h4, h5⟩ := hargs c
    rw [Cert.ReferenceIdeal.Value.args, Cert.KernelIdeal.Body.args, h0, h1, h2, h3, h4, h5]
  refine ⟨fun c => (Cert.KernelIdeal.Body.args m c).rowQ, fun c => (Cert.KernelIdeal.Body.args m c).rowD,
    fun c => (Cert.KernelIdeal.Body.args m c).rowSc, fun c => (Cert.KernelIdeal.Body.args m c).rowO,
    fun c => (Cert.KernelIdeal.Body.args m c).rowDs, fun c => (Cert.KernelIdeal.Body.args m c).rowDq,
    fun c => (Cert.KernelIdeal.Body.args m c).outT, fun c => (Cert.KernelIdeal.Body.args m c).rowDk,
    fun c => (Cert.KernelIdeal.Body.args m c).rowDv, ?_, ?_⟩
  · refine (θ_run Cert.KernelIdeal.defs _ _).mono (fun r h c => ?_) (θ_run_and (Cert.KernelIdeal.Body.run_args m ρ hr) (frame_pi m ρ trivial))
    obtain ⟨h0, h1, h2, h3, h4, h5, h6, h7, h8⟩ := h.1 c
    exact ⟨h0, h1, h2, h3, h4, h5, h6, h7, h8, h.2.1 c⟩
  · refine (θ_run Cert.ReferenceIdeal.defs _ _).mono (fun r h c => ?_) (Cert.ReferenceIdeal.Value.run_args m' ρ')
    have := h c
    rw [ha c] at this
    exact this

/-! ## The preparation of the keys -/

theorem frame_prep_p : Cert.quiescent_Prep := fun m ρ _ => Cert.Prep.Gen.frame m ρ
theorem frame_prep_pi : Cert.quiescent_PrepIdeal := fun m ρ _ => Cert.PrepIdeal.Gen.frame m ρ
theorem frame_prep_ri : Cert.quiescent_PrepReferenceIdeal := fun m ρ _ =>
  (θ_run Cert.PrepReferenceIdeal.defs _ _).mono (fun r h => ⟨fun c => (h c).2.2.2.2, sem_eq_zero_of_no_sems (by decide) r.2⟩)
    (Cert.PrepReferenceIdeal.Value.run (F := Ideal) m ρ)

/-- The rotated keys both ways round, and the keys' and values' greatest magnitudes. -/
theorem algebraic_prep : Cert.algebraic_PrepIdeal_PrepReferenceIdeal := fun m ρ m' ρ' _ hargs => by
  have hk : ∀ c, Cert.PrepReferenceIdeal.Body.k m' c = Cert.PrepIdeal.Body.k m c := fun c => (hargs c).1
  have hv : ∀ c, Cert.PrepReferenceIdeal.Body.v m' c = Cert.PrepIdeal.Body.v m c := fun c => (hargs c).2.1
  have hc : ∀ c, Cert.PrepReferenceIdeal.Body.cs m' c = Cert.PrepIdeal.Body.cs m c := fun c => (hargs c).2.2.1
  have hs : ∀ c, Cert.PrepReferenceIdeal.Body.sn m' c = Cert.PrepIdeal.Body.sn m c := fun c => (hargs c).2.2.2
  refine ⟨_, _, _, _, Cert.PrepIdeal.Body.run m ρ, (θ_run Cert.PrepReferenceIdeal.defs _ _).mono (fun r h c => ?_) (Cert.PrepReferenceIdeal.Body.run m' ρ')⟩
  have := h c
  rw [hk c, hv c, hc c, hs c] at this
  exact this

/-! ## The output's quantiser -/

theorem frame_quant_o_p : Cert.quiescent_QuantO := fun m ρ _ => Cert.QuantO.Gen.frame m ρ
theorem frame_quant_o_pi : Cert.quiescent_QuantOIdeal := fun m ρ _ => Cert.QuantOIdeal.Gen.frame m ρ
theorem frame_quant_o_ri : Cert.quiescent_QuantOReferenceIdeal := fun m ρ _ =>
  (θ_run Cert.QuantOReferenceIdeal.defs _ _).mono (fun r h => ⟨fun c => (h c).2.2, sem_eq_zero_of_no_sems (by decide) r.2⟩)
    (Cert.QuantOReferenceIdeal.Value.run (F := Ideal) m ρ)

/-- The output's codes and scales. -/
theorem algebraic_quant_o : Cert.algebraic_QuantOIdeal_QuantOReferenceIdeal := fun m ρ m' ρ' _ hargs => by
  have hx : ∀ c, Cert.QuantOReferenceIdeal.Body.o m' c = Cert.QuantOIdeal.Body.o m c := fun c => (hargs c).1
  have hs : ∀ c, Cert.QuantOReferenceIdeal.Body.scales m' c = Cert.QuantOIdeal.Body.scales m c := fun c => congrArg (Codes.scales _) (hargs c).2
  refine ⟨_, _, Cert.QuantOIdeal.Body.run m ρ, (θ_run Cert.QuantOReferenceIdeal.defs _ _).mono (fun r h c => ?_) (Cert.QuantOReferenceIdeal.Body.run m' ρ')⟩
  have := h c
  rw [hx c, hs c] at this
  exact this

/-! ## The incoming gradient's quantiser -/

theorem frame_quant_do_p : Cert.quiescent_QuantDo := fun m ρ _ => Cert.QuantDo.Gen.frame m ρ
theorem frame_quant_do_pi : Cert.quiescent_QuantDoIdeal := fun m ρ _ => Cert.QuantDoIdeal.Gen.frame m ρ
theorem frame_quant_do_ri : Cert.quiescent_QuantDoReferenceIdeal := fun m ρ _ => Cert.QuantDoReferenceIdeal.Gen.frame m ρ

/-- The incoming gradient's codes and scales. -/
theorem algebraic_quant_do : Cert.algebraic_QuantDoIdeal_QuantDoReferenceIdeal := fun m ρ m' ρ' _ hargs => by
  have hx : ∀ c, Cert.QuantDoReferenceIdeal.Body.d m' c = Cert.QuantDoIdeal.Body.d m c := fun c => (hargs c).1
  have hs : ∀ c, Cert.QuantDoReferenceIdeal.Body.scales m' c = Cert.QuantDoIdeal.Body.scales m c := fun c => congrArg (Codes.scales _) (hargs c).2
  refine ⟨_, _, Cert.QuantDoIdeal.Body.run m ρ, (θ_run Cert.QuantDoReferenceIdeal.defs _ _).mono (fun r h c => ?_) (Cert.QuantDoReferenceIdeal.Body.run m' ρ')⟩
  have := h c
  rw [hx c, hs c] at this
  exact this

/-! ## All of it -/

theorem claim : Cert.Claim :=
  ⟨Cert.Kernel.Gen.facts, Cert.KernelIdeal.Gen.facts, Cert.ReferenceIdeal.Gen.facts,
    Cert.Prep.Gen.facts, Cert.PrepIdeal.Gen.facts, Cert.PrepReferenceIdeal.Gen.facts,
    Cert.QuantO.Gen.facts, Cert.QuantOIdeal.Gen.facts, Cert.QuantOReferenceIdeal.Gen.facts,
    Cert.QuantDo.Gen.facts, Cert.QuantDoIdeal.Gen.facts, Cert.QuantDoReferenceIdeal.Gen.facts, Cert.Pre_finite.Gen.facts,
    frame_p, frame_pi, fun m ρ _ => frame_pi m ρ trivial, frame_ri, fun m ρ _ => frame_ri m ρ trivial,
    frame_prep_p, frame_prep_pi, frame_prep_ri, frame_quant_o_p, frame_quant_o_pi, frame_quant_o_ri,
    frame_quant_do_p, frame_quant_do_pi, frame_quant_do_ri,
    preserves, algebraic, trivial, algebraic_prep, trivial, algebraic_quant_o, trivial, algebraic_quant_do⟩

end Cert.Proof

end
